-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v85_0)) (v1 : (c : Dev Cert.KernelIdeal.nD) → Buf (Elt Ideal) ((c.tc : Thread Cert.KernelIdeal.nD Cert.KernelIdeal.τ).loc Cert.KernelIdeal.main_v85_1)) (v2 : (c : Dev Cert.KernelIdeal.nD) → Buf (Elt Ideal) ((c.tc : Thread Cert.KernelIdeal.nD Cert.KernelIdeal.τ).loc Cert.KernelIdeal.main_v85_2)) (v3 : (c : Dev Cert.KernelIdeal.nD) → Buf (Elt Ideal) ((c.tc : Thread Cert.KernelIdeal.nD Cert.KernelIdeal.τ).loc Cert.KernelIdeal.main_v85_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85_0) = v0 c
          ∧ r.2.mem ((c.tc : Thread Cert.KernelIdeal.nD Cert.KernelIdeal.τ).loc Cert.KernelIdeal.main_v85_1) = v1 c
          ∧ r.2.mem ((c.tc : Thread Cert.KernelIdeal.nD Cert.KernelIdeal.τ).loc Cert.KernelIdeal.main_v85_2) = v2 c
          ∧ r.2.mem ((c.tc : Thread Cert.KernelIdeal.nD Cert.KernelIdeal.τ).loc Cert.KernelIdeal.main_v85_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_v270) = v1 c
          ∧ r.2.mem ((c.tc : Thread Cert.ReferenceIdeal.nD Cert.ReferenceIdeal.τ).loc Cert.ReferenceIdeal.main_v271) = v2 c
          ∧ r.2.mem ((c.tc : Thread Cert.ReferenceIdeal.nD Cert.ReferenceIdeal.τ).loc Cert.ReferenceIdeal.main_v268) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v12) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_v12) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4352x3072 : Shape := ⟨2, ![4352, 3072]⟩
abbrev S2x4 : Shape := ⟨2, ![2, 4]⟩
abbrev S4352x512 : Shape := ⟨2, ![4352, 512]⟩
abbrev S_ : Shape := ⟨0, ![]⟩

class Facts : Prop where
  bcast_S_S4352x3072 : S_.BroadcastsInDim S4352x3072 (![] : Fin 0 → Fin S4352x3072.rank)
  bcast_S_S2x4 : S_.BroadcastsInDim S2x4 (![] : Fin 0 → Fin S2x4.rank)
  bcast_S_S4352x512 : S_.BroadcastsInDim S4352x512 (![] : Fin 0 → Fin S4352x512.rank)

variable [Facts]

def fn {F : FTy → Type} [FloatOps F] (main_arg0 : FVec F S4352x3072 .f32) (main_arg1 : FVec F S2x4 .f32) (main_arg2 : FVec F S4352x512 .f32) : IVec S4352x3072 1 × IVec S2x4 1 × IVec S4352x512 1 :=
  let main_v0 : FVec F S4352x3072 .f32 := Host.absf main_arg0
  let main_cst : FVec F S_ .f32 := constant S_ .f32 0x7F800000#32
  let main_v1 : FVec F S4352x3072 .f32 := broadcastInDim S4352x3072 ![] bcast_S_S4352x3072 main_cst
  let main_v2 : IVec S4352x3072 1 := cmpf .olt main_v0 main_v1
  let main_v3 : FVec F S2x4 .f32 := Host.absf main_arg1
  let main_cst_0 : FVec F S_ .f32 := constant S_ .f32 0x7F800000#32
  let main_v4 : FVec F S2x4 .f32 := broadcastInDim S2x4 ![] bcast_S_S2x4 main_cst_0
  let main_v5 : IVec S2x4 1 := cmpf .olt main_v3 main_v4
  let main_v6 : FVec F S4352x512 .f32 := Host.absf main_arg2
  let main_cst_1 : FVec F S_ .f32 := constant S_ .f32 0x7F800000#32
  let main_v7 : FVec F S4352x512 .f32 := broadcastInDim S4352x512 ![] bcast_S_S4352x512 main_cst_1
  let main_v8 : IVec S4352x512 1 := cmpf .olt main_v6 main_v7
  (main_v2, main_v5, main_v8)
-- ==== Pre_finite5.lean ====
abbrev S4352x1024 : Shape := ⟨2, ![4352, 1024]⟩
abbrev S3072x1024 : Shape := ⟨2, ![3072, 1024]⟩
abbrev S4352x3072 : Shape := ⟨2, ![4352, 3072]⟩
abbrev S_ : Shape := ⟨0, ![]⟩

class Facts : Prop where
  bcast_S_S4352x1024 : S_.BroadcastsInDim S4352x1024 (![] : Fin 0 → Fin S4352x1024.rank)
  bcast_S_S3072x1024 : S_.BroadcastsInDim S3072x1024 (![] : Fin 0 → Fin S3072x1024.rank)
  bcast_S_S4352x3072 : S_.BroadcastsInDim S4352x3072 (![] : Fin 0 → Fin S4352x3072.rank)

variable [Facts]

def fn {F : FTy → Type} [FloatOps F] (main_arg0 : FVec F S4352x1024 .bf16) (main_arg1 : FVec F S3072x1024 .bf16) (main_arg2 : FVec F S4352x3072 .bf16) (main_arg3 : FVec F S4352x3072 .bf16) : IVec S4352x1024 1 × IVec S3072x1024 1 × IVec S4352x3072 1 :=
  let main_v0 : FVec F S4352x1024 .bf16 := Host.absf main_arg0
  let main_cst : FVec F S_ .bf16 := constant S_ .bf16 0x7F80#16
  let main_v1 : FVec F S4352x1024 .bf16 := broadcastInDim S4352x1024 ![] bcast_S_S4352x1024 main_cst
  let main_v2 : IVec S4352x1024 1 := cmpf .olt main_v0 main_v1
  let main_v3 : FVec F S3072x1024 .bf16 := Host.absf main_arg1
  let main_cst_0 : FVec F S_ .bf16 := constant S_ .bf16 0x7F80#16
  let main_v4 : FVec F S3072x1024 .bf16 := broadcastInDim S3072x1024 ![] bcast_S_S3072x1024 main_cst_0
  let main_v5 : IVec S3072x1024 1 := cmpf .olt main_v3 main_v4
  let main_v6 : FVec F S4352x3072 .bf16 := Host.absf main_arg3
  let main_cst_1 : FVec F S_ .bf16 := constant S_ .bf16 0x7F80#16
  let main_v7 : FVec F S4352x3072 .bf16 := broadcastInDim S4352x3072 ![] bcast_S_S4352x3072 main_cst_1
  let main_v8 : IVec S4352x3072 1 := cmpf .olt main_v6 main_v7
  (main_v2, main_v5, main_v8)
-- ==== Kernel.lean ====
abbrev S4352x3072 : Shape := ⟨2, ![4352, 3072]⟩
abbrev S2x4 : Shape := ⟨2, ![2, 4]⟩
abbrev S4352x512 : Shape := ⟨2, ![4352, 512]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S_ : Shape := ⟨0, ![]⟩
abbrev S256 : Shape := ⟨1, ![256]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S24 : Shape := ⟨1, ![24]⟩
abbrev S1x24 : Shape := ⟨2, ![1, 24]⟩
abbrev S4096x24 : Shape := ⟨2, ![4096, 24]⟩
abbrev S4096x64 : Shape := ⟨2, ![4096, 64]⟩
abbrev S256x1 : Shape := ⟨2, ![256, 1]⟩
abbrev S256x16 : Shape := ⟨2, ![256, 16]⟩
abbrev S256x24 : Shape := ⟨2, ![256, 24]⟩
abbrev S256x64 : Shape := ⟨2, ![256, 64]⟩
abbrev S4352x64 : Shape := ⟨2, ![4352, 64]⟩
abbrev S4352x128 : Shape := ⟨2, ![4352, 128]⟩
abbrev S4x8x128 : Shape := ⟨3, ![4, 8, 128]⟩
abbrev S1x8x128 : Shape := ⟨3, ![1, 8, 128]⟩
abbrev S14x128x128 : Shape := ⟨3, ![14, 128, 128]⟩
abbrev S2x34x128x128 : Shape := ⟨4, ![2, 34, 128, 128]⟩
abbrev S2x4352x128 : Shape := ⟨3, ![2, 4352, 128]⟩
abbrev S1x1 : Shape := ⟨2, ![1, 1]⟩
abbrev S128x128 : Shape := ⟨2, ![128, 128]⟩
abbrev S1x128x128 : Shape := ⟨3, ![1, 128, 128]⟩
abbrev S1x1x128x128 : Shape := ⟨4, ![1, 1, 128, 128]⟩
abbrev S1x128 : Shape := ⟨2, ![1, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 106
  | .vmem => 23
  | .smem => 1
  | _ => 0

abbrev bufTy : (tb : Table) → Fin (tcTables nBuf tb) → BufTy
  | .hbm, ⟨0, _⟩ => ⟨S4352x3072, .f32⟩
  | .hbm, ⟨1, _⟩ => ⟨S2x4, .f32⟩
  | .hbm, ⟨2, _⟩ => ⟨S4352x512, .f32⟩
  | .hbm, ⟨3, _⟩ => ⟨S64, .f32⟩
  | .hbm, ⟨4, _⟩ => ⟨S64x1, .f32⟩
  | .hbm, ⟨5, _⟩ => ⟨S64x64, .f32⟩
  | .hbm, ⟨6, _⟩ => ⟨S4096, .f32⟩
  | .hbm, ⟨7, _⟩ => ⟨S64, .f32⟩
  | .hbm, ⟨8, _⟩ => ⟨S1x64, .f32⟩
  | .hbm, ⟨9, _⟩ => ⟨S64x64, .f32⟩
  | .hbm, ⟨10, _⟩ => ⟨S4096, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S4096, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S4096x1, .f32⟩
  | .hbm, ⟨24, _⟩ => ⟨S1x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S24, .f32⟩
  | .hbm, ⟨29, _⟩ => ⟨S24, .f32⟩
  | .hbm, ⟨30, _⟩ => ⟨S_, .f32⟩
  | .hbm, ⟨31, _⟩ => ⟨S24, .f32⟩
  | .hbm, ⟨32, _⟩ => ⟨S24, .f32⟩
  | .hbm, ⟨33, _⟩ => ⟨S_, .f32⟩
  | .hbm, ⟨34, _⟩ => ⟨S24, .f32⟩
  | .hbm, ⟨35, _⟩ => ⟨S24, .f32⟩
  | .hbm, ⟨36, _⟩ => ⟨S4096x1, .f32⟩
  | .hbm, ⟨37, _⟩ => ⟨S1x24, .f32⟩
  | .hbm, ⟨38, _⟩ => ⟨S4096x24, .f32⟩
  | .hbm, ⟨39, _⟩ => ⟨S4096x24, .f32⟩
  | .hbm, ⟨40, _⟩ => ⟨S4096x24, .f32⟩
  | .hbm, ⟨41, _⟩ => ⟨S24, .f32⟩
  | .hbm, ⟨42, _⟩ => ⟨S24, .f32⟩
  | .hbm, ⟨43, _⟩ => ⟨S_, .f32⟩
  | .hbm, ⟨44, _⟩ => ⟨S24, .f32⟩
  | .hbm, ⟨45, _⟩ => ⟨S24, .f32⟩
  | .hbm, ⟨46, _⟩ => ⟨S_, .f32⟩
  | .hbm, ⟨47, _⟩ => ⟨S24, .f32⟩
  | .hbm, ⟨48, _⟩ => ⟨S24, .f32⟩
  | .hbm, ⟨49, _⟩ => ⟨S4096x1, .f32⟩
  | .hbm, ⟨50, _⟩ => ⟨S1x24, .f32⟩
  | .hbm, ⟨51, _⟩ => ⟨S4096x24, .f32⟩
  | .hbm, ⟨52, _⟩ => ⟨S4096x24, .f32⟩
  | .hbm, ⟨53, _⟩ => ⟨S4096x24, .f32⟩
  | .hbm, ⟨54, _⟩ => ⟨S4096x64, .f32⟩
  | .hbm, ⟨55, _⟩ => ⟨S256, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S256x1, .f32⟩
  | .hbm, ⟨65, _⟩ => ⟨S1x16, .f32⟩
  | .hbm, ⟨66, _⟩ => ⟨S256x16, .f32⟩
  | .hbm, ⟨67, _⟩ => ⟨S256x16, .f32⟩
  | .hbm, ⟨68, _⟩ => ⟨S256x16, .f32⟩
  | .hbm, ⟨69, _⟩ => ⟨S24, .f32⟩
  | .hbm, ⟨70, _⟩ => ⟨S24, .f32⟩
  | .hbm, ⟨71, _⟩ => ⟨S_, .f32⟩
  | .hbm, ⟨72, _⟩ => ⟨S24, .f32⟩
  | .hbm, ⟨73, _⟩ => ⟨S24, .f32⟩
  | .hbm, ⟨74, _⟩ => ⟨S_, .f32⟩
  | .hbm, ⟨75, _⟩ => ⟨S24, .f32⟩
  | .hbm, ⟨76, _⟩ => ⟨S24, .f32⟩
  | .hbm, ⟨77, _⟩ => ⟨S256x1, .f32⟩
  | .hbm, ⟨78, _⟩ => ⟨S1x24, .f32⟩
  | .hbm, ⟨79, _⟩ => ⟨S256x24, .f32⟩
  | .hbm, ⟨80, _⟩ => ⟨S256x24, .f32⟩
  | .hbm, ⟨81, _⟩ => ⟨S256x24, .f32⟩
  | .hbm, ⟨82, _⟩ => ⟨S24, .f32⟩
  | .hbm, ⟨83, _⟩ => ⟨S24, .f32⟩
  | .hbm, ⟨84, _⟩ => ⟨S_, .f32⟩
  | .hbm, ⟨85, _⟩ => ⟨S24, .f32⟩
  | .hbm, ⟨86, _⟩ => ⟨S24, .f32⟩
  | .hbm, ⟨87, _⟩ => ⟨S_, .f32⟩
  | .hbm, ⟨88, _⟩ => ⟨S24, .f32⟩
  | .hbm, ⟨89, _⟩ => ⟨S24, .f32⟩
  | .hbm, ⟨90, _⟩ => ⟨S256x1, .f32⟩
  | .hbm, ⟨91, _⟩ => ⟨S1x24, .f32⟩
  | .hbm, ⟨92, _⟩ => ⟨S256x24, .f32⟩
  | .hbm, ⟨93, _⟩ => ⟨S256x24, .f32⟩
  | .hbm, ⟨94, _⟩ => ⟨S256x24, .f32⟩
  | .hbm, ⟨95, _⟩ => ⟨S256x64, .f32⟩
  | .hbm, ⟨96, _⟩ => ⟨S4352x64, .f32⟩
  | .hbm, ⟨97, _⟩ => ⟨S4352x64, .f32⟩
  | .hbm, ⟨98, _⟩ => ⟨S4352x64, .f32⟩
  | .hbm, ⟨99, _⟩ => ⟨S4352x128, .f32⟩
  | .hbm, ⟨100, _⟩ => ⟨S4352x64, .f32⟩
  | .hbm, ⟨101, _⟩ => ⟨S4352x128, .f32⟩
  | .hbm, ⟨102, _⟩ => ⟨S4352x512, .bf16⟩
  | .hbm, ⟨103, _⟩ => ⟨S4352x512, .bf16⟩
  | .hbm, ⟨104, _⟩ => ⟨S4352x512, .bf16⟩
  | .hbm, ⟨105, _⟩ => ⟨S4x8x128, .f32⟩
  | .local _ .vmem, ⟨0, _⟩ => ⟨S4352x128, .f32⟩
  | .local _ .vmem, ⟨1, _⟩ => ⟨S4352x128, .f32⟩
  | .local _ .vmem, ⟨2, _⟩ => ⟨S4352x128, .f32⟩
  | .local _ .vmem, ⟨3, _⟩ => ⟨S4352x128, .f32⟩
  | .local _ .vmem, ⟨4, _⟩ => ⟨S4352x128, .f32⟩
  | .local _ .vmem, ⟨5, _⟩ => ⟨S4352x128, .f32⟩
  | .local _ .vmem, ⟨6, _⟩ => ⟨S4352x128, .f32⟩
  | .local _ .vmem, ⟨7, _⟩ => ⟨S4352x128, .f32⟩
  | .local _ .vmem, ⟨8, _⟩ => ⟨S4352x128, .f32⟩
  | .local _ .vmem, ⟨9, _⟩ => ⟨S4352x128, .f32⟩
  | .local _ .vmem, ⟨10, _⟩ => ⟨S4352x128, .bf16⟩
  | .local _ .vmem, ⟨11, _⟩ => ⟨S4352x128, .bf16⟩
  | .local _ .vmem, ⟨12, _⟩ => ⟨S4352x128, .bf16⟩
  | .local _ .vmem, ⟨13, _⟩ => ⟨S4352x128, .bf16⟩
  | .local _ .vmem, ⟨14, _⟩ => ⟨S4352x128, .bf16⟩
  | .local _ .vmem, ⟨15, _⟩ => ⟨S4352x128, .bf16⟩
  | .local _ .vmem, ⟨16, _⟩ => ⟨S1x8x128, .f32⟩
  | .local _ .vmem, ⟨17, _⟩ => ⟨S1x8x128, .f32⟩
  | .local _ .vmem, ⟨18, _⟩ => ⟨S14x128x128, .f32⟩
  | .local _ .vmem, ⟨19, _⟩ => ⟨S2x34x128x128, .f32⟩
  | .local _ .vmem, ⟨20, _⟩ => ⟨S2x4352x128, .bf16⟩
  | .local _ .vmem, ⟨21, _⟩ => ⟨S2x4352x128, .bf16⟩
  | .local _ .vmem, ⟨22, _⟩ => ⟨S2x4352x128, .bf16⟩
  | .local _ .smem, ⟨0, _⟩ => ⟨S2x4, .f32⟩
  | _, _ => ⟨S4352x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_11 : Ref sig .tc := ⟨.hbm, 84, rfl⟩
abbrev main_v69 : Ref sig .tc := ⟨.hbm, 85, rfl⟩
abbrev main_v70 : Ref sig .tc := ⟨.hbm, 86, rfl⟩
abbrev main_cst_12 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85_0 : Ref sig .tc := ⟨.hbm, 102, rfl⟩
abbrev main_v85_1 : Ref sig .tc := ⟨.hbm, 103, rfl⟩
abbrev main_v85_2 : Ref sig .tc := ⟨.hbm, 104, rfl⟩
abbrev main_v85_3 : Ref sig .tc := ⟨.hbm, 105, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v2 : Index := Scalar.indexCast arg0
  ![1, v2.toNat]
@[reducible] def k0_t1_loop : Scf.Loop 32 :=
  let c0_i32 : BitVec 32 := 0#32
  let c34_i32 : BitVec 32 := 34#32
  let v97 : BitVec 32 := Scalar.addi c0_i32 c34_i32
  let c1_i32 : BitVec 32 := 1#32
  ⟨c0_i32, v97, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c32_i32 : BitVec 32 := 32#32
  let v123 : BitVec 32 := Scalar.addi arg17 c32_i32
  let c34_i32_64 : BitVec 32 := 34#32
  let v124 : BitVec 32 := Scalar.remsi v123 c34_i32_64
  let c128_i32 : BitVec 32 := 128#32
  let v125 : BitVec 32 := Scalar.muli v124 c128_i32
  v125
def k0_off3 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v123 : BitVec 32 := Scalar.addi arg17 c32_i32
  let c34_i32_64 : BitVec 32 := 34#32
  let v124 : BitVec 32 := Scalar.remsi v123 c34_i32_64
  let c128_i32 : BitVec 32 := 128#32
  let v125 : BitVec 32 := Scalar.muli v124 c128_i32
  let v126 : BitVec 32 := v125
  let v127 : Index := Scalar.indexCast v126
  let c0_65 : Index := 0#32
  ![v127.toNat, 0]
def k0_off4 (k0_t1 : Fin k0_t1_loop.trips) : Fin 4 → Nat :=
  let c0_69 : Index := 0#32
  let c0_i32 : BitVec 32 := 0#32
  let c1_i32 : BitVec 32 := 1#32
  let arg17 : BitVec 32 := Scf.iv c0_i32 c1_i32 k0_t1
  let v141 : Index := Scalar.indexCast arg17
  let c0_70 : Index := 0#32
  let c0_71 : Index := 0#32
  ![0, v141.toNat, 0, 0]
def k0_mult2 (k0_t1 : Fin k0_t1_loop.trips) : BitVec 32 :=
  let c33_i32 : BitVec 32 := 33#32
  let c0_i32 : BitVec 32 := 0#32
  let c1_i32 : BitVec 32 := 1#32
  let arg17 : BitVec 32 := Scf.iv c0_i32 c1_i32 k0_t1
  let v155 : BitVec 32 := Scalar.subi c33_i32 arg17
  let c128_i32_79 : BitVec 32 := 128#32
  let v156 : BitVec 32 := Scalar.muli v155 c128_i32_79
  v156
def k0_off5 (k0_t1 : Fin k0_t1_loop.trips) : Fin 2 → Nat :=
  let c33_i32 : BitVec 32 := 33#32
  let c0_i32 : BitVec 32 := 0#32
  let c1_i32 : BitVec 32 := 1#32
  let arg17 : BitVec 32 := Scf.iv c0_i32 c1_i32 k0_t1
  let v155 : BitVec 32 := Scalar.subi c33_i32 arg17
  let c128_i32_79 : BitVec 32 := 128#32
  let v156 : BitVec 32 := Scalar.muli v155 c128_i32_79
  let v157 : BitVec 32 := v156
  let v158 : Index := Scalar.indexCast v157
  let c0_80 : Index := 0#32
  ![v158.toNat, 0]
def k0_off6 (k0_t1 : Fin k0_t1_loop.trips) : Fin 4 → Nat :=
  let c1_85 : Index := 1#32
  let c0_i32 : BitVec 32 := 0#32
  let c1_i32 : BitVec 32 := 1#32
  let arg17 : BitVec 32 := Scf.iv c0_i32 c1_i32 k0_t1
  let v172 : Index := Scalar.indexCast arg17
  let c0_86 : Index := 0#32
  let c0_87 : Index := 0#32
  ![1, v172.toNat, 0, 0]
@[reducible] def k0_t2_loop : Scf.Loop 32 :=
  let c0_i32_46 : BitVec 32 := 0#32
  let c34_i32_47 : BitVec 32 := 34#32
  let v100 : BitVec 32 := Scalar.addi c0_i32_46 c34_i32_47
  let c1_i32_48 : BitVec 32 := 1#32
  ⟨c0_i32_46, v100, c1_i32_48⟩
def k0_mult3 (k0_t2 : Fin k0_t2_loop.trips) : BitVec 32 :=
  let c33_i32 : BitVec 32 := 33#32
  let c0_i32_46 : BitVec 32 := 0#32
  let c1_i32_48 : BitVec 32 := 1#32
  let arg17 : BitVec 32 := Scf.iv c0_i32_46 c1_i32_48 k0_t2
  let v123 : BitVec 32 := Scalar.subi c33_i32 arg17
  let c32_i32 : BitVec 32 := 32#32
  let v124 : BitVec 32 := Scalar.addi v123 c32_i32
  let c34_i32_64 : BitVec 32 := 34#32
  let v125 : BitVec 32 := Scalar.remsi v124 c34_i32_64
  let c128_i32 : BitVec 32 := 128#32
  let v126 : BitVec 32 := Scalar.muli v125 c128_i32
  v126
def k0_off7 (k0_t2 : Fin k0_t2_loop.trips) : Fin 2 → Nat :=
  let c33_i32 : BitVec 32 := 33#32
  let c0_i32_46 : BitVec 32 := 0#32
  let c1_i32_48 : BitVec 32 := 1#32
  let arg17 : BitVec 32 := Scf.iv c0_i32_46 c1_i32_48 k0_t2
  let v123 : BitVec 32 := Scalar.subi c33_i32 arg17
  let c32_i32 : BitVec 32 := 32#32
  let v124 : BitVec 32 := Scalar.addi v123 c32_i32
  let c34_i32_64 : BitVec 32 := 34#32
  let v125 : BitVec 32 := Scalar.remsi v124 c34_i32_64
  let c128_i32 : BitVec 32 := 128#32
  let v126 : BitVec 32 := Scalar.muli v125 c128_i32
  let v127 : BitVec 32 := v126
  let v128 : Index := Scalar.indexCast v127
  let c0_65 : Index := 0#32
  ![v128.toNat, 0]
def k0_off8 (k0_t2 : Fin k0_t2_loop.trips) : Fin 4 → Nat :=
  let c0_73 : Index := 0#32
  let c33_i32 : BitVec 32 := 33#32
  let c0_i32_46 : BitVec 32 := 0#32
  let c1_i32_48 : BitVec 32 := 1#32
  let arg17 : BitVec 32 := Scf.iv c0_i32_46 c1_i32_48 k0_t2
  let v123 : BitVec 32 := Scalar.subi c33_i32 arg17
  let v152 : Index := Scalar.indexCast v123
  let c0_74 : Index := 0#32
  let c0_75 : Index := 0#32
  ![0, v152.toNat, 0, 0]
def k0_off9 (k0_t2 : Fin k0_t2_loop.trips) : Fin 3 → Nat :=
  let c0_111 : Index := 0#32
  let c33_i32 : BitVec 32 := 33#32
  let c0_i32_46 : BitVec 32 := 0#32
  let c1_i32_48 : BitVec 32 := 1#32
  let arg17 : BitVec 32 := Scf.iv c0_i32_46 c1_i32_48 k0_t2
  let v123 : BitVec 32 := Scalar.subi c33_i32 arg17
  let c32_i32 : BitVec 32 := 32#32
  let v124 : BitVec 32 := Scalar.addi v123 c32_i32
  let c34_i32_64 : BitVec 32 := 34#32
  let v125 : BitVec 32 := Scalar.remsi v124 c34_i32_64
  let c128_i32 : BitVec 32 := 128#32
  let v126 : BitVec 32 := Scalar.muli v125 c128_i32
  let v127 : BitVec 32 := v126
  let v220 : Index := Scalar.indexCast v127
  let c0_112 : Index := 0#32
  ![0, v220.toNat, 0]
def k0_mult4 (k0_t2 : Fin k0_t2_loop.trips) : BitVec 32 :=
  let c33_i32_118 : BitVec 32 := 33#32
  let c33_i32 : BitVec 32 := 33#32
  let c0_i32_46 : BitVec 32 := 0#32
  let c1_i32_48 : BitVec 32 := 1#32
  let arg17 : BitVec 32 := Scf.iv c0_i32_46 c1_i32_48 k0_t2
  let v123 : BitVec 32 := Scalar.subi c33_i32 arg17
  let v237 : BitVec 32 := Scalar.subi c33_i32_118 v123
  let c128_i32_119 : BitVec 32 := 128#32
  let v238 : BitVec 32 := Scalar.muli v237 c128_i32_119
  v238
def k0_off10 (k0_t2 : Fin k0_t2_loop.trips) : Fin 2 → Nat :=
  let c33_i32_118 : BitVec 32 := 33#32
  let c33_i32 : BitVec 32 := 33#32
  let c0_i32_46 : BitVec 32 := 0#32
  let c1_i32_48 : BitVec 32 := 1#32
  let arg17 : BitVec 32 := Scf.iv c0_i32_46 c1_i32_48 k0_t2
  let v123 : BitVec 32 := Scalar.subi c33_i32 arg17
  let v237 : BitVec 32 := Scalar.subi c33_i32_118 v123
  let c128_i32_119 : BitVec 32 := 128#32
  let v238 : BitVec 32 := Scalar.muli v237 c128_i32_119
  let v239 : BitVec 32 := v238
  let v240 : Index := Scalar.indexCast v239
  let c0_120 : Index := 0#32
  ![v240.toNat, 0]
def k0_off11 (k0_t2 : Fin k0_t2_loop.trips) : Fin 4 → Nat :=
  let c1_129 : Index := 1#32
  let c33_i32 : BitVec 32 := 33#32
  let c0_i32_46 : BitVec 32 := 0#32
  let c1_i32_48 : BitVec 32 := 1#32
  let arg17 : BitVec 32 := Scf.iv c0_i32_46 c1_i32_48 k0_t2
  let v123 : BitVec 32 := Scalar.subi c33_i32 arg17
  let v264 : Index := Scalar.indexCast v123
  let c0_130 : Index := 0#32
  let c0_131 : Index := 0#32
  ![1, v264.toNat, 0, 0]
def k0_off12 (k0_t2 : Fin k0_t2_loop.trips) : Fin 3 → Nat :=
  let c1_167 : Index := 1#32
  let c33_i32_118 : BitVec 32 := 33#32
  let c33_i32 : BitVec 32 := 33#32
  let c0_i32_46 : BitVec 32 := 0#32
  let c1_i32_48 : BitVec 32 := 1#32
  let arg17 : BitVec 32 := Scf.iv c0_i32_46 c1_i32_48 k0_t2
  let v123 : BitVec 32 := Scalar.subi c33_i32 arg17
  let v237 : BitVec 32 := Scalar.subi c33_i32_118 v123
  let c128_i32_119 : BitVec 32 := 128#32
  let v238 : BitVec 32 := Scalar.muli v237 c128_i32_119
  let v239 : BitVec 32 := v238
  let v332 : Index := Scalar.indexCast v239
  let c0_168 : Index := 0#32
  ![1, v332.toNat, 0]
@[reducible] def k0_t3_loop : Scf.Loop 32 :=
  let c0_i32_60 : BitVec 32 := 0#32
  let c34_i32_61 : BitVec 32 := 34#32
  let v122 : BitVec 32 := Scalar.addi c0_i32_60 c34_i32_61
  let c1_i32_62 : BitVec 32 := 1#32
  ⟨c0_i32_60, v122, c1_i32_62⟩
def k0_mult5 (k0_t3 : Fin k0_t3_loop.trips) : BitVec 32 :=
  let c0_i32_60 : BitVec 32 := 0#32
  let c1_i32_62 : BitVec 32 := 1#32
  let arg17 : BitVec 32 := Scf.iv c0_i32_60 c1_i32_62 k0_t3
  let c128_i32 : BitVec 32 := 128#32
  let v123 : BitVec 32 := Scalar.muli arg17 c128_i32
  v123
def k0_off13 (k0_t3 : Fin k0_t3_loop.trips) : Fin 2 → Nat :=
  let c0_i32_60 : BitVec 32 := 0#32
  let c1_i32_62 : BitVec 32 := 1#32
  let arg17 : BitVec 32 := Scf.iv c0_i32_60 c1_i32_62 k0_t3
  let c128_i32 : BitVec 32 := 128#32
  let v123 : BitVec 32 := Scalar.muli arg17 c128_i32
  let v124 : BitVec 32 := v123
  let v125 : Index := Scalar.indexCast v124
  let c0_64 : Index := 0#32
  ![v125.toNat, 0]
def k0_off14 (k0_t3 : Fin k0_t3_loop.trips) : Fin 3 → Nat :=
  let c0_66 : Index := 0#32
  let c0_i32_60 : BitVec 32 := 0#32
  let c1_i32_62 : BitVec 32 := 1#32
  let arg17 : BitVec 32 := Scf.iv c0_i32_60 c1_i32_62 k0_t3
  let c128_i32 : BitVec 32 := 128#32
  let v123 : BitVec 32 := Scalar.muli arg17 c128_i32
  let v124 : BitVec 32 := v123
  let v131 : Index := Scalar.indexCast v124
  let c0_67 : Index := 0#32
  ![0, v131.toNat, 0]
def k0_off15 (k0_t3 : Fin k0_t3_loop.trips) : Fin 3 → Nat :=
  let c1_68 : Index := 1#32
  let c0_i32_60 : BitVec 32 := 0#32
  let c1_i32_62 : BitVec 32 := 1#32
  let arg17 : BitVec 32 := Scf.iv c0_i32_60 c1_i32_62 k0_t3
  let c128_i32 : BitVec 32 := 128#32
  let v123 : BitVec 32 := Scalar.muli arg17 c128_i32
  let v124 : BitVec 32 := v123
  let v135 : Index := Scalar.indexCast v124
  let c0_69 : Index := 0#32
  ![1, v135.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4352x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4352x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4352x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4352x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4352x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4352x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4352x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4352x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4352x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4352x3072 : Shape := ⟨2, ![4352, 3072]⟩
abbrev S2x4 : Shape := ⟨2, ![2, 4]⟩
abbrev S4352x512 : Shape := ⟨2, ![4352, 512]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S24 : Shape := ⟨1, ![24]⟩
abbrev S1x24 : Shape := ⟨2, ![1, 24]⟩
abbrev S4096x24 : Shape := ⟨2, ![4096, 24]⟩
abbrev S4096x64 : Shape := ⟨2, ![4096, 64]⟩
abbrev S256 : Shape := ⟨1, ![256]⟩
abbrev S256x1 : Shape := ⟨2, ![256, 1]⟩
abbrev S256x16 : Shape := ⟨2, ![256, 16]⟩
abbrev S256x24 : Shape := ⟨2, ![256, 24]⟩
abbrev S256x64 : Shape := ⟨2, ![256, 64]⟩
abbrev S4352x64 : Shape := ⟨2, ![4352, 64]⟩
abbrev S4352x4x128 : Shape := ⟨3, ![4352, 4, 128]⟩
abbrev S4x4352x128 : Shape := ⟨3, ![4, 4352, 128]⟩
abbrev S4x4352x64 : Shape := ⟨3, ![4, 4352, 64]⟩
abbrev S1x4352x64 : Shape := ⟨3, ![1, 4352, 64]⟩
abbrev S1x4 : Shape := ⟨2, ![1, 4]⟩
abbrev S4 : Shape := ⟨1, ![4]⟩
abbrev S4352 : Shape := ⟨1, ![4352]⟩
abbrev S4352x1 : Shape := ⟨2, ![4352, 1]⟩
abbrev S1x4352 : Shape := ⟨2, ![1, 4352]⟩
abbrev S4352x4352 : Shape := ⟨2, ![4352, 4352]⟩
abbrev S4x1x1 : Shape := ⟨3, ![4, 1, 1]⟩
abbrev S1x4352x4352 : Shape := ⟨3, ![1, 4352, 4352]⟩
abbrev S4x4352x4352 : Shape := ⟨3, ![4, 4352, 4352]⟩
abbrev S4x128x4352 : Shape := ⟨3, ![4, 128, 4352]⟩
abbrev S4x2 : Shape := ⟨2, ![4, 2]⟩
abbrev S4x6 : Shape := ⟨2, ![4, 6]⟩
abbrev S4x8 : Shape := ⟨2, ![4, 8]⟩
abbrev S4x8x1 : Shape := ⟨3, ![4, 8, 1]⟩
abbrev S4x8x128 : Shape := ⟨3, ![4, 8, 128]⟩

abbrev nBuf : Space → Nat
  | .hbm => 330
  | .vmem => 0
  | .smem => 0
  | _ => 0

abbrev hbmTy0_0 (i : Nat) : BufTy := match i % 128 with
  | 0 => ⟨S4352x3072, .f32⟩
  | 1 => ⟨S2x4, .f32⟩
  | 2 => ⟨S4352x512, .f32⟩
  | 3 => ⟨S4352x512, .f32⟩
  | 4 => ⟨S4352x512, .f32⟩
  | 5 => ⟨S4352x512, .f32⟩
  | 6 => ⟨S64, .f32⟩
  | 7 => ⟨S64x1, .f32⟩
  | 8 => ⟨S64x64, .f32⟩
  | 9 => ⟨S4096, .f32⟩
  | 10 => ⟨S64, .f32⟩
  | 11 => ⟨S1x64, .f32⟩
  | 12 => ⟨S64x64, .f32⟩
  | 13 => ⟨S4096, .f32⟩
  | 14 => ⟨S_, .f32⟩
  | 15 => ⟨S4096, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S4096x1, .f32⟩
  | 25 => ⟨S1x16, .f32⟩
  | 26 => ⟨S4096x16, .f32⟩
  | 27 => ⟨S4096x16, .f32⟩
  | 28 => ⟨S4096x16, .f32⟩
  | 29 => ⟨S24, .f32⟩
  | 30 => ⟨S24, .f32⟩
  | 31 => ⟨S_, .f32⟩
  | 32 => ⟨S24, .f32⟩
  | 33 => ⟨S24, .f32⟩
  | 34 => ⟨S_, .f32⟩
  | 35 => ⟨S24, .f32⟩
  | 36 => ⟨S24, .f32⟩
  | 37 => ⟨S4096x1, .f32⟩
  | 38 => ⟨S1x24, .f32⟩
  | 39 => ⟨S4096x24, .f32⟩
  | 40 => ⟨S4096x24, .f32⟩
  | 41 => ⟨S4096x24, .f32⟩
  | 42 => ⟨S24, .f32⟩
  | 43 => ⟨S24, .f32⟩
  | 44 => ⟨S_, .f32⟩
  | 45 => ⟨S24, .f32⟩
  | 46 => ⟨S24, .f32⟩
  | 47 => ⟨S_, .f32⟩
  | 48 => ⟨S24, .f32⟩
  | 49 => ⟨S24, .f32⟩
  | 50 => ⟨S4096x1, .f32⟩
  | 51 => ⟨S1x24, .f32⟩
  | 52 => ⟨S4096x24, .f32⟩
  | 53 => ⟨S4096x24, .f32⟩
  | 54 => ⟨S4096x24, .f32⟩
  | 55 => ⟨S4096x64, .f32⟩
  | 56 => ⟨S_, .f32⟩
  | 57 => ⟨S256, .f32⟩
  | 58 => ⟨S256, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S256x1, .f32⟩
  | 68 => ⟨S1x16, .f32⟩
  | 69 => ⟨S256x16, .f32⟩
  | 70 => ⟨S256x16, .f32⟩
  | 71 => ⟨S256x16, .f32⟩
  | 72 => ⟨S24, .f32⟩
  | 73 => ⟨S24, .f32⟩
  | 74 => ⟨S_, .f32⟩
  | 75 => ⟨S24, .f32⟩
  | 76 => ⟨S24, .f32⟩
  | 77 => ⟨S_, .f32⟩
  | 78 => ⟨S24, .f32⟩
  | 79 => ⟨S24, .f32⟩
  | 80 => ⟨S256x1, .f32⟩
  | 81 => ⟨S1x24, .f32⟩
  | 82 => ⟨S256x24, .f32⟩
  | 83 => ⟨S256x24, .f32⟩
  | 84 => ⟨S256x24, .f32⟩
  | 85 => ⟨S24, .f32⟩
  | 86 => ⟨S24, .f32⟩
  | 87 => ⟨S_, .f32⟩
  | 88 => ⟨S24, .f32⟩
  | 89 => ⟨S24, .f32⟩
  | 90 => ⟨S_, .f32⟩
  | 91 => ⟨S24, .f32⟩
  | 92 => ⟨S24, .f32⟩
  | 93 => ⟨S256x1, .f32⟩
  | 94 => ⟨S1x24, .f32⟩
  | 95 => ⟨S256x24, .f32⟩
  | 96 => ⟨S256x24, .f32⟩
  | 97 => ⟨S256x24, .f32⟩
  | 98 => ⟨S256x64, .f32⟩
  | 99 => ⟨S4352x64, .f32⟩
  | 100 => ⟨S4352x4x128, .f32⟩
  | 101 => ⟨S4x4352x128, .f32⟩
  | 102 => ⟨S4x4352x64, .f32⟩
  | 103 => ⟨S4x4352x64, .f32⟩
  | 104 => ⟨S4352x64, .f32⟩
  | 105 => ⟨S4352x64, .f32⟩
  | 106 => ⟨S1x4352x64, .f32⟩
  | 107 => ⟨S4x4352x64, .f32⟩
  | 108 => ⟨S4x4352x64, .f32⟩
  | 109 => ⟨S1x4352x64, .f32⟩
  | 110 => ⟨S4x4352x64, .f32⟩
  | 111 => ⟨S4x4352x64, .f32⟩
  | 112 => ⟨S4x4352x64, .f32⟩
  | 113 => ⟨S1x4352x64, .f32⟩
  | 114 => ⟨S4x4352x64, .f32⟩
  | 115 => ⟨S4x4352x64, .f32⟩
  | 116 => ⟨S1x4352x64, .f32⟩
  | 117 => ⟨S4x4352x64, .f32⟩
  | 118 => ⟨S4x4352x64, .f32⟩
  | 119 => ⟨S4x4352x64, .f32⟩
  | 120 => ⟨S4x4352x128, .f32⟩
  | 121 => ⟨S_, .f32⟩
  | 122 => ⟨S4x4352x128, .f32⟩
  | 123 => ⟨S4x4352x128, .f32⟩
  | 124 => ⟨S4352x4x128, .f32⟩
  | 125 => ⟨S4x4352x128, .f32⟩
  | 126 => ⟨S4x4352x64, .f32⟩
  | 127 => ⟨S4x4352x64, .f32⟩
  | _ => ⟨S4352x3072, .f32⟩

abbrev hbmTy0_1 (i : Nat) : BufTy := match i % 128 with
  | 0 => ⟨S4352x64, .f32⟩
  | 1 => ⟨S4352x64, .f32⟩
  | 2 => ⟨S1x4352x64, .f32⟩
  | 3 => ⟨S4x4352x64, .f32⟩
  | 4 => ⟨S4x4352x64, .f32⟩
  | 5 => ⟨S1x4352x64, .f32⟩
  | 6 => ⟨S4x4352x64, .f32⟩
  | 7 => ⟨S4x4352x64, .f32⟩
  | 8 => ⟨S4x4352x64, .f32⟩
  | 9 => ⟨S1x4352x64, .f32⟩
  | 10 => ⟨S4x4352x64, .f32⟩
  | 11 => ⟨S4x4352x64, .f32⟩
  | 12 => ⟨S1x4352x64, .f32⟩
  | 13 => ⟨S4x4352x64, .f32⟩
  | 14 => ⟨S4x4352x64, .f32⟩
  | 15 => ⟨S4x4352x64, .f32⟩
  | 16 => ⟨S4x4352x128, .f32⟩
  | 17 => ⟨S4352x4x128, .f32⟩
  | 18 => ⟨S4x4352x128, .f32⟩
  | 19 => ⟨S4096, .f32⟩
  | 20 => ⟨S256, .f32⟩
  | 21 => ⟨S1x4, .f32⟩
  | 22 => ⟨S4, .f32⟩
  | 23 => ⟨S_, .f32⟩
  | 24 => ⟨S4096, .f32⟩
  | 25 => ⟨S4096, .f32⟩
  | 26 => ⟨S4352, .f32⟩
  | 27 => ⟨S4352x1, .f32⟩
  | 28 => ⟨S1x4352, .f32⟩
  | 29 => ⟨S4352x4352, .f32⟩
  | 30 => ⟨S4352x4352, .f32⟩
  | 31 => ⟨S4352x4352, .f32⟩
  | 32 => ⟨S_, .f32⟩
  | 33 => ⟨S4352x4352, .f32⟩
  | 34 => ⟨S4352x4352, .i1⟩
  | 35 => ⟨S4x1x1, .f32⟩
  | 36 => ⟨S1x4352x4352, .i1⟩
  | 37 => ⟨S_, .f32⟩
  | 38 => ⟨S_, .f32⟩
  | 39 => ⟨S4352x4352, .f32⟩
  | 40 => ⟨S4352x4352, .f32⟩
  | 41 => ⟨S1x4352x4352, .f32⟩
  | 42 => ⟨S4x4352x4352, .f32⟩
  | 43 => ⟨S4x4352x4352, .f32⟩
  | 44 => ⟨S4x4352x4352, .f32⟩
  | 45 => ⟨S4x4352x4352, .f32⟩
  | 46 => ⟨S_, .f32⟩
  | 47 => ⟨S_, .f32⟩
  | 48 => ⟨S4x4352x4352, .i1⟩
  | 49 => ⟨S4x4352x4352, .f32⟩
  | 50 => ⟨S4x4352x4352, .f32⟩
  | 51 => ⟨S_, .f32⟩
  | 52 => ⟨S4x4352x4352, .f32⟩
  | 53 => ⟨S4x4352x4352, .f32⟩
  | 54 => ⟨S4x4352x4352, .f32⟩
  | 55 => ⟨S4x4352x128, .f32⟩
  | 56 => ⟨S1x4, .f32⟩
  | 57 => ⟨S4, .f32⟩
  | 58 => ⟨S_, .f32⟩
  | 59 => ⟨S4096, .f32⟩
  | 60 => ⟨S4096, .f32⟩
  | 61 => ⟨S_, .f32⟩
  | 62 => ⟨S256, .f32⟩
  | 63 => ⟨S256, .f32⟩
  | 64 => ⟨S4352, .f32⟩
  | 65 => ⟨S4352x1, .f32⟩
  | 66 => ⟨S1x4352, .f32⟩
  | 67 => ⟨S4352x4352, .f32⟩
  | 68 => ⟨S4352x4352, .f32⟩
  | 69 => ⟨S4352x4352, .f32⟩
  | 70 => ⟨S_, .f32⟩
  | 71 => ⟨S4352x4352, .f32⟩
  | 72 => ⟨S4352x4352, .i1⟩
  | 73 => ⟨S_, .f32⟩
  | 74 => ⟨S4352x4352, .f32⟩
  | 75 => ⟨S4352x4352, .f32⟩
  | 76 => ⟨S4x1x1, .f32⟩
  | 77 => ⟨S1x4352x4352, .i1⟩
  | 78 => ⟨S_, .f32⟩
  | 79 => ⟨S_, .f32⟩
  | 80 => ⟨S4352x4352, .f32⟩
  | 81 => ⟨S4352x4352, .f32⟩
  | 82 => ⟨S1x4352x4352, .f32⟩
  | 83 => ⟨S4x4352x4352, .f32⟩
  | 84 => ⟨S4x4352x4352, .f32⟩
  | 85 => ⟨S4x4352x4352, .f32⟩
  | 86 => ⟨S4x4352x4352, .f32⟩
  | 87 => ⟨S_, .f32⟩
  | 88 => ⟨S_, .f32⟩
  | 89 => ⟨S4x4352x4352, .i1⟩
  | 90 => ⟨S4x4352x4352, .f32⟩
  | 91 => ⟨S4x4352x4352, .f32⟩
  | 92 => ⟨S_, .f32⟩
  | 93 => ⟨S4x4352x4352, .f32⟩
  | 94 => ⟨S4x4352x4352, .f32⟩
  | 95 => ⟨S4x4352x4352, .f32⟩
  | 96 => ⟨S4x4352x128, .f32⟩
  | 97 => ⟨S4x4352x128, .f32⟩
  | 98 => ⟨S4352x4x128, .f32⟩
  | 99 => ⟨S4352x512, .f32⟩
  | 100 => ⟨S4352x4x128, .f32⟩
  | 101 => ⟨S4x4352x128, .f32⟩
  | 102 => ⟨S4x128x4352, .f32⟩
  | 103 => ⟨S4x4352x128, .f32⟩
  | 104 => ⟨S4x4352x4352, .f32⟩
  | 105 => ⟨S4x4352x4352, .f32⟩
  | 106 => ⟨S4x4352x4352, .f32⟩
  | 107 => ⟨S4x4352x128, .f32⟩
  | 108 => ⟨S4x4352x128, .f32⟩
  | 109 => ⟨S_, .f32⟩
  | 110 => ⟨S4x4352x4352, .f32⟩
  | 111 => ⟨S4x4352x4352, .f32⟩
  | 112 => ⟨S4x4352x4352, .f32⟩
  | 113 => ⟨S4x4352x4352, .f32⟩
  | 114 => ⟨S4x4352x4352, .f32⟩
  | 115 => ⟨S_, .f32⟩
  | 116 => ⟨S4, .f32⟩
  | 117 => ⟨S4x1x1, .f32⟩
  | 118 => ⟨S_, .f32⟩
  | 119 => ⟨S4, .f32⟩
  | 120 => ⟨S1x4, .f32⟩
  | 121 => ⟨S_, .f32⟩
  | 122 => ⟨S2x4, .f32⟩
  | 123 => ⟨S4x128x4352, .f32⟩
  | 124 => ⟨S4x4352x128, .f32⟩
  | 125 => ⟨S4x4352x128, .f32⟩
  | 126 => ⟨S4x4352x4352, .f32⟩
  | 127 => ⟨S4x4352x4352, .f32⟩
  | _ => ⟨S4352x3072, .f32⟩

abbrev hbmTy0_2 (i : Nat) : BufTy := match i % 128 with
  | 0 => ⟨S4x4352x4352, .f32⟩
  | 1 => ⟨S4x4352x128, .f32⟩
  | 2 => ⟨S4x4352x128, .f32⟩
  | 3 => ⟨S4x4352x128, .f32⟩
  | 4 => ⟨S4x4352x128, .f32⟩
  | 5 => ⟨S_, .f32⟩
  | 6 => ⟨S4x4352x4352, .f32⟩
  | 7 => ⟨S4x4352x4352, .f32⟩
  | 8 => ⟨S4x4352x4352, .f32⟩
  | 9 => ⟨S4x4352x4352, .f32⟩
  | 10 => ⟨S4x4352x4352, .f32⟩
  | 11 => ⟨S_, .f32⟩
  | 12 => ⟨S4, .f32⟩
  | 13 => ⟨S4x1x1, .f32⟩
  | 14 => ⟨S_, .f32⟩
  | 15 => ⟨S4, .f32⟩
  | 16 => ⟨S1x4, .f32⟩
  | 17 => ⟨S_, .f32⟩
  | 18 => ⟨S2x4, .f32⟩
  | 19 => ⟨S2x4, .f32⟩
  | 20 => ⟨S4352x4x128, .f32⟩
  | 21 => ⟨S4352x512, .f32⟩
  | 22 => ⟨S4x4352x64, .f32⟩
  | 23 => ⟨S4x4352x64, .f32⟩
  | 24 => ⟨S4x4352x64, .f32⟩
  | 25 => ⟨S4x4352x64, .f32⟩
  | 26 => ⟨S4x4352x64, .f32⟩
  | 27 => ⟨S4x4352x64, .f32⟩
  | 28 => ⟨S4x4352x64, .f32⟩
  | 29 => ⟨S4x4352x64, .f32⟩
  | 30 => ⟨S4x4352x64, .f32⟩
  | 31 => ⟨S4x4352x64, .f32⟩
  | 32 => ⟨S4x4352x64, .f32⟩
  | 33 => ⟨S4x4352x64, .f32⟩
  | 34 => ⟨S4x4352x64, .f32⟩
  | 35 => ⟨S_, .f32⟩
  | 36 => ⟨S4x4352x128, .f32⟩
  | 37 => ⟨S_, .f32⟩
  | 38 => ⟨S4x4352x128, .f32⟩
  | 39 => ⟨S4x4352x128, .f32⟩
  | 40 => ⟨S4352x4x128, .f32⟩
  | 41 => ⟨S4352x512, .f32⟩
  | 42 => ⟨S_, .f32⟩
  | 43 => ⟨S4x4352x128, .f32⟩
  | 44 => ⟨S4x4352x128, .f32⟩
  | 45 => ⟨S4x4352x64, .f32⟩
  | 46 => ⟨S4x4352x64, .f32⟩
  | 47 => ⟨S4x4352x64, .f32⟩
  | 48 => ⟨S4x4352x64, .f32⟩
  | 49 => ⟨S4x4352x64, .f32⟩
  | 50 => ⟨S4x4352x64, .f32⟩
  | 51 => ⟨S4x4352x64, .f32⟩
  | 52 => ⟨S4x4352x64, .f32⟩
  | 53 => ⟨S4x4352x64, .f32⟩
  | 54 => ⟨S4x4352x64, .f32⟩
  | 55 => ⟨S4x4352x64, .f32⟩
  | 56 => ⟨S4x4352x64, .f32⟩
  | 57 => ⟨S4x4352x64, .f32⟩
  | 58 => ⟨S_, .f32⟩
  | 59 => ⟨S4x4352x128, .f32⟩
  | 60 => ⟨S_, .f32⟩
  | 61 => ⟨S4x4352x128, .f32⟩
  | 62 => ⟨S4x4352x128, .f32⟩
  | 63 => ⟨S4352x4x128, .f32⟩
  | 64 => ⟨S4352x512, .f32⟩
  | 65 => ⟨S4x2, .f32⟩
  | 66 => ⟨S_, .f32⟩
  | 67 => ⟨S4x6, .f32⟩
  | 68 => ⟨S4x8, .f32⟩
  | 69 => ⟨S4x8x1, .f32⟩
  | 70 => ⟨S4x8x128, .f32⟩
  | 71 => ⟨S4352x512, .bf16⟩
  | 72 => ⟨S4352x512, .bf16⟩
  | 73 => ⟨S4352x512, .bf16⟩
  | _ => ⟨S4352x3072, .f32⟩

abbrev hbmTy (i : Nat) : BufTy := match i / 128 with
  | 0 => hbmTy0_0 i
  | 1 => hbmTy0_1 i
  | 2 => hbmTy0_2 i
  | _ => ⟨S4352x3072, .f32⟩

abbrev bufTy : (tb : Table) → Fin (tcTables nBuf tb) → BufTy
  | .hbm, ⟨i, _⟩ => hbmTy i
  | _, _ => ⟨S4352x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_9 : Ref sig .tc := ⟨.hbm, 74, rfl⟩
abbrev main_v61 : Ref sig .tc := ⟨.hbm, 75, rfl⟩
abbrev main_v62 : Ref sig .tc := ⟨.hbm, 76, rfl⟩
abbrev main_cst_10 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_11 : Ref sig .tc := ⟨.hbm, 87, rfl⟩
abbrev main_v72 : Ref sig .tc := ⟨.hbm, 88, rfl⟩
abbrev main_v73 : Ref sig .tc := ⟨.hbm, 89, rfl⟩
abbrev main_cst_12 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_13 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_cst_14 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_cst_15 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_cst_16 : Ref sig .tc := ⟨.hbm, 165, rfl⟩
abbrev main_call0_v0 : Ref sig .tc := ⟨.hbm, 166, rfl⟩
abbrev main_call0_v1 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_cst_17 : Ref sig .tc := ⟨.hbm, 174, rfl⟩
abbrev main_call1_v0 : Ref sig .tc := ⟨.hbm, 175, rfl⟩
abbrev main_v151_1 : Ref sig .tc := ⟨.hbm, 176, rfl⟩
abbrev main_call1_v2 : Ref sig .tc := ⟨.hbm, 177, rfl⟩
abbrev main_v151_0 : Ref sig .tc := ⟨.hbm, 178, rfl⟩
abbrev main_call1_cst : Ref sig .tc := ⟨.hbm, 179, rfl⟩
abbrev main_v151_2 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_cst_18 : Ref sig .tc := ⟨.hbm, 186, rfl⟩
abbrev main_v157 : Ref sig .tc := ⟨.hbm, 187, rfl⟩
abbrev main_v158 : Ref sig .tc := ⟨.hbm, 188, rfl⟩
abbrev main_cst_19 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_cst_20 : Ref sig .tc := ⟨.hbm, 198, rfl⟩
abbrev main_v167 : Ref sig .tc := ⟨.hbm, 199, rfl⟩
abbrev main_v168 : Ref sig .tc := ⟨.hbm, 200, rfl⟩
abbrev main_cst_21 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_cst_22 : Ref sig .tc := ⟨.hbm, 206, rfl⟩
abbrev main_call2_v0 : Ref sig .tc := ⟨.hbm, 207, rfl⟩
abbrev main_call2_v1 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_cst_23 : Ref sig .tc := ⟨.hbm, 215, rfl⟩
abbrev main_call3_v0 : Ref sig .tc := ⟨.hbm, 216, rfl⟩
abbrev main_v179_1 : Ref sig .tc := ⟨.hbm, 217, rfl⟩
abbrev main_call3_v2 : Ref sig .tc := ⟨.hbm, 218, rfl⟩
abbrev main_v179_0 : Ref sig .tc := ⟨.hbm, 219, rfl⟩
abbrev main_call3_cst : Ref sig .tc := ⟨.hbm, 220, rfl⟩
abbrev main_v179_2 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_call4_cst : Ref sig .tc := ⟨.hbm, 237, rfl⟩
abbrev main_call4_v0 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_cst_24 : Ref sig .tc := ⟨.hbm, 243, rfl⟩
abbrev main_v199 : Ref sig .tc := ⟨.hbm, 244, rfl⟩
abbrev main_v200 : Ref sig .tc := ⟨.hbm, 245, rfl⟩
abbrev main_cst_25 : Ref sig .tc := ⟨.hbm, 246, rfl⟩
abbrev main_v201 : Ref sig .tc := ⟨.hbm, 247, rfl⟩
abbrev main_v202 : Ref sig .tc := ⟨.hbm, 248, rfl⟩
abbrev main_cst_26 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_call5_cst : Ref sig .tc := ⟨.hbm, 261, rfl⟩
abbrev main_call5_v0 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_cst_27 : Ref sig .tc := ⟨.hbm, 267, rfl⟩
abbrev main_v218 : Ref sig .tc := ⟨.hbm, 268, rfl⟩
abbrev main_v219 : Ref sig .tc := ⟨.hbm, 269, rfl⟩
abbrev main_cst_28 : Ref sig .tc := ⟨.hbm, 270, rfl⟩
abbrev main_v220 : Ref sig .tc := ⟨.hbm, 271, rfl⟩
abbrev main_v221 : Ref sig .tc := ⟨.hbm, 272, rfl⟩
abbrev main_cst_29 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_cst_30 : Ref sig .tc := ⟨.hbm, 291, rfl⟩
abbrev main_v239 : Ref sig .tc := ⟨.hbm, 292, rfl⟩
abbrev main_cst_31 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_cst_32 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_cst_33 : Ref sig .tc := ⟨.hbm, 314, rfl⟩
abbrev main_v259 : Ref sig .tc := ⟨.hbm, 315, rfl⟩
abbrev main_cst_34 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_cst_35 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩

abbrev nD : Nat := 1
abbrev τ : Topo := Topo.v7x

variable {F : FTy → Type} [FloatOps F]
-- ==== Kernel2.lean ====
abbrev S4352x3072 : Shape := ⟨2, ![4352, 3072]⟩
abbrev S4352x1024 : Shape := ⟨2, ![4352, 1024]⟩
abbrev S3072x1024 : Shape := ⟨2, ![3072, 1024]⟩
abbrev S4352x768 : Shape := ⟨2, ![4352, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x3072, .bf16⟩
  | .hbm, ⟨1, _⟩ => ⟨S4352x1024, .bf16⟩
  | .hbm, ⟨2, _⟩ => ⟨S3072x1024, .bf16⟩
  | .local _ .vmem, ⟨0, _⟩ => ⟨S4352x768, .bf16⟩
  | .local _ .vmem, ⟨1, _⟩ => ⟨S4352x768, .bf16⟩
  | .local _ .vmem, ⟨2, _⟩ => ⟨S4352x1024, .bf16⟩
  | .local _ .vmem, ⟨3, _⟩ => ⟨S768x1024, .bf16⟩
  | .local _ .vmem, ⟨4, _⟩ => ⟨S768x1024, .bf16⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4352x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4352x3072 : Shape := ⟨2, ![4352, 3072]⟩
abbrev S4352x1024 : Shape := ⟨2, ![4352, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S4352x1024, .bf16⟩
  | .hbm, ⟨2, _⟩ => ⟨S_, .f32⟩
  | .hbm, ⟨3, _⟩ => ⟨S1024x3072, .f32⟩
  | .hbm, ⟨4, _⟩ => ⟨S4352x1024, .f32⟩
  | .hbm, ⟨5, _⟩ => ⟨S4352x3072, .f32⟩
  | .hbm, ⟨6, _⟩ => ⟨S4352x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4352x3072 : Shape := ⟨2, ![4352, 3072]⟩
abbrev S3072x1024 : Shape := ⟨2, ![3072, 1024]⟩
abbrev S4352x1024 : Shape := ⟨2, ![4352, 1024]⟩
abbrev S544x3072 : Shape := ⟨2, ![544, 3072]⟩
abbrev S544x1024 : Shape := ⟨2, ![544, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x3072, .bf16⟩
  | .hbm, ⟨1, _⟩ => ⟨S3072x1024, .bf16⟩
  | .hbm, ⟨2, _⟩ => ⟨S4352x1024, .f32⟩
  | .local _ .vmem, ⟨0, _⟩ => ⟨S544x3072, .bf16⟩
  | .local _ .vmem, ⟨1, _⟩ => ⟨S544x3072, .bf16⟩
  | .local _ .vmem, ⟨2, _⟩ => ⟨S3072x1024, .bf16⟩
  | .local _ .vmem, ⟨3, _⟩ => ⟨S544x1024, .f32⟩
  | .local _ .vmem, ⟨4, _⟩ => ⟨S544x1024, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4352x3072 : Shape := ⟨2, ![4352, 3072]⟩
abbrev S3072x1024 : Shape := ⟨2, ![3072, 1024]⟩
abbrev S_ : Shape := ⟨0, ![]⟩
abbrev S4352x1024 : Shape := ⟨2, ![4352, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S3072x1024, .bf16⟩
  | .hbm, ⟨2, _⟩ => ⟨S_, .f32⟩
  | .hbm, ⟨3, _⟩ => ⟨S4352x1024, .f32⟩
  | .hbm, ⟨4, _⟩ => ⟨S3072x1024, .f32⟩
  | .hbm, ⟨5, _⟩ => ⟨S1024x3072, .f32⟩
  | .hbm, ⟨6, _⟩ => ⟨S4352x3072, .f32⟩
  | .hbm, ⟨7, _⟩ => ⟨S4352x3072, .f32⟩
  | .hbm, ⟨8, _⟩ => ⟨S4352x1024, .f32⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4352x3072 : Shape := ⟨2, ![4352, 3072]⟩
abbrev S3072x1024 : Shape := ⟨2, ![3072, 1024]⟩
abbrev S4352x1024 : Shape := ⟨2, ![4352, 1024]⟩
abbrev S544x3072 : Shape := ⟨2, ![544, 3072]⟩
abbrev S544x1024 : Shape := ⟨2, ![544, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4352x3072, .bf16⟩
  | .hbm, ⟨1, _⟩ => ⟨S3072x1024, .bf16⟩
  | .hbm, ⟨2, _⟩ => ⟨S4352x1024, .f32⟩
  | .hbm, ⟨3, _⟩ => ⟨S4352x1024, .f32⟩
  | .local _ .vmem, ⟨0, _⟩ => ⟨S544x3072, .bf16⟩
  | .local _ .vmem, ⟨1, _⟩ => ⟨S544x3072, .bf16⟩
  | .local _ .vmem, ⟨2, _⟩ => ⟨S3072x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4352x3072 : Shape := ⟨2, ![4352, 3072]⟩
abbrev S3072x1024 : Shape := ⟨2, ![3072, 1024]⟩
abbrev S4352x1024 : Shape := ⟨2, ![4352, 1024]⟩
abbrev S_ : Shape := ⟨0, ![]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S3072x1024, .bf16⟩
  | .hbm, ⟨2, _⟩ => ⟨S4352x1024, .f32⟩
  | .hbm, ⟨3, _⟩ => ⟨S_, .f32⟩
  | .hbm, ⟨4, _⟩ => ⟨S4352x1024, .f32⟩
  | .hbm, ⟨5, _⟩ => ⟨S3072x1024, .f32⟩
  | .hbm, ⟨6, _⟩ => ⟨S1024x3072, .f32⟩
  | .hbm, ⟨7, _⟩ => ⟨S4352x3072, .f32⟩
  | .hbm, ⟨8, _⟩ => ⟨S4352x3072, .f32⟩
  | .hbm, ⟨9, _⟩ => ⟨S4352x1024, .f32⟩
  | .hbm, ⟨10, _⟩ => ⟨S4352x1024, .f32⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S4352x1024 : Shape := ⟨2, ![4352, 1024]⟩
abbrev S3072x1024 : Shape := ⟨2, ![3072, 1024]⟩
abbrev S4352x3072 : Shape := ⟨2, ![4352, 3072]⟩
abbrev S256x1024 : Shape := ⟨2, ![256, 1024]⟩
abbrev S256x3072 : Shape := ⟨2, ![256, 3072]⟩

abbrev nBuf : Space → Nat
  | .hbm => 6
  | .vmem => 11
  | .smem => 0
  | _ => 0

abbrev bufTy : (tb : Table) → Fin (tcTables nBuf tb) → BufTy
  | .hbm, ⟨0, _⟩ => ⟨S4352x1024, .bf16⟩
  | .hbm, ⟨1, _⟩ => ⟨S3072x1024, .bf16⟩
  | .hbm, ⟨2, _⟩ => ⟨S4352x3072, .bf16⟩
  | .hbm, ⟨3, _⟩ => ⟨S4352x3072, .bf16⟩
  | .hbm, ⟨4, _⟩ => ⟨S4352x3072, .bf16⟩
  | .hbm, ⟨5, _⟩ => ⟨S4352x3072, .bf16⟩
  | .local _ .vmem, ⟨0, _⟩ => ⟨S256x1024, .bf16⟩
  | .local _ .vmem, ⟨1, _⟩ => ⟨S256x1024, .bf16⟩
  | .local _ .vmem, ⟨2, _⟩ => ⟨S3072x1024, .bf16⟩
  | .local _ .vmem, ⟨3, _⟩ => ⟨S256x3072, .bf16⟩
  | .local _ .vmem, ⟨4, _⟩ => ⟨S256x3072, .bf16⟩
  | .local _ .vmem, ⟨5, _⟩ => ⟨S256x3072, .bf16⟩
  | .local _ .vmem, ⟨6, _⟩ => ⟨S256x3072, .bf16⟩
  | .local _ .vmem, ⟨7, _⟩ => ⟨S256x3072, .bf16⟩
  | .local _ .vmem, ⟨8, _⟩ => ⟨S256x3072, .bf16⟩
  | .local _ .vmem, ⟨9, _⟩ => ⟨S256x3072, .bf16⟩
  | .local _ .vmem, ⟨10, _⟩ => ⟨S256x3072, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4352x1024 : Shape := ⟨2, ![4352, 1024]⟩
abbrev S3072x1024 : Shape := ⟨2, ![3072, 1024]⟩
abbrev S4352x3072 : Shape := ⟨2, ![4352, 3072]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S3072x1024, .bf16⟩
  | .hbm, ⟨2, _⟩ => ⟨S4352x3072, .bf16⟩
  | .hbm, ⟨3, _⟩ => ⟨S4352x3072, .bf16⟩
  | .hbm, ⟨4, _⟩ => ⟨S4352x3072, .f32⟩
  | .hbm, ⟨5, _⟩ => ⟨S4352x3072, .f32⟩
  | .hbm, ⟨6, _⟩ => ⟨S4352x3072, .f32⟩
  | .hbm, ⟨7, _⟩ => ⟨S4352x3072, .f32⟩
  | .hbm, ⟨8, _⟩ => ⟨S_, .f32⟩
  | .hbm, ⟨9, _⟩ => ⟨S4352x3072, .f32⟩
  | .hbm, ⟨10, _⟩ => ⟨S4352x3072, .f32⟩
  | .hbm, ⟨11, _⟩ => ⟨S_, .f32⟩
  | .hbm, ⟨12, _⟩ => ⟨S4352x3072, .f32⟩
  | .hbm, ⟨13, _⟩ => ⟨S4352x3072, .f32⟩
  | .hbm, ⟨14, _⟩ => ⟨S_, .f32⟩
  | .hbm, ⟨15, _⟩ => ⟨S4352x3072, .f32⟩
  | .hbm, ⟨16, _⟩ => ⟨S4352x3072, .f32⟩
  | .hbm, ⟨17, _⟩ => ⟨S4352x3072, .f32⟩
  | .hbm, ⟨18, _⟩ => ⟨S4352x3072, .f32⟩
  | .hbm, ⟨19, _⟩ => ⟨S4352x3072, .f32⟩
  | .hbm, ⟨20, _⟩ => ⟨S3072x1024, .f32⟩
  | .hbm, ⟨21, _⟩ => ⟨S4352x1024, .f32⟩
  | .hbm, ⟨22, _⟩ => ⟨S4352x1024, .f32⟩
  | .hbm, ⟨23, _⟩ => ⟨S4352x3072, .f32⟩
  | .hbm, ⟨24, _⟩ => ⟨S4352x3072, .f32⟩
  | .hbm, ⟨25, _⟩ => ⟨S4352x3072, .f32⟩
  | .hbm, ⟨26, _⟩ => ⟨S4352x3072, .f32⟩
  | .hbm, ⟨27, _⟩ => ⟨S4352x3072, .f32⟩
  | .hbm, ⟨28, _⟩ => ⟨S4352x3072, .f32⟩
  | .hbm, ⟨29, _⟩ => ⟨S4352x3072, .f32⟩
  | .hbm, ⟨30, _⟩ => ⟨S4352x3072, .bf16⟩
  | .hbm, ⟨31, _⟩ => ⟨S4352x3072, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel6.lean ====
abbrev S4352x1024 : Shape := ⟨2, ![4352, 1024]⟩
abbrev S3072x1024 : Shape := ⟨2, ![3072, 1024]⟩
abbrev S4352x3072 : Shape := ⟨2, ![4352, 3072]⟩
abbrev S256x1024 : Shape := ⟨2, ![256, 1024]⟩
abbrev S256x3072 : Shape := ⟨2, ![256, 3072]⟩

abbrev nBuf : Space → Nat
  | .hbm => 6
  | .vmem => 10
  | .smem => 0
  | _ => 0

abbrev bufTy : (tb : Table) → Fin (tcTables nBuf tb) → BufTy
  | .hbm, ⟨0, _⟩ => ⟨S4352x1024, .bf16⟩
  | .hbm, ⟨1, _⟩ => ⟨S3072x1024, .bf16⟩
  | .hbm, ⟨2, _⟩ => ⟨S3072x1024, .bf16⟩
  | .hbm, ⟨3, _⟩ => ⟨S4352x3072, .bf16⟩
  | .hbm, ⟨4, _⟩ => ⟨S4352x3072, .bf16⟩
  | .hbm, ⟨5, _⟩ => ⟨S4352x3072, .bf16⟩
  | .local _ .vmem, ⟨0, _⟩ => ⟨S256x1024, .bf16⟩
  | .local _ .vmem, ⟨1, _⟩ => ⟨S256x1024, .bf16⟩
  | .local _ .vmem, ⟨2, _⟩ => ⟨S3072x1024, .bf16⟩
  | .local _ .vmem, ⟨3, _⟩ => ⟨S3072x1024, .bf16⟩
  | .local _ .vmem, ⟨4, _⟩ => ⟨S256x3072, .bf16⟩
  | .local _ .vmem, ⟨5, _⟩ => ⟨S256x3072, .bf16⟩
  | .local _ .vmem, ⟨6, _⟩ => ⟨S256x3072, .bf16⟩
  | .local _ .vmem, ⟨7, _⟩ => ⟨S256x3072, .bf16⟩
  | .local _ .vmem, ⟨8, _⟩ => ⟨S256x3072, .bf16⟩
  | .local _ .vmem, ⟨9, _⟩ => ⟨S256x3072, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4352x1024 : Shape := ⟨2, ![4352, 1024]⟩
abbrev S3072x1024 : Shape := ⟨2, ![3072, 1024]⟩
abbrev S1024x3072 : Shape := ⟨2, ![1024, 3072]⟩
abbrev S4352x3072 : Shape := ⟨2, ![4352, 3072]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S3072x1024, .bf16⟩
  | .hbm, ⟨2, _⟩ => ⟨S3072x1024, .bf16⟩
  | .hbm, ⟨3, _⟩ => ⟨S4352x1024, .f32⟩
  | .hbm, ⟨4, _⟩ => ⟨S3072x1024, .f32⟩
  | .hbm, ⟨5, _⟩ => ⟨S1024x3072, .f32⟩
  | .hbm, ⟨6, _⟩ => ⟨S4352x3072, .f32⟩
  | .hbm, ⟨7, _⟩ => ⟨S4352x1024, .f32⟩
  | .hbm, ⟨8, _⟩ => ⟨S3072x1024, .f32⟩
  | .hbm, ⟨9, _⟩ => ⟨S1024x3072, .f32⟩
  | .hbm, ⟨10, _⟩ => ⟨S4352x3072, .f32⟩
  | .hbm, ⟨11, _⟩ => ⟨S4352x3072, .bf16⟩
  | .hbm, ⟨12, _⟩ => ⟨S4352x3072, .bf16⟩
  | .hbm, ⟨13, _⟩ => ⟨S4352x3072, .f32⟩
  | .hbm, ⟨14, _⟩ => ⟨S4352x3072, .f32⟩
  | .hbm, ⟨15, _⟩ => ⟨S_, .f32⟩
  | .hbm, ⟨16, _⟩ => ⟨S4352x3072, .f32⟩
  | .hbm, ⟨17, _⟩ => ⟨S4352x3072, .f32⟩
  | .hbm, ⟨18, _⟩ => ⟨S_, .f32⟩
  | .hbm, ⟨19, _⟩ => ⟨S4352x3072, .f32⟩
  | .hbm, ⟨20, _⟩ => ⟨S4352x3072, .f32⟩
  | .hbm, ⟨21, _⟩ => ⟨S4352x3072, .f32⟩
  | .hbm, ⟨22, _⟩ => ⟨S4352x3072, .f32⟩
  | .hbm, ⟨23, _⟩ => ⟨S4352x3072, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel7.lean ====
abbrev S4352x3072 : Shape := ⟨2, ![4352, 3072]⟩
abbrev S3072x1024 : Shape := ⟨2, ![3072, 1024]⟩
abbrev S4352x1024 : Shape := ⟨2, ![4352, 1024]⟩
abbrev S2x6x1024 : Shape := ⟨3, ![2, 6, 1024]⟩
abbrev S544x3072 : Shape := ⟨2, ![544, 3072]⟩
abbrev S544x1024 : Shape := ⟨2, ![544, 1024]⟩
abbrev S544x1 : Shape := ⟨2, ![544, 1]⟩
abbrev S1x6x1024 : Shape := ⟨3, ![1, 6, 1024]⟩
abbrev S6x1024 : Shape := ⟨2, ![6, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4352x3072, .bf16⟩
  | .hbm, ⟨1, _⟩ => ⟨S3072x1024, .bf16⟩
  | .hbm, ⟨2, _⟩ => ⟨S4352x1024, .f32⟩
  | .hbm, ⟨3, _⟩ => ⟨S2x6x1024, .f32⟩
  | .hbm, ⟨4, _⟩ => ⟨S4352x1024, .f32⟩
  | .hbm, ⟨5, _⟩ => ⟨S4352x1024, .bf16⟩
  | .local _ .vmem, ⟨0, _⟩ => ⟨S544x3072, .bf16⟩
  | .local _ .vmem, ⟨1, _⟩ => ⟨S544x3072, .bf16⟩
  | .local _ .vmem, ⟨2, _⟩ => ⟨S3072x1024, .bf16⟩
  | .local _ .vmem, ⟨3, _⟩ => ⟨S544x1024, .f32⟩
  | .local _ .vmem, ⟨4, _⟩ => ⟨S544x1024, .f32⟩
  | .local _ .vmem, ⟨5, _⟩ => ⟨S2x6x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .bf16⟩
  | .local _ .vmem, ⟨9, _⟩ => ⟨S544x1024, .bf16⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4352x3072 : Shape := ⟨2, ![4352, 3072]⟩
abbrev S3072x1024 : Shape := ⟨2, ![3072, 1024]⟩
abbrev S4352x1024 : Shape := ⟨2, ![4352, 1024]⟩
abbrev S2x6x1024 : Shape := ⟨3, ![2, 6, 1024]⟩
abbrev S4352 : Shape := ⟨1, ![4352]⟩
abbrev S4352x1 : Shape := ⟨2, ![4352, 1]⟩
abbrev S_ : Shape := ⟨0, ![]⟩
abbrev S1x1x1024 : Shape := ⟨3, ![1, 1, 1024]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S3072x1024, .bf16⟩
  | .hbm, ⟨2, _⟩ => ⟨S4352x1024, .f32⟩
  | .hbm, ⟨3, _⟩ => ⟨S2x6x1024, .f32⟩
  | .hbm, ⟨4, _⟩ => ⟨S4352x3072, .f32⟩
  | .hbm, ⟨5, _⟩ => ⟨S3072x1024, .f32⟩
  | .hbm, ⟨6, _⟩ => ⟨S4352x1024, .f32⟩
  | .hbm, ⟨7, _⟩ => ⟨S4352, .i32⟩
  | .hbm, ⟨8, _⟩ => ⟨S4352x1, .i32⟩
  | .hbm, ⟨9, _⟩ => ⟨S_, .i32⟩
  | .hbm, ⟨10, _⟩ => ⟨S4352x1, .i32⟩
  | .hbm, ⟨11, _⟩ => ⟨S4352x1, .i1⟩
  | .hbm, ⟨12, _⟩ => ⟨S1x1x1024, .f32⟩
  | .hbm, ⟨13, _⟩ => ⟨S1024, .f32⟩
  | .hbm, ⟨14, _⟩ => ⟨S1x1x1024, .f32⟩
  | .hbm, ⟨15, _⟩ => ⟨S1024, .f32⟩
  | .hbm, ⟨16, _⟩ => ⟨S4352x1024, .i1⟩
  | .hbm, ⟨17, _⟩ => ⟨S4352x1024, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S4352x1024, .f32⟩
  | .hbm, ⟨22, _⟩ => ⟨S4352x1024, .bf16⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.KernelIdealBare.lean ====
/- The gradient body's triple with nothing named of the four outputs: what the frame needs. -/
module

public import proofs.«01_k».proof.Proof.Gen.KernelIdeal.Frame.Runs

@[expose] public section

-- the rectangles have long axes, and membership in one is looked at coordinate by coordinate
set_option maxRecDepth 16384

noncomputable section

namespace Cert.KernelIdeal.Bare

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (7, 8, 9, 10) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .smem S2x4 .f32) (harg1 : arg1.IsWhole) (arg2 : Memref sig .tc .vmem S4352x128 .f32) (harg2 : arg2.IsWhole) (arg3 : Memref sig .tc .vmem S4352x128 .f32) (harg3 : arg3.IsWhole) (arg4 : Memref sig .tc .vmem S4352x128 .f32) (harg4 : arg4.IsWhole) (arg5 : Memref sig .tc .vmem S4352x128 .f32) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4352x128 .bf16) (harg8 : arg8.IsWhole) (arg9 : Memref sig .tc .vmem S4352x128 .bf16) (harg9 : arg9.IsWhole) (arg10 : Memref sig .tc .vmem S4352x128 .bf16) (harg10 : arg10.IsWhole) (arg11 : Memref sig .tc .vmem S1x8x128 .f32) (harg11 : arg11.IsWhole) (arg12 : Memref sig .tc .vmem S14x128x128 .f32) (harg12 : arg12.IsWhole) (arg13 : Memref sig .tc .vmem S2x34x128x128 .f32) (harg13 : arg13.IsWhole) (arg14 : Memref sig .tc .vmem S2x4352x128 .bf16) (harg14 : arg14.IsWhole) (arg15 : Memref sig .tc .vmem S2x4352x128 .bf16) (harg15 : arg15.IsWhole) (arg16 : Memref sig .tc .vmem S2x4352x128 .bf16) (harg16 : arg16.IsWhole)
    (x0 : Vec F S2x4 .f32) (x1 : Vec F S4352x128 .f32) (x2 : Vec F S4352x128 .f32) (x3 : Vec F S4352x128 .f32) (x4 : Vec F S4352x128 .f32) (x5 : Vec F S4352x128 .f32) (x6 : Vec F S4352x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_ret_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_ret_bwd_eq_skeleton]; unfold cc0_ret_bwd_skel
    simp only [k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Bare

end
-- ==== Proof.KernelIdealFrame.lean ====
/- The frame of the gradient's program, the outputs' contents named nowhere. -/
module

public import proofs.«01_k».proof.Proof.KernelIdealBare
public import Idealize.ShloMosaic.Lib.Claim

@[expose] public section

-- the rectangles have long axes, and membership in one is looked at coordinate by coordinate
set_option maxRecDepth 16384

noncomputable section

namespace Cert.KernelIdeal.Bare

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 3 rfl).trans ((hA c 3).trans (V_main_arg0 m c)),
      (Pipeline.RDat.FramePost.arr_in h c 0 rfl).trans ((hA c 0).trans (V_main_arg1 m c)),
      (Pipeline.RDat.FramePost.arr_in h c 4 rfl).trans ((hA c 4).trans (V_main_arg2 m c))⟩) h

/-! ## The pipeline's proof data -/

/-- The output windows this certificate FORGETS (7, 8, 9, 10): nothing reads what the kernel leaves in them, so nothing
    of it is named (Lib/Pipeline/Dat.lean `Dat.toRForget`). -/
def forgets0 : Fin 11 → Bool := fun w => w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Bare

end
-- ==== Proof.SameFirst.lean ====
/- The host code before the retention launch, first half: the two printings have the same statements. -/
module

public import proofs.«01_k».proof.Defs
public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

-- every statement is compared with its counterpart, types and all: a larger budget
set_option maxHeartbeats 8000000 in
theorem part0 : Cert.Kernel.main_part0 (F := F) = Cert.KernelIdeal.main_part0 (F := F) := by
  unfold Cert.Kernel.main_part0 Cert.KernelIdeal.main_part0
  rfl

end Cert.Same

end
-- ==== Proof.SameRest.lean ====
/- The host code before the retention launch, second half: the two printings have the same statements. -/
module

public import proofs.«01_k».proof.Defs
public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

-- every statement is compared with its counterpart, types and all: a larger budget
set_option maxHeartbeats 8000000 in
theorem part1 : Cert.Kernel.main_part1 (F := F) = Cert.KernelIdeal.main_part1 (F := F) := by
  unfold Cert.Kernel.main_part1 Cert.KernelIdeal.main_part1
  rfl

end Cert.Same

end
-- ==== Proof.Same.lean ====
/- The two printings of the retention launch are one program, so its one run gives both frames. -/
module

public import proofs.«01_k».proof.Defs
public import proofs.«01_k».proof.Proof.Gen.Kernel
public import proofs.«01_k».proof.Proof.Gen.KernelIdeal
public import proofs.«01_k».proof.Proof.KernelIdealFrame
public import proofs.«01_k».proof.Proof.SameFirst
public import proofs.«01_k».proof.Proof.SameRest

@[expose] public section

noncomputable section

namespace Cert.Same

open Idealize.ShloMosaic Idealize.SL.Sem

section

variable {F : FTy → Type} [FloatOps F]

-- the body is compared with its counterpart, types and all, and so is what holds it: a larger budget
set_option maxHeartbeats 8000000

/-- The launch's body. -/
theorem body : Cert.Kernel.cc0_ret_bwd (F := F) = Cert.KernelIdeal.cc0_ret_bwd (F := F) := by
  unfold Cert.Kernel.cc0_ret_bwd Cert.KernelIdeal.cc0_ret_bwd
  rfl

/-- The tables of bodies, without and with the pipeline around them. -/
theorem bodies : Cert.Kernel.defs₀ (F := F) = Cert.KernelIdeal.defs₀ (F := F) := by
  unfold Cert.Kernel.defs₀ Cert.KernelIdeal.defs₀
  refine congrArg Defs.onTc ?_
  funext l x
  match l, x with
  | ⟨0, _⟩, (t, s) =>
    dsimp only
    rw [body]
    rfl
theorem table : Cert.Kernel.defs (F := F) = Cert.KernelIdeal.defs (F := F) :=
  congrArg (Pipeline.defs Cert.Kernel.pcfgs) bodies

/-- The host program. -/
theorem host : Cert.Kernel.main (F := F) = Cert.KernelIdeal.main (F := F) := by
  unfold Cert.Kernel.main Cert.KernelIdeal.main
  rw [part0, part1]
  rfl

end

set_option maxHeartbeats 8000000 in
/-- The kernel's frame, from the run of its ideal printing at the float values. -/
theorem frame_kernel : Cert.quiescent_Kernel := fun m ρ _ => by
  have h := Cert.KernelIdeal.Bare.frame (F := Bits) m ρ
  rw [← table, ← host] at h
  exact h

end Cert.Same

end
-- ==== Proof.Lift.lean ====
/- Arrays of extended reals that hold real numbers, and what the vector operations do to them. -/
module

public import proofs.«01_k».proof.Proof.Gen.KernelIdeal.Skeleton
public import Idealize.ShloMosaic.Lib.Pointwise
public import Idealize.ShloMosaic.Lib.ValueIdx
public import Idealize.ShloMosaic.Lib.ValueLayout
public import Idealize.ShloMosaic.Lib.KernelVsHost

@[expose] public section

noncomputable section

namespace Cert.KernelIdeal.Lift

open Idealize.ShloMosaic Idealize.SL.Sem Cert.KernelIdeal.Gen

/-- A tile of real numbers. -/
abbrev Tile := Fin 128 → Fin 128 → ℝ

/-- A matrix of reals as an array. -/
def up2 {φ : FTy} {n0 n1 : ℕ} (f : Fin n0 → Fin n1 → ℝ) : FVec Ideal ⟨2, ![n0, n1]⟩ φ :=
  fun i => ((f (i 0) (i 1) : ℝ) : EReal)

/-- The same with a leading axis of one. -/
def up3 {φ : FTy} {n0 n1 : ℕ} (f : Fin n0 → Fin n1 → ℝ) : FVec Ideal ⟨3, ![1, n0, n1]⟩ φ :=
  fun i => ((f (i 1) (i 2) : ℝ) : EReal)

/-- The same with two leading axes of one. -/
def up4 {φ : FTy} {n0 n1 : ℕ} (f : Fin n0 → Fin n1 → ℝ) : FVec Ideal ⟨4, ![1, 1, n0, n1]⟩ φ :=
  fun i => ((f (i 2) (i 3) : ℝ) : EReal)

/-- One row of reals. -/
def up1 {φ : FTy} {n : ℕ} (f : Fin n → ℝ) : FVec Ideal ⟨2, ![1, n]⟩ φ :=
  fun i => ((f (i 1) : ℝ) : EReal)

/-- The column that a half turn of the 128 columns brings to column `c`. -/
def half (c : Fin 128) : Fin 128 := ⟨(c.val + 64) % 128, Nat.mod_lt _ (by norm_num)⟩

/-- The sum of reals is the sum of extended reals. -/
theorem coe_sum {ι : Type} (s : Finset ι) (f : ι → ℝ) : ((∑ k ∈ s, f k : ℝ) : EReal) = ∑ k ∈ s, (f k : EReal) :=
  map_sum (⟨⟨Real.toEReal, rfl⟩, EReal.coe_add⟩ : ℝ →+ EReal) f s

section
variable {φ : FTy} {n0 n1 : ℕ} (f g : Fin n0 → Fin n1 → ℝ)

theorem mulf_up2 : mulf (up2 (φ := φ) f) (up2 g) = up2 fun r c => f r c * g r c := by
  funext i; exact (EReal.coe_mul _ _).symm

theorem addf_up2 : addf (up2 (φ := φ) f) (up2 g) = up2 fun r c => f r c + g r c := by
  funext i; exact (EReal.coe_add _ _).symm

theorem subf_up2 : subf (up2 (φ := φ) f) (up2 g) = up2 fun r c => f r c - g r c := by
  funext i; exact (EReal.coe_sub _ _).symm

theorem exp_up2 : exp (up2 (φ := φ) f) = up2 fun r c => Real.exp (f r c) := by
  funext i; rfl

theorem truncf_up2 (h) : truncf .bf16 (up2 (φ := .f32) f) h = up2 f := rfl

theorem extf_up2 (h) : extf .f32 (up2 (φ := .bf16) f) h = up2 f := rfl

theorem broadcast_up2 (x : ℝ) : (broadcast ⟨2, ![n0, n1]⟩ (x : EReal) : FVec Ideal ⟨2, ![n0, n1]⟩ φ) = up2 fun _ _ => x := rfl

theorem cast_self (h) : shapeCast ⟨2, ![n0, n1]⟩ (up2 (φ := φ) f) h = up2 f := shapeCast_self _ h

theorem cast_up3 (h) : shapeCast ⟨2, ![n0, n1]⟩ (up3 (φ := φ) f) h = up2 f := by
  funext i; rw [ValueIdx.eq_ix2 i]; exact ValueIdx.shapeCast_1ab_ab_apply _ h _ _

theorem cast_up4 (h) : shapeCast ⟨2, ![n0, n1]⟩ (up4 (φ := φ) f) h = up2 f := by
  have e : ∀ (a : Fin n0) (b : Fin n1), shapeCast ⟨2, ![n0, n1]⟩ (up4 (φ := φ) f) h (ValueIdx.ix2 a b) = up2 (φ := φ) f (ValueIdx.ix2 a b) :=
    fun a b => shapeCast_apply _ h _ (ValueIdx.ix4 (0 : Fin 1) (0 : Fin 1) a b) (by
      rw [Shape.rowMajor_val_four, Shape.rowMajor_val_two]
      show ((0 * 1 + 0) * n0 + a.val) * n1 + b.val = a.val * n1 + b.val
      simp)
  funext i; rw [ValueIdx.eq_ix2 i]; exact e _ _

theorem cast_to3 (h) : shapeCast ⟨3, ![1, n0, n1]⟩ (up2 (φ := φ) f) h = up3 f := by
  funext i; rw [ValueIdx.eq_ix3 i]; exact ValueIdx.shapeCast_ab_1ab_apply _ h _ _ _

theorem cast_to4 (h) : shapeCast ⟨4, ![1, 1, n0, n1]⟩ (up2 (φ := φ) f) h = up4 f := by
  have e : ∀ (u v : Fin 1) (a : Fin n0) (b : Fin n1),
      shapeCast ⟨4, ![1, 1, n0, n1]⟩ (up2 (φ := φ) f) h (ValueIdx.ix4 u v a b) = up4 (φ := φ) f (ValueIdx.ix4 u v a b) :=
    fun u v a b => shapeCast_apply _ h _ (ValueIdx.ix2 a b) (by
      have h0 : u.val = 0 := Nat.lt_one_iff.mp u.isLt
      have h1 : v.val = 0 := Nat.lt_one_iff.mp v.isLt
      rw [Shape.rowMajor_val_four, Shape.rowMajor_val_two]
      show a.val * n1 + b.val = ((u.val * 1 + v.val) * n0 + a.val) * n1 + b.val
      simp [h0, h1])
  funext i; rw [ValueIdx.eq_ix4 i]; exact e _ _ _ _

end

section
variable {φ : FTy} {n : ℕ} (f g : Fin n → ℝ)

theorem mulf_up1 : mulf (up1 (φ := φ) f) (up1 g) = up1 fun c => f c * g c := by
  funext i; exact (EReal.coe_mul _ _).symm

theorem addf_up1 : addf (up1 (φ := φ) f) (up1 g) = up1 fun c => f c + g c := by
  funext i; exact (EReal.coe_add _ _).symm

theorem broadcast_up1 (x : ℝ) : (broadcast ⟨2, ![1, n]⟩ (x : EReal) : FVec Ideal ⟨2, ![1, n]⟩ φ) = up1 fun _ => x := rfl

end

/-- The rotation by 64 columns. -/
theorem rot_up2 {φ : FTy} (f : Tile) (a : Fin S128x128.rank) (n : BitVec 32) (h : S128x128.Rotates a (none : Option (Nat × Fin 2))) (ha : a.val = 1) (hn : n = 64#32) :
    dynamicRotate (s := S128x128) a n (none : Option (Nat × Fin 2)) (up2 (φ := φ) f) h = up2 fun r c => f r (half c) := by
  subst hn
  obtain rfl : a = 1 := Fin.ext ha
  funext i
  rw [Idealize.ShloMosaic.dynamicRotate_apply (s := S128x128) 1 64#32 _ h i (ValueIdx.ix2 (i 0) (half (i 1))) (by
    intro b
    match b with
    | ⟨0, _⟩ => rfl
    | ⟨1, _⟩ =>
      show ((i 1).val + 64) % 128 = ((i 1).val + 128 - 64 % 128) % 128
      omega)]
  rfl

section
variable {φ ψ : FTy} (f g : Tile)

/-- Rows by rows. -/
theorem nt_up2 : matmul dot_S128x128_S128x128_S128x128_1_1_0_0_n_n none (up2 (φ := φ) f) (up2 (φ := ψ) g) (constant S128x128 .f32 0x00000000#32)
    = up2 fun r c => ∑ k, f r k * g c k := by
  funext i
  rw [matmul, Ideal.matmul_def, Ideal.matmul_apply₁ _ (a := 1) rfl (K := 128) rfl]
  show Ideal.ofBits .f32 0x00000000#32 + _ = _
  rw [Ideal.ofBits_zero_f32, zero_add]
  refine Eq.trans ?_ (coe_sum _ _).symm
  exact Finset.sum_congr rfl fun k _ => (EReal.coe_mul _ _).symm

/-- Rows by columns. -/
theorem nn_up2 : matmul dot_S128x128_S128x128_S128x128_1_0_0_1_n_n none (up2 (φ := φ) f) (up2 (φ := ψ) g) (constant S128x128 .f32 0x00000000#32)
    = up2 fun r c => ∑ k, f r k * g k c := by
  funext i
  rw [matmul, Ideal.matmul_def, Ideal.matmul_apply₁ _ (a := 1) rfl (K := 128) rfl]
  show Ideal.ofBits .f32 0x00000000#32 + _ = _
  rw [Ideal.ofBits_zero_f32, zero_add]
  refine Eq.trans ?_ (coe_sum _ _).symm
  exact Finset.sum_congr rfl fun k _ => (EReal.coe_mul _ _).symm

/-- Columns by columns. -/
theorem tn_up2 : matmul dot_S128x128_S128x128_S128x128_0_0_1_1_n_n none (up2 (φ := φ) f) (up2 (φ := ψ) g) (constant S128x128 .f32 0x00000000#32)
    = up2 fun r c => ∑ k, f k r * g k c := by
  funext i
  rw [matmul, Ideal.matmul_def, Ideal.matmul_apply₁ _ (a := 0) rfl (K := 128) rfl]
  show Ideal.ofBits .f32 0x00000000#32 + _ = _
  rw [Ideal.ofBits_zero_f32, zero_add]
  refine Eq.trans ?_ (coe_sum _ _).symm
  exact Finset.sum_congr rfl fun k _ => (EReal.coe_mul _ _).symm

/-- The column sums, as one row. -/
theorem colsum_up2 (ax : List (Fin S128x128.rank)) (h hφ) (hacc : (0#32 : BitVec 32) = 0#32) (h') (hax : ax = [0]) :
    shapeCast S1x128 (multiReduction (s := S128x128) (φ := .f32) .add ax S128 (up2 (φ := .f32) f) (0#32) h hφ hacc) h' = up1 fun c => ∑ r, f r c := by
  subst hax
  funext i; rw [ValueIdx.eq_ix2 i]
  refine (ValueIdx.shapeCast_a_1a_apply _ h' _ _).trans ?_
  refine (Ideal.multiReduction_add_single _ _ h hφ hacc _).trans ?_
  exact (coe_sum _ _).symm

end

/-- The sum of one row, spread over the row again. -/
theorem total_up1 (f : Fin 128 → ℝ) (ax : List (Fin S1x1x128.rank)) (h h' h'' hφ) (hacc : (0#32 : BitVec 32) = 0#32) (hp) (hax : ax = [1, 2]) :
    extractAt ![0, 0, 0] (shapeCast S1x1x1 (multiReduction (φ := .f32) .add ax S1 (shapeCast S1x1x128 (up1 (φ := .f32) f) h) (0#32) h' hφ hacc) h'') hp
      = ((∑ c, f c : ℝ) : EReal) := by
  subst hax
  have e : (shapeCast S1x1x128 (up1 (φ := .f32) f) h) = fun i => ((f (i 2) : ℝ) : EReal) := by
    funext i; rw [ValueIdx.eq_ix3 i]; exact ValueIdx.shapeCast_ab_1ab_apply _ h _ _ _
  rw [e]
  refine (Ideal.multiReduction_add_total _ _ h' (by decide) hφ hacc _).trans ?_
  rw [sum_idx3]
  simp only [Finset.univ_unique, Finset.sum_singleton]
  exact (coe_sum _ _).symm

end Cert.KernelIdeal.Lift
-- ==== Proof.Finite.lean ====
/- The precondition, read: finite argument arrays are arrays of real numbers. -/
module

public import proofs.«01_k».proof.Defs
public import proofs.«01_k».proof.Proof.Lift

@[expose] public section

set_option maxRecDepth 16384

noncomputable section

namespace Cert.Finite

open Idealize.ShloMosaic
open Cert.KernelIdeal.Lift (up2)

/-- The shape relations of the precondition's operations. -/
theorem facts : Cert.Pre_finite.Facts where
  bcast_S_S4352x3072 := by decide
  bcast_S_S2x4 := by decide
  bcast_S_S4352x512 := by decide

/-- A value whose magnitude compares below some value is a real number. -/
theorem real_of_lt (x t : EReal) (h : Ideal.cmp .olt (max x (-x)) t = 1#1) : ((x.toReal : ℝ) : EReal) = x := by
  have hlt : max x (-x) < t := by
    by_contra hn
    have e : Ideal.cmp .olt (max x (-x)) t = BitVec.ofBool (decide (max x (-x) < t)) := rfl
    rw [e, decide_eq_false hn] at h
    exact absurd h (by decide)
  have h1 : x < ⊤ := (le_max_left _ _).trans_lt (hlt.trans_le le_top)
  have h2 : -x < ⊤ := (le_max_right _ _).trans_lt (hlt.trans_le le_top)
  refine EReal.coe_toReal h1.ne ?_
  intro hb
  rw [hb, EReal.neg_bot] at h2
  exact lt_irrefl _ h2

/-- An array whose magnitudes all compare below an array is real. -/
theorem real2 {n0 n1 : ℕ} (v t : FVec Ideal ⟨2, ![n0, n1]⟩ .f32) (h : cmpf .olt (Host.absf v) t = fun _ => 1#1) :
    ∃ f : Fin n0 → Fin n1 → ℝ, v = up2 (φ := .f32) f := by
  refine ⟨fun a b => EReal.toReal (v (ValueIdx.ix2 a b)), ?_⟩
  funext i
  have e : (ValueIdx.ix2 (i 0) (i 1) : (⟨2, ![n0, n1]⟩ : Shape).Idx) = i := by
    funext b
    match b with
    | ⟨0, _⟩ => rfl
    | ⟨1, _⟩ => rfl
  show v i = ((EReal.toReal (v (ValueIdx.ix2 (i 0) (i 1))) : ℝ) : EReal)
  rw [e]
  exact (real_of_lt (v i) (t i) (congrFun h i)).symm

end Cert.Finite

end
-- ==== Proof.Chunk.lean ====
module

public import Idealize.ShloMosaic.PureOps.Ideal

@[expose] public section

namespace Cert.Chunk

open Finset

variable {ι κ : Type} [Fintype ι] [Fintype κ]

/-- The weight the retention gives key row `c` of chunk `b` in query row `r` of chunk `a`. -/
def wt (dm : ι → ι → ℝ) (xi ze : ι → ℝ) (cd : ℝ) (a : ℕ) (r : ι) (b : ℕ) (c : ι) : ℝ :=
  if a = b then dm r c else if b < a then xi r * cd ^ (a - b - 1) * ze c else 0

/-- The number of steps between the two rows, the exponent of the decay in `wt`. -/
def ex (e : ι → ι → ℝ) (xe zx : ι → ℝ) (w : ℝ) (a : ℕ) (r : ι) (b : ℕ) (c : ι) : ℝ :=
  if a = b then e r c else if b < a then xe r + w * ((a - b - 1 : ℕ) : ℝ) + zx c else 0

/-- What chunk `b` adds to the state. -/
def upd (K V : ℕ → ι → κ → ℝ) (ze : ι → ℝ) (b : ℕ) (e f : κ) : ℝ :=
  ∑ c, (K b c e * ze c) * V b c f

/-- The state before chunk `j`, as the recurrence builds it. -/
def st (K V : ℕ → ι → κ → ℝ) (ze : ι → ℝ) (cd : ℝ) : ℕ → κ → κ → ℝ
  | 0, _, _ => 0
  | j + 1, e, f => st K V ze cd j e f * cd + upd K V ze j e f

/-- The gradient of the state after `t` chunks taken from the last of `n`. -/
def gst (Q O : ℕ → ι → κ → ℝ) (xi : ι → ℝ) (cd : ℝ) (n : ℕ) : ℕ → κ → κ → ℝ
  | 0, _, _ => 0
  | t + 1, e, f => gst Q O xi cd n t e f * cd + upd Q O xi (n - 1 - t) e f

theorem st_eq (K V : ℕ → ι → κ → ℝ) (ze : ι → ℝ) (cd : ℝ) (j : ℕ) (e f : κ) :
    st K V ze cd j e f = ∑ b ∈ range j, cd ^ (j - b - 1) * upd K V ze b e f := by
  induction j with
  | zero => simp [st]
  | succ j ih =>
    rw [st, ih, sum_range_succ, sum_mul]
    congr 1
    · refine sum_congr rfl fun b hb => ?_
      have hb := mem_range.1 hb
      rw [show j + 1 - b - 1 = (j - b - 1) + 1 by omega, pow_succ]; ring
    · simp

theorem gst_eq (Q O : ℕ → ι → κ → ℝ) (xi : ι → ℝ) (cd : ℝ) (n t : ℕ) (ht : t ≤ n) (e f : κ) :
    gst Q O xi cd n t e f = ∑ a ∈ Ico (n - t) n, cd ^ (a - (n - t)) * upd Q O xi a e f := by
  induction t with
  | zero => simp [gst]
  | succ t ih =>
    rw [gst, ih (by omega), sum_mul]
    have hI : Ico (n - (t + 1)) n = insert (n - 1 - t) (Ico (n - t) n) := by
      ext x; simp only [mem_Ico, mem_insert]; omega
    rw [hI, sum_insert (by simp only [mem_Ico]; omega), add_comm]
    congr 1
    · rw [show n - 1 - t - (n - (t + 1)) = 0 by omega]; simp
    · refine sum_congr rfl fun a ha => ?_
      have ha := mem_Ico.1 ha
      rw [show a - (n - (t + 1)) = (a - (n - t)) + 1 by omega, pow_succ]; ring

/-- The gradient of the state at chunk `j`: the later chunks, each decayed by the chunks between. -/
theorem gst_at (Q O : ℕ → ι → κ → ℝ) (xi : ι → ℝ) (cd : ℝ) (n j : ℕ) (hj : j < n) (e f : κ) :
    gst Q O xi cd n (n - 1 - j) e f
      = ∑ a ∈ range n, if j < a then cd ^ (a - j - 1) * upd Q O xi a e f else 0 := by
  rw [gst_eq _ _ _ _ _ _ (by omega), ← sum_filter]
  refine sum_congr ?_ fun a ha => ?_
  · ext x; simp only [mem_Ico, mem_filter, mem_range]; omega
  · rw [show a - (n - (n - 1 - j)) = a - j - 1 by omega]

theorem st_at (K V : ℕ → ι → κ → ℝ) (ze : ι → ℝ) (cd : ℝ) (n j : ℕ) (hj : j < n) (e f : κ) :
    st K V ze cd j e f = ∑ b ∈ range n, if b < j then cd ^ (j - b - 1) * upd K V ze b e f else 0 := by
  rw [st_eq, ← sum_filter]
  refine sum_congr ?_ fun a ha => rfl
  ext x; simp only [mem_filter, mem_range]; omega

/-- A sum over the chunks, split in the chunk itself and the ones before it. -/
theorem split_before (n a : ℕ) (ha : a < n) (X : ℝ) (Y : ℕ → ℝ) :
    ∑ b ∈ range n, (if a = b then X else if b < a then Y b else 0)
      = X + ∑ b ∈ range n, if b < a then Y b else 0 := by
  have h : ∀ b, (if a = b then X else if b < a then Y b else 0)
      = (if a = b then X else 0) + if b < a then Y b else 0 := by
    intro b; split_ifs <;> first | omega | simp
  simp only [h, sum_add_distrib]
  rw [sum_ite_eq, if_pos (mem_range.2 ha)]

theorem split_after (n b : ℕ) (hb : b < n) (X : ℝ) (Y : ℕ → ℝ) :
    ∑ a ∈ range n, (if a = b then X else if b < a then Y a else 0)
      = X + ∑ a ∈ range n, if b < a then Y a else 0 := by
  have h : ∀ a, (if a = b then X else if b < a then Y a else 0)
      = (if a = b then X else 0) + if b < a then Y a else 0 := by
    intro a; split_ifs <;> first | omega | simp
  simp only [h, sum_add_distrib]
  rw [sum_ite_eq', if_pos (mem_range.2 hb)]

/-- The gradient of the queries: own chunk and carried state together are the sum over all rows. -/
theorem dq_eq (K V O : ℕ → ι → κ → ℝ) (dm : ι → ι → ℝ) (xi ze : ι → ℝ) (cd : ℝ) (n a : ℕ)
    (ha : a < n) (r : ι) (e : κ) :
    (∑ c, ((∑ f, O a r f * V a c f) * dm r c) * K a c e)
        + (∑ f, O a r f * st K V ze cd a e f) * xi r
      = ∑ b ∈ range n, ∑ c, ((∑ f, O a r f * V b c f) * wt dm xi ze cd a r b c) * K b c e := by
  have h : ∀ b, (∑ c, ((∑ f, O a r f * V b c f) * wt dm xi ze cd a r b c) * K b c e)
      = if a = b then (∑ c, ((∑ f, O a r f * V a c f) * dm r c) * K a c e)
        else if b < a then (∑ f, O a r f * (cd ^ (a - b - 1) * upd K V ze b e f)) * xi r else 0 := by
    intro b
    unfold wt upd
    split_ifs with h1 h2
    · subst h1; rfl
    · simp only [mul_sum, sum_mul]
      rw [sum_comm]
      exact sum_congr rfl fun _ _ => sum_congr rfl fun _ _ => by ring
    · simp
  simp only [h]
  rw [split_before n a ha]
  congr 1
  simp only [st_at K V ze cd n a ha, mul_sum, sum_mul]
  rw [sum_comm]
  refine sum_congr rfl fun b _ => ?_
  split_ifs
  · exact sum_congr rfl fun _ _ => by simp only [mul_sum, sum_mul]
  · simp

/-- The gradient of the keys. -/
theorem dk_eq (Q V O : ℕ → ι → κ → ℝ) (dm : ι → ι → ℝ) (xi ze : ι → ℝ) (cd : ℝ) (n b : ℕ)
    (hb : b < n) (c : ι) (e : κ) :
    (∑ r, ((∑ f, O b r f * V b c f) * dm r c) * Q b r e)
        + (∑ f, V b c f * gst Q O xi cd n (n - 1 - b) e f) * ze c
      = ∑ a ∈ range n, ∑ r, ((∑ f, O a r f * V b c f) * wt dm xi ze cd a r b c) * Q a r e := by
  have h : ∀ a, (∑ r, ((∑ f, O a r f * V b c f) * wt dm xi ze cd a r b c) * Q a r e)
      = if a = b then (∑ r, ((∑ f, O b r f * V b c f) * dm r c) * Q b r e)
        else if b < a then (∑ f, V b c f * (cd ^ (a - b - 1) * upd Q O xi a e f)) * ze c else 0 := by
    intro a
    unfold wt upd
    split_ifs with h1 h2
    · subst h1; rfl
    · simp only [mul_sum, sum_mul]
      rw [sum_comm]
      exact sum_congr rfl fun _ _ => sum_congr rfl fun _ _ => by ring
    · simp
  simp only [h]
  rw [split_after n b hb]
  congr 1
  simp only [gst_at Q O xi cd n b hb, mul_sum, sum_mul]
  rw [sum_comm]
  refine sum_congr rfl fun b _ => ?_
  split_ifs
  · exact sum_congr rfl fun _ _ => by simp only [mul_sum, sum_mul]
  · simp

/-- The gradient of the values. -/
theorem dv_eq (Q K O : ℕ → ι → κ → ℝ) (dm : ι → ι → ℝ) (xi ze : ι → ℝ) (cd : ℝ) (n b : ℕ)
    (hb : b < n) (c : ι) (f : κ) :
    (∑ r, ((∑ e, Q b r e * K b c e) * dm r c) * O b r f)
        + (∑ e, (K b c e * ze c) * gst Q O xi cd n (n - 1 - b) e f)
      = ∑ a ∈ range n, ∑ r, ((∑ e, Q a r e * K b c e) * wt dm xi ze cd a r b c) * O a r f := by
  have h : ∀ a, (∑ r, ((∑ e, Q a r e * K b c e) * wt dm xi ze cd a r b c) * O a r f)
      = if a = b then (∑ r, ((∑ e, Q b r e * K b c e) * dm r c) * O b r f)
        else if b < a then (∑ e, (K b c e * ze c) * (cd ^ (a - b - 1) * upd Q O xi a e f)) else 0 := by
    intro a
    unfold wt upd
    split_ifs with h1 h2
    · subst h1; rfl
    · simp only [mul_sum, sum_mul]
      rw [sum_comm]
      exact sum_congr rfl fun _ _ => sum_congr rfl fun _ _ => by ring
    · simp
  simp only [h]
  rw [split_after n b hb]
  congr 1
  simp only [gst_at Q O xi cd n b hb, mul_sum]
  rw [sum_comm]
  refine sum_congr rfl fun b _ => ?_
  split_ifs
  · rfl
  · simp

/-- The chunks strictly between two chunks, counted. -/
theorem between (cd : ℝ) (n a b : ℕ) (ha : a < n) :
    (∑ j ∈ range n, if j < a then (if b < j then cd ^ (a - j - 1) * cd * cd ^ (j - b - 1) else 0) else 0)
      = if b < a then ((a - b - 1 : ℕ) : ℝ) * cd ^ (a - b - 1) else 0 := by
  have h : ∀ j, (if j < a then (if b < j then cd ^ (a - j - 1) * cd * cd ^ (j - b - 1) else 0) else 0)
      = if j ∈ Ioo b a then cd ^ (a - b - 1) else 0 := by
    intro j
    simp only [mem_Ioo]
    by_cases h1 : j < a <;> by_cases h2 : b < j <;> simp only [h1, h2, and_self, and_true, and_false, if_true, if_false]
    rw [← pow_succ, ← pow_add, show a - j - 1 + 1 + (j - b - 1) = a - b - 1 by omega]
  simp only [h]
  rw [sum_ite_mem, show range n ∩ Ioo b a = Ioo b a by ext x; simp only [mem_inter, mem_range, mem_Ioo]; omega,
    sum_const, Nat.card_Ioo, nsmul_eq_mul]
  split_ifs
  · rfl
  · rw [show a - b - 1 = 0 by omega]; simp

/-- The product of scores and their gradients at a pair of rows. -/
def pair (Q K V O : ℕ → ι → κ → ℝ) (a : ℕ) (r : ι) (b : ℕ) (c : ι) : ℝ :=
  (∑ e, Q a r e * K b c e) * (∑ f, O a r f * V b c f)

theorem pair_eq (Q K V O : ℕ → ι → κ → ℝ) (a : ℕ) (r : ι) (b : ℕ) (c : ι) :
    pair Q K V O a r b c = ∑ e, ∑ f, Q a r e * K b c e * (O a r f * V b c f) := by
  rw [pair, sum_mul_sum]

/-- Two chunks' updates multiplied entry by entry, row pair by row pair. -/
theorem upd_mul (Q K V O : ℕ → ι → κ → ℝ) (xi ze : ι → ℝ) (a b : ℕ) :
    (∑ e, ∑ f, upd Q O xi a e f * upd K V ze b e f)
      = ∑ r, ∑ c, xi r * ze c * pair Q K V O a r b c := by
  simp only [upd, pair_eq, sum_mul_sum]
  simp only [mul_sum]
  have h1 : ∀ g : κ → κ → ι → ι → ℝ, (∑ e, ∑ f, ∑ r, ∑ c, g e f r c) = ∑ r, ∑ c, ∑ e, ∑ f, g e f r c := by
    intro g
    calc (∑ e, ∑ f, ∑ r, ∑ c, g e f r c) = ∑ e, ∑ r, ∑ f, ∑ c, g e f r c :=
          sum_congr rfl fun _ _ => sum_comm
      _ = ∑ r, ∑ e, ∑ f, ∑ c, g e f r c := sum_comm
      _ = ∑ r, ∑ e, ∑ c, ∑ f, g e f r c :=
          sum_congr rfl fun _ _ => sum_congr rfl fun _ _ => sum_comm
      _ = _ := sum_congr rfl fun _ _ => sum_comm
  rw [h1]
  exact sum_congr rfl fun _ _ => sum_congr rfl fun _ _ => sum_congr rfl fun _ _ =>
    sum_congr rfl fun _ _ => by ring

/-- The carried state under the queries' rows, row pair by row pair. -/
theorem row_state (Q K V O : ℕ → ι → κ → ℝ) (xi ze xe : ι → ℝ) (a b : ℕ) :
    (∑ r, ∑ f, (O a r f * ∑ e, (Q a r e * xi r) * upd K V ze b e f) * xe r)
      = ∑ r, ∑ c, xi r * ze c * xe r * pair Q K V O a r b c := by
  refine sum_congr rfl fun r _ => ?_
  simp only [upd, pair_eq, mul_sum, sum_mul]
  have h1 : ∀ g : κ → κ → ι → ℝ, (∑ f, ∑ e, ∑ c, g e f c) = ∑ c, ∑ e, ∑ f, g e f c := by
    intro g
    calc (∑ f, ∑ e, ∑ c, g e f c) = ∑ e, ∑ f, ∑ c, g e f c := sum_comm
      _ = ∑ e, ∑ c, ∑ f, g e f c := sum_congr rfl fun _ _ => sum_comm
      _ = _ := sum_comm
  rw [h1]
  exact sum_congr rfl fun _ _ => sum_congr rfl fun _ _ => sum_congr rfl fun _ _ => by ring

/-- The state's gradient under the keys' rows, row pair by row pair. -/
theorem col_state (Q K V O : ℕ → ι → κ → ℝ) (xi ze zx : ι → ℝ) (a b : ℕ) :
    (∑ c, ∑ f, (V b c f * ∑ e, (K b c e * ze c) * upd Q O xi a e f) * zx c)
      = ∑ r, ∑ c, xi r * ze c * zx c * pair Q K V O a r b c := by
  rw [row_state K Q O V ze xi zx b a, sum_comm]
  refine sum_congr rfl fun r _ => sum_congr rfl fun c _ => ?_
  have : pair K Q O V b c a r = pair Q K V O a r b c := by
    unfold pair
    congr 1 <;> exact sum_congr rfl fun _ _ => mul_comm _ _
  rw [this]; ring

/-- The gradient of the logarithm of the decay: own chunk, carried state, the chunks between, and
the state's gradient add up to the sum over all pairs of rows, each with its exponent. -/
theorem dlg_eq (Q K V O : ℕ → ι → κ → ℝ) (dm e : ι → ι → ℝ) (xi ze xe zx : ι → ℝ) (cd w : ℝ) (n : ℕ) :
    (∑ j ∈ range n,
        ((∑ r, ∑ c, ((∑ f, O j r f * V j c f) * ((∑ d, Q j r d * K j c d) * dm r c)) * e r c)
          + (∑ r, ∑ f, (O j r f * ∑ d, (Q j r d * xi r) * st K V ze cd j d f) * xe r)
          + w * (∑ d, ∑ f, (gst Q O xi cd n (n - 1 - j) d f * cd) * st K V ze cd j d f)
          + (∑ c, ∑ f, (V j c f * ∑ d, (K j c d * ze c) * gst Q O xi cd n (n - 1 - j) d f) * zx c)))
      = ∑ a ∈ range n, ∑ b ∈ range n, ∑ r, ∑ c,
          ex e xe zx w a r b c * (wt dm xi ze cd a r b c * pair Q K V O a r b c) := by
  have hR : ∀ a b, (∑ r, ∑ c, ex e xe zx w a r b c * (wt dm xi ze cd a r b c * pair Q K V O a r b c))
      = if a = b then ∑ r, ∑ c, e r c * (dm r c * pair Q K V O a r a c)
        else if b < a then cd ^ (a - b - 1) * (∑ r, ∑ c, xi r * ze c * xe r * pair Q K V O a r b c)
          + w * (((a - b - 1 : ℕ) : ℝ) * cd ^ (a - b - 1) * ∑ r, ∑ c, xi r * ze c * pair Q K V O a r b c)
          + cd ^ (a - b - 1) * (∑ r, ∑ c, xi r * ze c * zx c * pair Q K V O a r b c)
        else 0 := by
    intro a b
    unfold wt ex
    split_ifs with h1 h2
    · subst h1; rfl
    · simp only [mul_sum, ← sum_add_distrib]
      exact sum_congr rfl fun _ _ => sum_congr rfl fun _ _ => by ring
    · simp
  simp only [hR]
  rw [sum_congr rfl fun a ha => split_before n a (mem_range.1 ha) _ _]
  simp only [sum_add_distrib]
  have hI : ∀ (A : ℕ → ℕ → ℝ) (B : ℕ → ℕ → ℝ), (∑ a ∈ range n, ∑ b ∈ range n, if b < a then A a b + B a b else 0)
      = (∑ a ∈ range n, ∑ b ∈ range n, if b < a then A a b else 0)
        + ∑ a ∈ range n, ∑ b ∈ range n, if b < a then B a b else 0 := by
    intro A B
    simp only [← sum_add_distrib]
    exact sum_congr rfl fun _ _ => sum_congr rfl fun _ _ => by split_ifs <;> simp
  rw [hI, hI, ← add_assoc, ← add_assoc]
  congr 1; congr 1; congr 1
  · refine sum_congr rfl fun a _ => sum_congr rfl fun r _ => sum_congr rfl fun c _ => ?_
    unfold pair; ring
  · refine sum_congr rfl fun a ha => ?_
    simp only [st_at K V ze cd n a (mem_range.1 ha)]
    have : ∀ b, (if b < a then cd ^ (a - b - 1) * (∑ r, ∑ c, xi r * ze c * xe r * pair Q K V O a r b c) else 0)
        = ∑ r, ∑ f, (O a r f * ∑ d, (Q a r d * xi r)
            * (if b < a then cd ^ (a - b - 1) * upd K V ze b d f else 0)) * xe r := by
      intro b
      split_ifs
      · rw [← row_state]
        simp only [mul_sum, sum_mul]
        exact sum_congr rfl fun _ _ => sum_congr rfl fun _ _ => sum_congr rfl fun _ _ => by ring
      · simp
    simp only [this]
    rw [sum_comm (s := range n)]
    refine sum_congr rfl fun r _ => ?_
    rw [sum_comm (s := range n)]
    refine sum_congr rfl fun f _ => ?_
    rw [← sum_mul, ← mul_sum]
    congr 2
    simp only [mul_sum]
    exact sum_comm
  · rw [← mul_sum]
    have h1 : ∀ j ∈ range n, (∑ d, ∑ f, (gst Q O xi cd n (n - 1 - j) d f * cd) * st K V ze cd j d f)
        = ∑ a ∈ range n, ∑ b ∈ range n, (if j < a then (if b < j then cd ^ (a - j - 1) * cd * cd ^ (j - b - 1) else 0) else 0)
            * ∑ r, ∑ c, xi r * ze c * pair Q K V O a r b c := by
      intro j hj
      have hj := mem_range.1 hj
      simp only [← upd_mul, st_at K V ze cd n j hj, gst_at Q O xi cd n j hj]
      simp only [sum_mul]
      simp only [mul_sum]
      have h2 : ∀ g : κ → κ → ℕ → ℕ → ℝ, (∑ e, ∑ f, ∑ r ∈ range n, ∑ c ∈ range n, g e f r c)
          = ∑ r ∈ range n, ∑ c ∈ range n, ∑ e, ∑ f, g e f r c := by
        intro g
        calc (∑ e, ∑ f, ∑ r ∈ range n, ∑ c ∈ range n, g e f r c)
            = ∑ e, ∑ r ∈ range n, ∑ f, ∑ c ∈ range n, g e f r c :=
              sum_congr rfl fun _ _ => sum_comm
          _ = ∑ r ∈ range n, ∑ e, ∑ f, ∑ c ∈ range n, g e f r c := sum_comm
          _ = ∑ r ∈ range n, ∑ e, ∑ c ∈ range n, ∑ f, g e f r c :=
              sum_congr rfl fun _ _ => sum_congr rfl fun _ _ => sum_comm
          _ = _ := sum_congr rfl fun _ _ => sum_comm
      rw [h2]
      refine sum_congr rfl fun a _ => sum_congr rfl fun b _ => ?_
      refine sum_congr rfl fun d _ => ?_
      refine sum_congr rfl fun f _ => ?_
      split_ifs <;> ring
    rw [sum_congr rfl h1]
    have h3 : ∀ a ∈ range n, ∀ b, (if b < a then w * (((a - b - 1 : ℕ) : ℝ) * cd ^ (a - b - 1) * ∑ r, ∑ c, xi r * ze c * pair Q K V O a r b c) else 0)
        = w * ∑ j ∈ range n, (if j < a then (if b < j then cd ^ (a - j - 1) * cd * cd ^ (j - b - 1) else 0) else 0)
            * ∑ r, ∑ c, xi r * ze c * pair Q K V O a r b c := by
      intro a ha b
      rw [← sum_mul, between cd n a b (mem_range.1 ha)]
      split_ifs <;> simp
    rw [sum_congr rfl fun a ha => sum_congr rfl fun b _ => h3 a ha b]
    simp only [← mul_sum]
    congr 1
    rw [sum_comm]
    exact sum_congr rfl fun _ _ => sum_comm
  · rw [sum_comm (s := range n) (t := range n)]
    refine sum_congr rfl fun b hb => ?_
    simp only [gst_at Q O xi cd n b (mem_range.1 hb)]
    have : ∀ a, (if b < a then cd ^ (a - b - 1) * (∑ r, ∑ c, xi r * ze c * zx c * pair Q K V O a r b c) else 0)
        = ∑ c, ∑ f, (V b c f * ∑ d, (K b c d * ze c)
            * (if b < a then cd ^ (a - b - 1) * upd Q O xi a d f else 0)) * zx c := by
      intro a
      split_ifs
      · rw [← col_state]
        simp only [mul_sum, sum_mul]
        exact sum_congr rfl fun _ _ => sum_congr rfl fun _ _ => sum_congr rfl fun _ _ => by ring
      · simp
    simp only [this]
    rw [sum_comm (s := range n)]
    refine sum_congr rfl fun r _ => ?_
    rw [sum_comm (s := range n)]
    refine sum_congr rfl fun f _ => ?_
    rw [← sum_mul, ← mul_sum]
    congr 2
    simp only [mul_sum]
    exact sum_comm

end Cert.Chunk
-- ==== Proof.Spec.lean ====
/- The real quantities the kernel computes: rotated rows, tables of decays, states and their gradients. -/
module

public import proofs.«01_k».proof.Proof.Lift
public import proofs.«01_k».proof.Proof.Chunk

@[expose] public section

noncomputable section

namespace Cert.KernelIdeal.Spec

open Idealize.ShloMosaic Cert.KernelIdeal.Lift

/-- The factor the rotated queries are scaled by. -/
def qs : ℝ := (Ideal.ofBits .f32 0x3DB504F3#32).toReal

theorem qs_coe : Ideal.ofBits .f32 0x3DB504F3#32 = ((qs : ℝ) : EReal) := by
  unfold qs
  have h : Ideal.ofBits .f32 0x3DB504F3#32 = (((11863283 : ℝ) * (2 ^ 27)⁻¹ : ℝ) : EReal) := by
    rw [EReal.coe_mul]; simp [Ideal.ofBits, Ideal.ieee]
  rw [h, EReal.toReal_coe]

theorem n128_coe : Ideal.ofBits .f32 0x43000000#32 = ((128 : ℝ) : EReal) := by
  have h : (128 : ℝ) = (8388608 : ℝ) * (2 ^ 16)⁻¹ := by norm_num
  rw [h, EReal.coe_mul]; simp [Ideal.ofBits, Ideal.ieee]

theorem n127_coe : Ideal.ofBits .f32 0x42FE0000#32 = ((127 : ℝ) : EReal) := by
  have h : (127 : ℝ) = (16646144 : ℝ) * (2 ^ 17)⁻¹ := by norm_num
  rw [h, EReal.coe_mul]; simp [Ideal.ofBits, Ideal.ieee]

/-- Rows turned by the rotary angles. -/
def rope {n : ℕ} (cs sn x : Fin n → Fin 128 → ℝ) (r : Fin n) (c : Fin 128) : ℝ :=
  x r c * cs r c + x r (half c) * sn r c

/-- The transpose of `rope`. -/
def ropeT {n : ℕ} (cs sn x : Fin n → Fin 128 → ℝ) (r : Fin n) (c : Fin 128) : ℝ :=
  x r c * cs r c + x r (half c) * sn r (half c)

/-- The rotated queries, scaled. -/
def ropeQ {n : ℕ} (cs sn x : Fin n → Fin 128 → ℝ) (r : Fin n) (c : Fin 128) : ℝ := rope cs sn x r c * qs

/-- Row `r` of chunk `m`. -/
def row (m : ℕ) (r : Fin 128) : Fin 4352 := ⟨(128 * m + r.val) % 4352, Nat.mod_lt _ (by norm_num)⟩

/-- Chunk `m` of a long matrix. -/
def ch (x : Fin 4352 → Fin 128 → ℝ) (m : ℕ) : Tile := fun r c => x (row m r) c

/-- The chunk the forward direction takes `j`-th. -/
def mf (j : ℕ) : ℕ := (j + 32) % 34

/-- The chunk the backward direction takes `j`-th. -/
def mb (j : ℕ) : ℕ := 33 - j

/-- The decays of one direction. -/
structure Dir where
  /-- the weights inside a chunk -/
  dm : Tile
  /-- the decay from the chunk's start to a row -/
  xi : Fin 128 → ℝ
  /-- the decay from a row to the chunk's end -/
  ze : Fin 128 → ℝ
  /-- the decay over a chunk -/
  cd : ℝ
  /-- the exponents of `dm` -/
  e : Tile
  /-- the exponents of `xi` -/
  xe : Fin 128 → ℝ
  /-- the exponents of `ze` -/
  zx : Fin 128 → ℝ

/-- The seven tables of a direction. -/
def Dir.tab (a : Dir) : ℕ → Tile
  | 0 => a.dm
  | 1 => fun r _ => a.xi r
  | 2 => fun r _ => a.ze r
  | 3 => fun _ _ => a.cd
  | 4 => a.e
  | 5 => fun r _ => a.xe r
  | _ => fun r _ => a.zx r

/-- The fourteen tables of both. -/
def tabs (a b : Dir) (n : ℕ) : Tile := if n < 7 then a.tab n else b.tab (n - 7)

/-- The forward direction at log decay `l`. -/
def fwd (l : ℝ) : Dir where
  dm r c := if c ≤ r then Real.exp (l * ((r.val : ℝ) - (c.val : ℝ))) else 0
  xi r := Real.exp (l * ((r.val : ℝ) + 1))
  ze c := Real.exp (l * (127 - (c.val : ℝ)))
  cd := Real.exp (l * 128)
  e r c := if c ≤ r then (r.val : ℝ) - (c.val : ℝ) else 0
  xe r := (r.val : ℝ) + 1
  zx c := 127 - (c.val : ℝ)

/-- The backward direction at log decay `l`. -/
def bwd (l : ℝ) : Dir where
  dm r c := if r < c then Real.exp (l * ((c.val : ℝ) - (r.val : ℝ) - 1)) else 0
  xi r := Real.exp (l * (127 - (r.val : ℝ)))
  ze c := Real.exp (l * (c.val : ℝ))
  cd := Real.exp (l * 128)
  e r c := if r < c then (c.val : ℝ) - (r.val : ℝ) - 1 else 0
  xe r := 127 - (r.val : ℝ)
  zx c := (c.val : ℝ)

/-- One direction's step gradients, from tiles `q k v o` of a chunk, the state `s` before it and the gradient `g` after it. -/
def dvT (a : Dir) (q k o g : Tile) : Tile := fun c f =>
  (∑ r, ((∑ e, q r e * k c e) * a.dm r c) * o r f) + ∑ e, (k c e * a.ze c) * g e f

def dkT (a : Dir) (q v o g : Tile) : Tile := fun c e =>
  (∑ r, ((∑ f, o r f * v c f) * a.dm r c) * q r e) + (∑ f, v c f * g e f) * a.ze c

def dqT (a : Dir) (k v o s : Tile) : Tile := fun r e =>
  (∑ c, ((∑ f, o r f * v c f) * a.dm r c) * k c e) + (∑ f, o r f * s e f) * a.xi r

/-- One chunk's part of the decay's gradient, column by column. -/
def dlT (a : Dir) (q k v o s g : Tile) (c : Fin 128) : ℝ :=
  (∑ r, ((∑ f, o r f * v c f) * ((∑ d, q r d * k c d) * a.dm r c)) * a.e r c)
    + (∑ r, (o r c * ∑ d, (q r d * a.xi r) * s d c) * a.xe r)
    + 128 * (∑ d, (g d c * a.cd) * s d c)
    + (∑ r, (v r c * ∑ d, (k r d * a.ze r) * g d c) * a.zx r)

end Cert.KernelIdeal.Spec
-- ==== Proof.Loads.lean ====
/- What the loads of a chunk, of a table and of a state read, in real numbers. -/
module

public import proofs.«01_k».proof.Proof.Spec
public import Idealize.ShloMosaic.Lib.WholeRead

@[expose] public section

noncomputable section

namespace Cert.KernelIdeal.Loads

open Idealize.ShloMosaic Idealize.ShloMosaic.TcCoe Cert.KernelIdeal Cert.KernelIdeal.Lift Cert.KernelIdeal.Spec

/-- A chunk of a long matrix. -/
theorem load_ch {A : Memref sig .tc .vmem S4352x128 .f32} {X : BufTy.Contents (Elt Ideal) A.view.ty}
    {x : Fin 4352 → Fin 128 → ℝ} (h : A.view.read (Elt Ideal) X = up2 (φ := .f32) x) (off : Fin 2 → ℕ) (m : ℕ)
    (ho : off = ![128 * m, 0]) (hm : m < 34) (hb) :
    A.view.readAt (Elt Ideal) (Rect.unit (s := S4352x128) off ![128, 128] hb).toLoadRect X = up2 (φ := .f32) (ch x m) := by
  subst ho
  funext i
  show A.view.read (Elt Ideal) X _ = _
  rw [h]
  have h0 : (i 0).val < 128 := (i 0).isLt
  show ((x _ _ : ℝ) : EReal) = ((x _ _ : ℝ) : EReal)
  congr 2
  · apply Fin.ext
    show 128 * m + 1 * (i 0).val = (128 * m + (i 0).val) % 4352
    omega
  · apply Fin.ext
    show 0 + 1 * (i 1).val = (i 1).val
    omega

/-- A table. -/
theorem load_tab {A : Memref sig .tc .vmem S14x128x128 .f32} {X : BufTy.Contents (Elt Ideal) A.view.ty}
    {T : ℕ → Tile} (h : A.view.read (Elt Ideal) X = fun i => ((T (i 0).val (i 1) (i 2) : ℝ) : EReal)) (n : ℕ) (hb) :
    A.view.readAt (Elt Ideal) (Rect.unit (s := S14x128x128) ![n, 0, 0] ![1, 128, 128] hb).toLoadRect X = up3 (φ := .f32) (T n) := by
  funext i
  show A.view.read (Elt Ideal) X _ = _
  rw [h]
  have h0 : (i 0).val = 0 := Nat.lt_one_iff.mp (i 0).isLt
  show ((T _ _ _ : ℝ) : EReal) = ((T _ _ _ : ℝ) : EReal)
  congr 2
  · show n + 1 * (i 0).val = n
    omega
  · apply Fin.ext
    show 0 + 1 * (i 1).val = (i 1).val
    omega
  · apply Fin.ext
    show 0 + 1 * (i 2).val = (i 2).val
    omega

/-- A state. -/
theorem load_st {A : Memref sig .tc .vmem S2x34x128x128 .f32} {X : BufTy.Contents (Elt Ideal) A.view.ty}
    {S : ℕ → ℕ → Tile} (h : A.view.read (Elt Ideal) X = fun i => ((S (i 0).val (i 1).val (i 2) (i 3) : ℝ) : EReal))
    (off : Fin 4 → ℕ) (d j : ℕ) (ho : off = ![d, j, 0, 0]) (hb) :
    A.view.readAt (Elt Ideal) (Rect.unit (s := S2x34x128x128) off ![1, 1, 128, 128] hb).toLoadRect X = up4 (φ := .f32) (S d j) := by
  subst ho
  funext i
  show A.view.read (Elt Ideal) X _ = _
  rw [h]
  have h0 : (i 0).val = 0 := Nat.lt_one_iff.mp (i 0).isLt
  have h1 : (i 1).val = 0 := Nat.lt_one_iff.mp (i 1).isLt
  show ((S _ _ _ _ : ℝ) : EReal) = ((S _ _ _ _ : ℝ) : EReal)
  congr 2
  · show d + 1 * (i 0).val = d
    omega
  · show j + 1 * (i 1).val = j
    omega
  · apply Fin.ext
    show 0 + 1 * (i 2).val = (i 2).val
    omega
  · apply Fin.ext
    show 0 + 1 * (i 3).val = (i 3).val
    omega

end Cert.KernelIdeal.Loads
-- ==== Proof.Slab.lean ====
/- The chunk matrices of the two directions, and a slab of two long matrices written chunk by chunk. -/
module

public import proofs.«01_k».proof.Proof.Loads
public import Idealize.ShloMosaic.Lib.Pipeline.ValueKit.Tiles

@[expose] public section

noncomputable section

namespace Cert.KernelIdeal.Spec

open Idealize.ShloMosaic Cert.KernelIdeal Cert.KernelIdeal.Lift

/-- What one head's step reads. -/
structure In where
  /-- queries, keys, values, the result's gradient, and the rotary tables -/
  (q k v o cs sn : Fin 4352 → Fin 128 → ℝ)
  /-- the forward and the backward decays -/
  (a b : Dir)

namespace In

variable (I : In) (m : ℕ → ℕ) (d : Dir)

def Q (j : ℕ) : Tile := ch (ropeQ I.cs I.sn I.q) (m j)
def K (j : ℕ) : Tile := ch (rope I.cs I.sn I.k) (m j)
def V (j : ℕ) : Tile := ch I.v (m j)
def O (j : ℕ) : Tile := ch I.o (m j)

/-- The state before the `j`-th chunk. -/
def S (j : ℕ) : Tile := Cert.Chunk.st (I.K m) (I.V m) d.ze d.cd j

/-- The state's gradient after `t` chunks from the last. -/
def G (t : ℕ) : Tile := Cert.Chunk.gst (I.Q m) (I.O m) d.xi d.cd 34 t

/-- The gradients of the `j`-th chunk's rows. -/
def dv (j : ℕ) : Tile := dvT d (I.Q m j) (I.K m j) (I.O m j) (I.G m d (33 - j))
def dk (j : ℕ) : Tile := dkT d (I.Q m j) (I.V m j) (I.O m j) (I.G m d (33 - j))
def dq (j : ℕ) : Tile := dqT d (I.K m j) (I.V m j) (I.O m j) (I.S m d j)
def dl (j : ℕ) : Fin 128 → ℝ := dlT d (I.Q m j) (I.K m j) (I.V m j) (I.O m j) (I.S m d j) (I.G m d (33 - j))

end In

/-- A row's entry in a slab whose two matrices hold the tiles `G0` and `G1`, each in its own order. -/
def slab (G0 G1 : ℕ → Tile) (d R : ℕ) (c : Fin 128) : ℝ :=
  if d = 0 then G0 ((R / 128 + 2) % 34) ⟨R % 128, Nat.mod_lt _ (by norm_num)⟩ c
  else G1 (33 - R / 128) ⟨R % 128, Nat.mod_lt _ (by norm_num)⟩ c

/-- Both matrices' tiles are written after `t` steps from the last. -/
def Slab (G0 G1 : ℕ → Tile) (t : ℕ) (L : List (View.Piece (Elt Ideal) S2x4352x128 .bf16)) : Prop :=
  (∀ y : S2x4352x128.Idx, View.AllAt L y ((slab G0 G1 (y 0).val (y 1).val (y 2) : ℝ) : EReal))
    ∧ ∀ y : S2x4352x128.Idx, (if (y 0).val = 0 then 33 - ((y 1).val / 128 + 2) % 34 else (y 1).val / 128) < t → ∃ p ∈ L, y ∈ p.1.set

theorem slab_nil (G0 G1 : ℕ → Tile) : Slab G0 G1 0 [] :=
  ⟨fun y => View.allAt_nil y _, fun _ h => absurd h (Nat.not_lt_zero _)⟩

theorem slab_step {G0 G1 : ℕ → Tile} {k : ℕ} (hk : k < 34) {L : List (View.Piece (Elt Ideal) S2x4352x128 .bf16)}
    (hL : Slab G0 G1 k L) {off1 off0 : Fin 3 → ℕ} (h1 : off1 = ![1, 128 * k, 0]) (h0 : off0 = ![0, 128 * ((65 - k) % 34), 0])
    {hb1 hb0} {w1 w0 : S1x128x128.Idx → Elt Ideal .bf16}
    (hw1 : w1 = up3 (φ := .bf16) (G1 (33 - k))) (hw0 : w0 = up3 (φ := .bf16) (G0 (33 - k))) :
    Slab G0 G1 (k + 1) (⟨Rect.unit (s := S2x4352x128) off1 ![1, 128, 128] hb1, w1⟩ :: ⟨Rect.unit (s := S2x4352x128) off0 ![1, 128, 128] hb0, w0⟩ :: L) := by
  subst h1 h0 hw1 hw0
  refine ⟨fun y => View.allAt_cons_unit _ _ _ _ _ ?_ (View.allAt_cons_unit _ _ _ _ _ ?_ (hL.1 y)), fun y hy => ?_⟩
  · intro x hx
    have e0 : (y 0).val = 1 + (x 0).val := hx 0
    have e1 : (y 1).val = 128 * k + (x 1).val := hx 1
    have e2 : (y 2).val = 0 + (x 2).val := hx 2
    have x1 : (x 1).val < 128 := (x 1).isLt
    show ((G1 (33 - k) (x 1) (x 2) : ℝ) : EReal) = _
    unfold slab
    rw [if_neg (by omega)]
    congr 2
    · congr 1; omega
    · apply Fin.ext; show (x 1).val = (y 1).val % 128; omega
    · apply Fin.ext; show (x 2).val = (y 2).val; omega
  · intro x hx
    have e0 : (y 0).val = 0 + (x 0).val := hx 0
    have e1 : (y 1).val = 128 * ((65 - k) % 34) + (x 1).val := hx 1
    have e2 : (y 2).val = 0 + (x 2).val := hx 2
    have x0 : (x 0).val < 1 := (x 0).isLt
    have x1 : (x 1).val < 128 := (x 1).isLt
    show ((G0 (33 - k) (x 1) (x 2) : ℝ) : EReal) = _
    unfold slab
    rw [if_pos (by omega)]
    congr 2
    · congr 1; omega
    · apply Fin.ext; show (x 1).val = (y 1).val % 128; omega
    · apply Fin.ext; show (x 2).val = (y 2).val; omega
  · have y0 : (y 0).val < 2 := (y 0).isLt
    have y1 : (y 1).val < 4352 := (y 1).isLt
    have y2 : (y 2).val < 128 := (y 2).isLt
    by_cases hk' : (if (y 0).val = 0 then 33 - ((y 1).val / 128 + 2) % 34 else (y 1).val / 128) < k
    · obtain ⟨p, hp, hy⟩ := hL.2 y hk'
      exact ⟨p, List.mem_cons_of_mem _ (List.mem_cons_of_mem _ hp), hy⟩
    · by_cases hd : (y 0).val = 0
      · rw [if_pos hd] at hy hk'
        refine ⟨⟨Rect.unit _ _ hb0, _⟩, List.mem_cons_of_mem _ List.mem_cons_self, (Rect.mem_set_unit (inb := hb0)).2 fun a => ?_⟩
        match a with
        | ⟨0, _⟩ => show 0 ≤ (y 0).val ∧ (y 0).val < 0 + 1; omega
        | ⟨1, _⟩ => show 128 * ((65 - k) % 34) ≤ (y 1).val ∧ (y 1).val < 128 * ((65 - k) % 34) + 128; omega
        | ⟨2, _⟩ => show 0 ≤ (y 2).val ∧ (y 2).val < 0 + 128; omega
      · rw [if_neg hd] at hy hk'
        refine ⟨⟨Rect.unit _ _ hb1, _⟩, List.mem_cons_self, (Rect.mem_set_unit (inb := hb1)).2 fun a => ?_⟩
        match a with
        | ⟨0, _⟩ => show 1 ≤ (y 0).val ∧ (y 0).val < 1 + 1; omega
        | ⟨1, _⟩ => show 128 * k ≤ (y 1).val ∧ (y 1).val < 128 * k + 128; omega
        | ⟨2, _⟩ => show 0 ≤ (y 2).val ∧ (y 2).val < 0 + 128; omega

/-- A slab all written reads as its tiles. -/
theorem slab_read {G0 G1 : ℕ → Tile} {L : List (View.Piece (Elt Ideal) S2x4352x128 .bf16)} (hL : Slab G0 G1 34 L)
    {A : Memref sig .tc .vmem S2x4352x128 .bf16} (f : A.view.ty.Contents (Elt Ideal)) :
    A.view.read (Elt Ideal) (A.view.writes (Elt Ideal) f L)
      = fun y => ((slab G0 G1 (y 0).val (y 1).val (y 2) : ℝ) : EReal) := by
  funext y
  have y1 : (y 1).val < 4352 := (y 1).isLt
  have hc : ∃ p ∈ L, y ∈ p.1.set := hL.2 y (by split_ifs <;> omega)
  rw [View.read_writes_apply_eq_canon _ f y L hc]
  exact View.canon_eq_of_allAt L y _ hc (hL.1 y)

end Cert.KernelIdeal.Spec
-- ==== Proof.Pay.lean ====
/- The payloads of the kernel's loops on real tiles. -/
module

public import proofs.«01_k».proof.Proof.Spec

@[expose] public section

noncomputable section

namespace Cert.KernelIdeal.Pay

open Idealize.ShloMosaic Cert.KernelIdeal Cert.KernelIdeal.Gen Cert.KernelIdeal.Lift Cert.KernelIdeal.Spec

/-- The scalars the payloads spread. -/
theorem qs_up2 : (broadcast S128x128 (Scalar.ofBits (F := Ideal) .f32 0x3DB504F3#32)) = up2 (φ := .f32) fun _ _ => qs := by
  funext i; exact qs_coe

theorem n128_up1 : (broadcast S1x128 (Scalar.ofBits (F := Ideal) .f32 0x43000000#32)) = up1 (φ := .f32) fun _ => 128 := by
  funext i; exact n128_coe

theorem zero_up2 : k0_pay95 (F := Ideal) = up2 (φ := .f32) fun _ _ => 0 := by
  funext i; exact Ideal.ofBits_zero_f32

theorem zero_up1 : k0_pay98 (F := Ideal) = up1 (φ := .f32) fun _ => 0 := by
  funext i; exact Ideal.ofBits_zero_f32

theorem pay13_up (cs sn q : Tile) :
    k0_pay13 (up2 (φ := .f32) cs) (up2 (φ := .f32) sn) (up2 (φ := .f32) q)
      = (up2 (φ := .f32) (ropeQ cs sn q)) := by
  simp (disch := first | rfl | decide) only [k0_pay13, k0_pay11, k0_pay12, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay16_up (cs sn q : Tile) :
    k0_pay16 (up2 (φ := .f32) cs) (up2 (φ := .f32) sn) (up2 (φ := .f32) q)
      = (up2 (φ := .bf16) (ropeQ cs sn q)) := by
  simp (disch := first | rfl | decide) only [k0_pay16, k0_pay13, k0_pay11, k0_pay12, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay43_up (cs sn q : Tile) :
    k0_pay43 (up2 (φ := .f32) cs) (up2 (φ := .f32) sn) (up2 (φ := .f32) q)
      = (up2 (φ := .f32) (ropeQ cs sn q)) := by
  simp (disch := first | rfl | decide) only [k0_pay43, k0_pay41, k0_pay42, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay46_up (cs sn q : Tile) :
    k0_pay46 (up2 (φ := .f32) cs) (up2 (φ := .f32) sn) (up2 (φ := .f32) q)
      = (up2 (φ := .bf16) (ropeQ cs sn q)) := by
  simp (disch := first | rfl | decide) only [k0_pay46, k0_pay43, k0_pay41, k0_pay42, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay14_up (cs sn q : Tile) :
    k0_pay14 (up2 (φ := .f32) cs) (up2 (φ := .f32) sn) (up2 (φ := .f32) q)
      = (up2 (φ := .f32) (rope cs sn q)) := by
  simp (disch := first | rfl | decide) only [k0_pay14, k0_pay11, k0_pay12, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay17_up (cs sn q : Tile) :
    k0_pay17 (up2 (φ := .f32) cs) (up2 (φ := .f32) sn) (up2 (φ := .f32) q)
      = (up2 (φ := .bf16) (rope cs sn q)) := by
  simp (disch := first | rfl | decide) only [k0_pay17, k0_pay14, k0_pay11, k0_pay12, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay44_up (cs sn q : Tile) :
    k0_pay44 (up2 (φ := .f32) cs) (up2 (φ := .f32) sn) (up2 (φ := .f32) q)
      = (up2 (φ := .f32) (rope cs sn q)) := by
  simp (disch := first | rfl | decide) only [k0_pay44, k0_pay41, k0_pay42, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay47_up (cs sn q : Tile) :
    k0_pay47 (up2 (φ := .f32) cs) (up2 (φ := .f32) sn) (up2 (φ := .f32) q)
      = (up2 (φ := .bf16) (rope cs sn q)) := by
  simp (disch := first | rfl | decide) only [k0_pay47, k0_pay44, k0_pay41, k0_pay42, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay10_up (s cs sn k v t3 t2 : Tile) :
    k0_pay10 (up2 (φ := .f32) s) (up2 (φ := .f32) cs) (up2 (φ := .f32) sn) (up2 (φ := .f32) k) (up2 (φ := .f32) v) (up3 (φ := .f32) t3) (up3 (φ := .f32) t2)
      = up2 (φ := .f32) fun e f => s e f * t3 e f + ∑ c, (rope cs sn k c e * t2 c e) * v c f := by
  simp (disch := first | rfl | decide) only [k0_pay10, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay97_up (s cs sn k v t3 t2 : Tile) :
    k0_pay97 (up2 (φ := .f32) s) (up2 (φ := .f32) cs) (up2 (φ := .f32) sn) (up2 (φ := .f32) k) (up2 (φ := .f32) v) (up3 (φ := .f32) t3) (up3 (φ := .f32) t2)
      = up2 (φ := .f32) fun e f => s e f * t3 e f + ∑ c, (rope cs sn k c e * t2 c e) * v c f := by
  simp (disch := first | rfl | decide) only [k0_pay97, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay18_up (v : Tile) :
    k0_pay18 (up2 (φ := .f32) v)
      = (up2 (φ := .bf16) v) := by
  simp (disch := first | rfl | decide) only [k0_pay18, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay19_up (v : Tile) :
    k0_pay19 (up2 (φ := .f32) v)
      = (up2 (φ := .bf16) v) := by
  simp (disch := first | rfl | decide) only [k0_pay19, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay48_up (v : Tile) :
    k0_pay48 (up2 (φ := .f32) v)
      = (up2 (φ := .bf16) v) := by
  simp (disch := first | rfl | decide) only [k0_pay48, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay49_up (v : Tile) :
    k0_pay49 (up2 (φ := .f32) v)
      = (up2 (φ := .bf16) v) := by
  simp (disch := first | rfl | decide) only [k0_pay49, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay21_up (v : Tile) :
    k0_pay21 (up2 (φ := .f32) v)
      = (up2 (φ := .bf16) v) := by
  simp (disch := first | rfl | decide) only [k0_pay21, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay51_up (v : Tile) :
    k0_pay51 (up2 (φ := .f32) v)
      = (up2 (φ := .bf16) v) := by
  simp (disch := first | rfl | decide) only [k0_pay51, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay22_up (v : Tile) :
    k0_pay22 (up3 (φ := .f32) v)
      = (up2 (φ := .f32) v) := by
  simp (disch := first | rfl | decide) only [k0_pay22, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay23_up (v : Tile) :
    k0_pay23 (up3 (φ := .f32) v)
      = (up2 (φ := .f32) v) := by
  simp (disch := first | rfl | decide) only [k0_pay23, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay24_up (v : Tile) :
    k0_pay24 (up3 (φ := .f32) v)
      = (up2 (φ := .f32) v) := by
  simp (disch := first | rfl | decide) only [k0_pay24, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay25_up (v : Tile) :
    k0_pay25 (up3 (φ := .f32) v)
      = (up2 (φ := .f32) v) := by
  simp (disch := first | rfl | decide) only [k0_pay25, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay52_up (v : Tile) :
    k0_pay52 (up3 (φ := .f32) v)
      = (up2 (φ := .f32) v) := by
  simp (disch := first | rfl | decide) only [k0_pay52, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay53_up (v : Tile) :
    k0_pay53 (up3 (φ := .f32) v)
      = (up2 (φ := .f32) v) := by
  simp (disch := first | rfl | decide) only [k0_pay53, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay54_up (v : Tile) :
    k0_pay54 (up3 (φ := .f32) v)
      = (up2 (φ := .f32) v) := by
  simp (disch := first | rfl | decide) only [k0_pay54, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay55_up (v : Tile) :
    k0_pay55 (up3 (φ := .f32) v)
      = (up2 (φ := .f32) v) := by
  simp (disch := first | rfl | decide) only [k0_pay55, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay15_up (v : Tile) :
    k0_pay15 (up4 (φ := .f32) v)
      = (up2 (φ := .f32) v) := by
  simp (disch := first | rfl | decide) only [k0_pay15, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay45_up (v : Tile) :
    k0_pay45 (up4 (φ := .f32) v)
      = (up2 (φ := .f32) v) := by
  simp (disch := first | rfl | decide) only [k0_pay45, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay20_up (v : Tile) :
    k0_pay20 (up4 (φ := .f32) v)
      = (up2 (φ := .bf16) v) := by
  simp (disch := first | rfl | decide) only [k0_pay20, k0_pay15, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay50_up (v : Tile) :
    k0_pay50 (up4 (φ := .f32) v)
      = (up2 (φ := .bf16) v) := by
  simp (disch := first | rfl | decide) only [k0_pay50, k0_pay45, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay9_up (v : Tile) :
    k0_pay9 (up2 (φ := .f32) v)
      = (up4 (φ := .f32) v) := by
  simp (disch := first | rfl | decide) only [k0_pay9, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay96_up (v : Tile) :
    k0_pay96 (up2 (φ := .f32) v)
      = (up4 (φ := .f32) v) := by
  simp (disch := first | rfl | decide) only [k0_pay96, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay37_up (v : Tile) :
    k0_pay37 (up2 (φ := .f32) v)
      = up3 (φ := .bf16) v := by
  simp (disch := first | rfl | decide) only [k0_pay37, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay38_up (v : Tile) :
    k0_pay38 (up2 (φ := .f32) v)
      = up3 (φ := .bf16) v := by
  simp (disch := first | rfl | decide) only [k0_pay38, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay39_up (v : Tile) :
    k0_pay39 (up2 (φ := .f32) v)
      = up3 (φ := .bf16) v := by
  simp (disch := first | rfl | decide) only [k0_pay39, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay2_up (v : Tile) :
    k0_pay2 (up2 (φ := .f32) v)
      = up3 (φ := .bf16) v := by
  simp (disch := first | rfl | decide) only [k0_pay2, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay3_up (v : Tile) :
    k0_pay3 (up2 (φ := .f32) v)
      = up3 (φ := .bf16) v := by
  simp (disch := first | rfl | decide) only [k0_pay3, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay4_up (v : Tile) :
    k0_pay4 (up2 (φ := .f32) v)
      = up3 (φ := .bf16) v := by
  simp (disch := first | rfl | decide) only [k0_pay4, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay34_up (a : Dir) (q k o g : Tile) :
    k0_pay34 (up2 (φ := .f32) k) (up2 (φ := .bf16) q) (up2 (φ := .bf16) k) (up2 (φ := .bf16) o) (up2 (φ := .bf16) g) (up2 (φ := .f32) a.dm) (up3 (φ := .f32) (fun r _ => a.ze r))
      = (up2 (φ := .f32) (dvT a q k o g)) := by
  simp (disch := first | rfl | decide) only [k0_pay34, k0_pay26, k0_pay33, k0_pay24, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay63_up (a : Dir) (q k o g : Tile) :
    k0_pay63 (up2 (φ := .f32) k) (up2 (φ := .bf16) q) (up2 (φ := .bf16) k) (up2 (φ := .bf16) o) (up2 (φ := .bf16) g) (up2 (φ := .f32) a.dm) (up3 (φ := .f32) (fun r _ => a.ze r))
      = (up2 (φ := .f32) (dvT a q k o g)) := by
  simp (disch := first | rfl | decide) only [k0_pay63, k0_pay56, k0_pay62, k0_pay54, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay31_up (a : Dir) (k v o s : Tile) :
    k0_pay31 (up2 (φ := .bf16) k) (up2 (φ := .bf16) v) (up2 (φ := .bf16) o) (up2 (φ := .bf16) s) (up2 (φ := .f32) a.dm) (up3 (φ := .f32) (fun r _ => a.xi r))
      = (up2 (φ := .f32) (dqT a k v o s)) := by
  simp (disch := first | rfl | decide) only [k0_pay31, k0_pay29, k0_pay27, k0_pay23, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay60_up (a : Dir) (k v o s : Tile) :
    k0_pay60 (up2 (φ := .bf16) k) (up2 (φ := .bf16) v) (up2 (φ := .bf16) o) (up2 (φ := .bf16) s) (up2 (φ := .f32) a.dm) (up2 (φ := .f32) (fun r _ => a.xi r))
      = (up2 (φ := .f32) (dqT a k v o s)) := by
  simp (disch := first | rfl | decide) only [k0_pay60, k0_pay58, k0_pay57, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay32_up (a : Dir) (q v o g : Tile) :
    k0_pay32 (up2 (φ := .bf16) q) (up2 (φ := .bf16) v) (up2 (φ := .bf16) o) (up2 (φ := .bf16) g) (up2 (φ := .f32) a.dm) (up3 (φ := .f32) (fun r _ => a.ze r))
      = (up2 (φ := .f32) (dkT a q v o g)) := by
  simp (disch := first | rfl | decide) only [k0_pay32, k0_pay29, k0_pay27, k0_pay24, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay61_up (a : Dir) (q v o g : Tile) :
    k0_pay61 (up2 (φ := .bf16) q) (up2 (φ := .bf16) v) (up2 (φ := .bf16) o) (up2 (φ := .bf16) g) (up2 (φ := .f32) a.dm) (up3 (φ := .f32) (fun r _ => a.ze r))
      = (up2 (φ := .f32) (dkT a q v o g)) := by
  simp (disch := first | rfl | decide) only [k0_pay61, k0_pay58, k0_pay57, k0_pay54, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay40_up (a : Dir) (g q o : Tile) :
    k0_pay40 (up2 (φ := .f32) g) (up2 (φ := .bf16) o) (up2 (φ := .f32) (fun _ _ => a.cd)) (k0_pay30 (up2 (φ := .f32) q) (up3 (φ := .f32) (fun r _ => a.xi r)))
      = up2 (φ := .f32) fun e f => g e f * a.cd + ∑ r, (q r e * a.xi r) * o r f := by
  simp (disch := first | rfl | decide) only [k0_pay40, k0_pay30, k0_pay23, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay5_up (a : Dir) (g q o : Tile) :
    k0_pay5 (up2 (φ := .f32) g) (up2 (φ := .bf16) o) (up2 (φ := .f32) (fun _ _ => a.cd)) (k0_pay59 (up2 (φ := .f32) q) (up2 (φ := .f32) (fun r _ => a.xi r)))
      = up2 (φ := .f32) fun e f => g e f * a.cd + ∑ r, (q r e * a.xi r) * o r f := by
  simp (disch := first | rfl | decide) only [k0_pay5, k0_pay59, mulf_up2, addf_up2, subf_up2, truncf_up2, extf_up2, cast_self, cast_up3, cast_up4, cast_to3, cast_to4, mulf_up1, addf_up1, rot_up2, nt_up2, nn_up2, tn_up2, colsum_up2, qs_up2, n128_up1]
  try rfl

theorem pay36_up (a : Dir) (q k v o s g : Tile) (l : Fin 128 → ℝ) :
    k0_pay36 (up2 (φ := .f32) g) (up2 (φ := .f32) v) (up2 (φ := .f32) s) (up2 (φ := .f32) (fun _ _ => a.cd))
        (k0_pay28 (up1 (φ := .f32) l) (up2 (φ := .bf16) q) (up2 (φ := .bf16) k) (up2 (φ := .bf16) v) (up2 (φ := .bf16) o) (up2 (φ := .f32) a.dm) (up3 (φ := .f32) a.e))
        (k0_pay33 (up2 (φ := .f32) k) (up2 (φ := .bf16) g) (up3 (φ := .f32) (fun r _ => a.ze r)))
        (k0_pay35 (up2 (φ := .f32) q) (up2 (φ := .f32) o) (up2 (φ := .bf16) s) (up3 (φ := .f32) (fun r _ => a.xi r))) (up3 (φ := .f32) (fun r _ => a.xe r)) (up3 (φ := .f32) (fun r _ => a.zx r))
      = up1 (φ := .f32) fun c => l c + dlT a q k v o s g c := by
  simp (disch := first | rfl | decide) only [k0_pay36, k0_pay28, k0_pay26, k0_pay27, k0_pay33, k0_pay24, k0_pay35, k0_pay30, k0_pay23, mulf_up2, addf_up2, subf_up2, truncf_up2, extf_up2, cast_self, cast_up3, cast_up4, cast_to3, cast_to4, mulf_up1, addf_up1, rot_up2, nt_up2, nn_up2, tn_up2, colsum_up2, qs_up2, n128_up1]
  refine congrArg _ (funext fun c => ?_)
  simp only [dlT]
  ring

theorem pay1_up (a : Dir) (q k v o s g : Tile) (l : Fin 128 → ℝ) :
    k0_pay1 (up2 (φ := .f32) v) (up2 (φ := .f32) s)
        (k0_pay62 (up2 (φ := .f32) k) (up2 (φ := .bf16) g) (up3 (φ := .f32) (fun r _ => a.ze r)))
        (k0_pay64 (up1 (φ := .f32) l) (up2 (φ := .f32) q) (up2 (φ := .f32) o) (up2 (φ := .bf16) q) (up2 (φ := .bf16) k) (up2 (φ := .bf16) v) (up2 (φ := .bf16) o)
          (up2 (φ := .bf16) s) (up2 (φ := .f32) a.dm) (up2 (φ := .f32) (fun r _ => a.xi r)) (up3 (φ := .f32) a.e) (up3 (φ := .f32) (fun r _ => a.xe r)))
        (k0_pay65 (up2 (φ := .f32) g) (up3 (φ := .f32) (fun _ _ => a.cd))) (up3 (φ := .f32) (fun r _ => a.zx r))
      = up1 (φ := .f32) fun c => l c + dlT a q k v o s g c := by
  simp (disch := first | rfl | decide) only [k0_pay1, k0_pay62, k0_pay64, k0_pay65, k0_pay56, k0_pay57, k0_pay59, k0_pay54, k0_pay55, mulf_up2, addf_up2, subf_up2, truncf_up2, extf_up2, cast_self, cast_up3, cast_up4, cast_to3, cast_to4, mulf_up1, addf_up1, rot_up2, nt_up2, nn_up2, tn_up2, colsum_up2, qs_up2, n128_up1]
  refine congrArg _ (funext fun c => ?_)
  simp only [dlT]
  ring

theorem pay8_up (x y : Tile) :
    k0_pay8 (up3 (φ := .bf16) x) (up3 (φ := .bf16) y) = up2 (φ := .bf16) fun r c => x r c + y r c := by
  simp (disch := first | rfl | decide) only [k0_pay8, mulf_up2, addf_up2, subf_up2, truncf_up2, extf_up2, cast_self, cast_up3, cast_up4, cast_to3, cast_to4, mulf_up1, addf_up1, rot_up2, nt_up2, nn_up2, tn_up2, colsum_up2, qs_up2, n128_up1]

theorem pay68_up (cs sn x y : Tile) :
    k0_pay68 (up2 (φ := .f32) cs) (up2 (φ := .f32) sn) (up3 (φ := .bf16) x) (up3 (φ := .bf16) y)
      = up2 (φ := .bf16) fun r c => ropeT cs sn (fun r c => x r c + y r c) r c * qs := by
  simp (disch := first | rfl | decide) only [k0_pay68, k0_pay66, k0_pay67, mulf_up2, addf_up2, subf_up2, truncf_up2, extf_up2, cast_self, cast_up3, cast_up4, cast_to3, cast_to4, mulf_up1, addf_up1, rot_up2, nt_up2, nn_up2, tn_up2, colsum_up2, qs_up2, n128_up1]
  rfl

theorem pay69_up (cs sn x y : Tile) :
    k0_pay69 (up2 (φ := .f32) cs) (up2 (φ := .f32) sn) (up3 (φ := .bf16) x) (up3 (φ := .bf16) y)
      = up2 (φ := .bf16) (ropeT cs sn (fun r c => x r c + y r c)) := by
  simp (disch := first | rfl | decide) only [k0_pay69, k0_pay66, k0_pay67, mulf_up2, addf_up2, subf_up2, truncf_up2, extf_up2, cast_self, cast_up3, cast_up4, cast_to3, cast_to4, mulf_up1, addf_up1, rot_up2, nt_up2, nn_up2, tn_up2, colsum_up2, qs_up2, n128_up1]
  rfl

end Cert.KernelIdeal.Pay
-- ==== Proof.Sweep.lean ====
/- What the backward sweep's loop carries and writes, in real numbers. -/
module

public import proofs.«01_k».proof.Proof.Slab
public import proofs.«01_k».proof.Proof.Pay
public import proofs.«01_k».proof.Proof.Gen.KernelIdeal.Loops

@[expose] public section

noncomputable section

namespace Cert.KernelIdeal.Sweep

open Idealize.ShloMosaic Idealize.ShloMosaic.TcCoe Cert.KernelIdeal Cert.KernelIdeal.Gen Cert.KernelIdeal.Lift Cert.KernelIdeal.Spec Cert.KernelIdeal.Loads Cert.KernelIdeal.Pay

theorem trips : k0_t2_loop.trips = 34 := by decide +kernel

variable (𝒱 : Variants) (c : Dev nD) (bd : Option 𝒱.V) (i : grid0.Coords) (arg1 : Memref sig .tc .smem S2x4 .f32) (harg1 : arg1.IsWhole) (arg2 : Memref sig .tc .vmem S4352x128 .f32) (harg2 : arg2.IsWhole) (arg3 : Memref sig .tc .vmem S4352x128 .f32) (harg3 : arg3.IsWhole) (arg4 : Memref sig .tc .vmem S4352x128 .f32) (harg4 : arg4.IsWhole) (arg5 : Memref sig .tc .vmem S4352x128 .f32) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4352x128 .bf16) (harg8 : arg8.IsWhole) (arg9 : Memref sig .tc .vmem S4352x128 .bf16) (harg9 : arg9.IsWhole) (arg10 : Memref sig .tc .vmem S4352x128 .bf16) (harg10 : arg10.IsWhole) (arg11 : Memref sig .tc .vmem S1x8x128 .f32) (harg11 : arg11.IsWhole) (arg12 : Memref sig .tc .vmem S14x128x128 .f32) (harg12 : arg12.IsWhole) (arg13 : Memref sig .tc .vmem S2x34x128x128 .f32) (harg13 : arg13.IsWhole) (arg14 : Memref sig .tc .vmem S2x4352x128 .bf16) (harg14 : arg14.IsWhole) (arg15 : Memref sig .tc .vmem S2x4352x128 .bf16) (harg15 : arg15.IsWhole) (arg16 : Memref sig .tc .vmem S2x4352x128 .bf16) (harg16 : arg16.IsWhole)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg12 : BufTy.Contents (Elt Ideal) arg12.view.ty) (X_arg13 : BufTy.Contents (Elt Ideal) arg13.view.ty)
  (I : In)

/-- The buffers the loop loads from hold the head's inputs and tables. -/
structure Reads : Prop where
  h2 : arg2.view.read (Elt Ideal) X_arg2 = up2 (φ := .f32) I.q
  h3 : arg3.view.read (Elt Ideal) X_arg3 = up2 (φ := .f32) I.k
  h4 : arg4.view.read (Elt Ideal) X_arg4 = up2 (φ := .f32) I.v
  h5 : arg5.view.read (Elt Ideal) X_arg5 = up2 (φ := .f32) I.o
  h6 : arg6.view.read (Elt Ideal) X_arg6 = up2 (φ := .f32) I.cs
  h7 : arg7.view.read (Elt Ideal) X_arg7 = up2 (φ := .f32) I.sn
  hT : arg12.view.read (Elt Ideal) X_arg12 = fun i => ((tabs I.a I.b (i 0).val (i 1) (i 2) : ℝ) : EReal)

variable (H : Reads arg2 arg3 arg4 arg5 arg6 arg7 arg12 X_arg2 X_arg3 X_arg4 X_arg5 X_arg6 X_arg7 X_arg12 I)
include H

/-- One trip on the carried gradients. -/
theorem carry_step (k : Fin k0_t2_loop.trips) (acc) (f g : Tile) (h1 : acc.1 = up2 (φ := .f32) f) (h2 : acc.2.2.1 = up2 (φ := .f32) g) :
    ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 k).1 acc).1 = up2 (φ := .f32) (fun c d => f c d * I.a.cd + Cert.Chunk.upd (I.Q mf) (I.O mf) I.a.xi (33 - k.val) c d)
    ∧ ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 k).1 acc).2.2.1 = up2 (φ := .f32) (fun c d => g c d * I.b.cd + Cert.Chunk.upd (I.Q mb) (I.O mb) I.b.xi (33 - k.val) c d) := by
  have hk : k.val < 34 := lt_of_lt_of_eq k.isLt trips
  have e7 : k0_off7 k = ![128 * mf (33 - k.val), 0] := by
    rw [k0_off7_eq]; unfold mf; congr 2; omega
  have e10 : k0_off10 k = ![128 * mb (33 - k.val), 0] := by
    rw [k0_off10_eq]; unfold mb; congr 2; omega
  have m7 : mf (33 - k.val) < 34 := Nat.mod_lt _ (by norm_num)
  have m10 : mb (33 - k.val) < 34 := by unfold mb; omega
  unfold trip_k0_t2
  simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_40, trip_k0_t2.sl.r_41, trip_k0_t2.sl.r_42, trip_k0_t2.sl.r_43]
  simp only [h1, h2, load_ch H.h2 _ _ e7 m7, load_ch H.h2 _ _ e10 m10, load_ch H.h3 _ _ e7 m7, load_ch H.h3 _ _ e10 m10, load_ch H.h4 _ _ e7 m7, load_ch H.h4 _ _ e10 m10, load_ch H.h5 _ _ e7 m7, load_ch H.h5 _ _ e10 m10, load_ch H.h6 _ _ e7 m7, load_ch H.h6 _ _ e10 m10, load_ch H.h7 _ _ e7 m7, load_ch H.h7 _ _ e10 m10, load_tab H.hT, pay13_up, pay14_up, pay16_up, pay17_up, pay43_up, pay44_up, pay46_up, pay47_up, pay19_up, pay49_up, pay21_up, pay51_up, pay22_up, pay23_up, pay24_up, pay25_up, pay52_up, pay53_up, pay54_up, pay55_up, pay18_up, pay48_up]
  exact ⟨pay40_up I.a f _ _, pay5_up I.b g _ _⟩

/-- One trip's stores of the values' gradients. -/
theorem dv_step (k : Fin k0_t2_loop.trips) (acc) (f g : Tile) (h1 : acc.1 = up2 (φ := .f32) f) (h2 : acc.2.2.1 = up2 (φ := .f32) g) :
    ∃ hb1 hb0, (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 k).2.2.2.1 acc = [⟨Rect.unit (s := S2x4352x128) (k0_off12 k) ![1, 128, 128] hb1, up3 (φ := .bf16) (dvT I.b (I.Q mb (33 - k.val)) (I.K mb (33 - k.val)) (I.O mb (33 - k.val)) g)⟩,
      ⟨Rect.unit (s := S2x4352x128) (k0_off9 k) ![1, 128, 128] hb0, up3 (φ := .bf16) (dvT I.a (I.Q mf (33 - k.val)) (I.K mf (33 - k.val)) (I.O mf (33 - k.val)) f)⟩] := by
  have hk : k.val < 34 := lt_of_lt_of_eq k.isLt trips
  have e7 : k0_off7 k = ![128 * mf (33 - k.val), 0] := by
    rw [k0_off7_eq]; unfold mf; congr 2; omega
  have e10 : k0_off10 k = ![128 * mb (33 - k.val), 0] := by
    rw [k0_off10_eq]; unfold mb; congr 2; omega
  have m7 : mf (33 - k.val) < 34 := Nat.mod_lt _ (by norm_num)
  have m10 : mb (33 - k.val) < 34 := by unfold mb; omega
  refine ⟨k0_off12_inb k, k0_off9_inb k, ?_⟩
  · unfold trip_k0_t2
    simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_40, trip_k0_t2.sl.r_41, trip_k0_t2.sl.r_42, trip_k0_t2.sl.r_43]
    simp only [h1, h2, load_ch H.h2 _ _ e7 m7, load_ch H.h2 _ _ e10 m10, load_ch H.h3 _ _ e7 m7, load_ch H.h3 _ _ e10 m10, load_ch H.h4 _ _ e7 m7, load_ch H.h4 _ _ e10 m10, load_ch H.h5 _ _ e7 m7, load_ch H.h5 _ _ e10 m10, load_ch H.h6 _ _ e7 m7, load_ch H.h6 _ _ e10 m10, load_ch H.h7 _ _ e7 m7, load_ch H.h7 _ _ e10 m10, load_tab H.hT, pay13_up, pay14_up, pay16_up, pay17_up, pay43_up, pay44_up, pay46_up, pay47_up, pay19_up, pay49_up, pay21_up, pay51_up, pay22_up, pay23_up, pay24_up, pay25_up, pay52_up, pay53_up, pay54_up, pay55_up, pay18_up, pay48_up]
    refine congrArg₂ List.cons (congrArg (Sigma.mk _) ?_) (congrArg₂ List.cons (congrArg (Sigma.mk _) ?_) rfl)
    · rw [← pay4_up]
      exact congrArg _ (pay63_up I.b _ _ _ _)
    · rw [← pay39_up]
      exact congrArg _ (pay34_up I.a _ _ _ _)

/-- The state's gradients are carried. -/
theorem carry (t : ℕ) (ht : t ≤ 34) :
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) t).1.1 = up2 (φ := .f32) (I.G mf I.a t)
    ∧ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) t).1.2.2.1 = up2 (φ := .f32) (I.G mb I.b t) := by
  induction t with
  | zero => exact ⟨zero_up2, zero_up2⟩
  | succ t ih =>
    obtain ⟨i1, i2⟩ := ih (by omega)
    have hk : t < k0_t2_loop.trips := by rw [trips]; omega
    have e := congrArg Prod.fst (st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) ⟨t, hk⟩)
    have s := carry_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 I H ⟨t, hk⟩ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) t).1 _ _ i1 i2
    exact ⟨(congrArg (·.1) e).trans s.1, (congrArg (·.2.2.1) e).trans s.2⟩

/-- The slab of the values' gradients. -/
theorem dvs (t : ℕ) (ht : t ≤ 34) : Slab (I.dv mf I.a) (I.dv mb I.b) t (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) t).2.2.2 := by
  induction t with
  | zero => exact slab_nil _ _
  | succ t ih =>
    have i' := ih (by omega)
    obtain ⟨i1, i2⟩ := carry 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 I H t (by omega)
    have hk : t < k0_t2_loop.trips := by rw [trips]; omega
    have e := congrArg (·.2.2.2) (st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) ⟨t, hk⟩)
    obtain ⟨hb1, hb0, s⟩ := dv_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 I H ⟨t, hk⟩ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) t).1 _ _ i1 i2
    refine (congrArg (Slab _ _ (t + 1)) (e.trans (congrArg (· ++ _) s))).mpr ?_
    have t' : 33 - (33 - t) = t := by omega
    exact slab_step (by omega) i' (k0_off12_eq ⟨t, hk⟩) (k0_off9_eq ⟨t, hk⟩) (by unfold In.dv; rw [t']) (by unfold In.dv; rw [t'])

end Cert.KernelIdeal.Sweep
-- ==== Proof.SweepMore.lean ====
/- The slabs of the queries' and the keys' gradients, and the decays' sums, as the backward sweep leaves them. -/
module

public import proofs.«01_k».proof.Proof.Sweep

@[expose] public section

set_option maxHeartbeats 1000000

noncomputable section

namespace Cert.KernelIdeal.Sweep

open Idealize.ShloMosaic Idealize.ShloMosaic.TcCoe Cert.KernelIdeal Cert.KernelIdeal.Gen Cert.KernelIdeal.Lift Cert.KernelIdeal.Spec Cert.KernelIdeal.Loads Cert.KernelIdeal.Pay

/-- The two directions' states, by direction and chunk. -/
def stn (I : In) (d j : ℕ) : Tile := if d = 0 then I.S mf I.a j else I.S mb I.b j

theorem stn0 (I : In) (j : ℕ) : stn I 0 j = I.S mf I.a j := rfl
theorem stn1 (I : In) (j : ℕ) : stn I 1 j = I.S mb I.b j := rfl

variable (𝒱 : Variants) (c : Dev nD) (bd : Option 𝒱.V) (i : grid0.Coords) (arg1 : Memref sig .tc .smem S2x4 .f32) (harg1 : arg1.IsWhole) (arg2 : Memref sig .tc .vmem S4352x128 .f32) (harg2 : arg2.IsWhole) (arg3 : Memref sig .tc .vmem S4352x128 .f32) (harg3 : arg3.IsWhole) (arg4 : Memref sig .tc .vmem S4352x128 .f32) (harg4 : arg4.IsWhole) (arg5 : Memref sig .tc .vmem S4352x128 .f32) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4352x128 .bf16) (harg8 : arg8.IsWhole) (arg9 : Memref sig .tc .vmem S4352x128 .bf16) (harg9 : arg9.IsWhole) (arg10 : Memref sig .tc .vmem S4352x128 .bf16) (harg10 : arg10.IsWhole) (arg11 : Memref sig .tc .vmem S1x8x128 .f32) (harg11 : arg11.IsWhole) (arg12 : Memref sig .tc .vmem S14x128x128 .f32) (harg12 : arg12.IsWhole) (arg13 : Memref sig .tc .vmem S2x34x128x128 .f32) (harg13 : arg13.IsWhole) (arg14 : Memref sig .tc .vmem S2x4352x128 .bf16) (harg14 : arg14.IsWhole) (arg15 : Memref sig .tc .vmem S2x4352x128 .bf16) (harg15 : arg15.IsWhole) (arg16 : Memref sig .tc .vmem S2x4352x128 .bf16) (harg16 : arg16.IsWhole)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg12 : BufTy.Contents (Elt Ideal) arg12.view.ty) (X_arg13 : BufTy.Contents (Elt Ideal) arg13.view.ty)
  (I : In)

variable (H : Reads arg2 arg3 arg4 arg5 arg6 arg7 arg12 X_arg2 X_arg3 X_arg4 X_arg5 X_arg6 X_arg7 X_arg12 I)
include H

/-- One trip's stores of the keys' gradients. -/
theorem dk_step (k : Fin k0_t2_loop.trips) (acc) (f g : Tile) (h1 : acc.1 = up2 (φ := .f32) f) (h2 : acc.2.2.1 = up2 (φ := .f32) g) :
    ∃ hb1 hb0, (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 k).2.2.1 acc = [⟨Rect.unit (s := S2x4352x128) (k0_off12 k) ![1, 128, 128] hb1, up3 (φ := .bf16) (dkT I.b (I.Q mb (33 - k.val)) (I.V mb (33 - k.val)) (I.O mb (33 - k.val)) g)⟩,
      ⟨Rect.unit (s := S2x4352x128) (k0_off9 k) ![1, 128, 128] hb0, up3 (φ := .bf16) (dkT I.a (I.Q mf (33 - k.val)) (I.V mf (33 - k.val)) (I.O mf (33 - k.val)) f)⟩] := by
  have hk : k.val < 34 := lt_of_lt_of_eq k.isLt trips
  have e7 : k0_off7 k = ![128 * mf (33 - k.val), 0] := by
    rw [k0_off7_eq]; unfold mf; congr 2; omega
  have e10 : k0_off10 k = ![128 * mb (33 - k.val), 0] := by
    rw [k0_off10_eq]; unfold mb; congr 2; omega
  have m7 : mf (33 - k.val) < 34 := Nat.mod_lt _ (by norm_num)
  have m10 : mb (33 - k.val) < 34 := by unfold mb; omega
  refine ⟨k0_off12_inb k, k0_off9_inb k, ?_⟩
  · unfold trip_k0_t2
    simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_40, trip_k0_t2.sl.r_41, trip_k0_t2.sl.r_42, trip_k0_t2.sl.r_43]
    simp only [h1, h2, load_ch H.h2 _ _ e7 m7, load_ch H.h2 _ _ e10 m10, load_ch H.h3 _ _ e7 m7, load_ch H.h3 _ _ e10 m10, load_ch H.h4 _ _ e7 m7, load_ch H.h4 _ _ e10 m10, load_ch H.h5 _ _ e7 m7, load_ch H.h5 _ _ e10 m10, load_ch H.h6 _ _ e7 m7, load_ch H.h6 _ _ e10 m10, load_ch H.h7 _ _ e7 m7, load_ch H.h7 _ _ e10 m10, load_tab H.hT, pay13_up, pay14_up, pay16_up, pay17_up, pay43_up, pay44_up, pay46_up, pay47_up, pay19_up, pay49_up, pay21_up, pay51_up, pay22_up, pay23_up, pay24_up, pay25_up, pay52_up, pay53_up, pay54_up, pay55_up, pay18_up, pay48_up]
    refine congrArg₂ List.cons (congrArg (Sigma.mk _) ?_) (congrArg₂ List.cons (congrArg (Sigma.mk _) ?_) rfl)
    · rw [← pay3_up]
      exact congrArg _ (pay61_up I.b _ _ _ _)
    · rw [← pay38_up]
      exact congrArg _ (pay32_up I.a _ _ _ _)

/-- One trip's stores of the queries' gradients. -/
theorem dq_step (h13 : arg13.view.read (Elt Ideal) X_arg13 = fun i => ((stn I (i 0).val (i 1).val (i 2) (i 3) : ℝ) : EReal)) (k : Fin k0_t2_loop.trips) (acc) :
    ∃ hb1 hb0, (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 k).2.1 acc = [⟨Rect.unit (s := S2x4352x128) (k0_off12 k) ![1, 128, 128] hb1, up3 (φ := .bf16) (I.dq mb I.b (33 - k.val))⟩,
      ⟨Rect.unit (s := S2x4352x128) (k0_off9 k) ![1, 128, 128] hb0, up3 (φ := .bf16) (I.dq mf I.a (33 - k.val))⟩] := by
  have hk : k.val < 34 := lt_of_lt_of_eq k.isLt trips
  have e7 : k0_off7 k = ![128 * mf (33 - k.val), 0] := by
    rw [k0_off7_eq]; unfold mf; congr 2; omega
  have e10 : k0_off10 k = ![128 * mb (33 - k.val), 0] := by
    rw [k0_off10_eq]; unfold mb; congr 2; omega
  have m7 : mf (33 - k.val) < 34 := Nat.mod_lt _ (by norm_num)
  have m10 : mb (33 - k.val) < 34 := by unfold mb; omega
  refine ⟨k0_off12_inb k, k0_off9_inb k, ?_⟩
  · unfold trip_k0_t2
    simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_40, trip_k0_t2.sl.r_41, trip_k0_t2.sl.r_42, trip_k0_t2.sl.r_43]
    simp only [load_st h13 _ 0 _ (k0_off8_eq k), load_st h13 _ 1 _ (k0_off11_eq k), stn0, stn1, pay15_up, pay20_up, pay45_up, pay50_up, load_ch H.h2 _ _ e7 m7, load_ch H.h2 _ _ e10 m10, load_ch H.h3 _ _ e7 m7, load_ch H.h3 _ _ e10 m10, load_ch H.h4 _ _ e7 m7, load_ch H.h4 _ _ e10 m10, load_ch H.h5 _ _ e7 m7, load_ch H.h5 _ _ e10 m10, load_ch H.h6 _ _ e7 m7, load_ch H.h6 _ _ e10 m10, load_ch H.h7 _ _ e7 m7, load_ch H.h7 _ _ e10 m10, load_tab H.hT, pay13_up, pay14_up, pay16_up, pay17_up, pay43_up, pay44_up, pay46_up, pay47_up, pay19_up, pay49_up, pay21_up, pay51_up, pay22_up, pay23_up, pay24_up, pay25_up, pay52_up, pay53_up, pay54_up, pay55_up, pay18_up, pay48_up]
    refine congrArg₂ List.cons (congrArg (Sigma.mk _) ?_) (congrArg₂ List.cons (congrArg (Sigma.mk _) ?_) rfl)
    · rw [← pay2_up]
      exact congrArg _ (pay60_up I.b _ _ _ _)
    · rw [← pay37_up]
      exact congrArg _ (pay31_up I.a _ _ _ _)

/-- One trip on the decays' sums. -/
theorem dl_step (h13 : arg13.view.read (Elt Ideal) X_arg13 = fun i => ((stn I (i 0).val (i 1).val (i 2) (i 3) : ℝ) : EReal)) (k : Fin k0_t2_loop.trips) (acc) (f g : Tile) (l m : Fin 128 → ℝ) (h1 : acc.1 = up2 (φ := .f32) f) (h2 : acc.2.2.1 = up2 (φ := .f32) g)
    (h3 : acc.2.1 = up1 (φ := .f32) l) (h4 : acc.2.2.2 = up1 (φ := .f32) m) :
    ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 k).1 acc).2.1 = up1 (φ := .f32) (fun c => l c + dlT I.a (I.Q mf (33 - k.val)) (I.K mf (33 - k.val)) (I.V mf (33 - k.val)) (I.O mf (33 - k.val)) (I.S mf I.a (33 - k.val)) f c)
    ∧ ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 k).1 acc).2.2.2 = up1 (φ := .f32) (fun c => m c + dlT I.b (I.Q mb (33 - k.val)) (I.K mb (33 - k.val)) (I.V mb (33 - k.val)) (I.O mb (33 - k.val)) (I.S mb I.b (33 - k.val)) g c) := by
  have hk : k.val < 34 := lt_of_lt_of_eq k.isLt trips
  have e7 : k0_off7 k = ![128 * mf (33 - k.val), 0] := by
    rw [k0_off7_eq]; unfold mf; congr 2; omega
  have e10 : k0_off10 k = ![128 * mb (33 - k.val), 0] := by
    rw [k0_off10_eq]; unfold mb; congr 2; omega
  have m7 : mf (33 - k.val) < 34 := Nat.mod_lt _ (by norm_num)
  have m10 : mb (33 - k.val) < 34 := by unfold mb; omega
  unfold trip_k0_t2
  simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_40, trip_k0_t2.sl.r_41, trip_k0_t2.sl.r_42, trip_k0_t2.sl.r_43]
  simp only [h1, h2, h3, h4, load_st h13 _ 0 _ (k0_off8_eq k), load_st h13 _ 1 _ (k0_off11_eq k), stn0, stn1, pay15_up, pay20_up, pay45_up, pay50_up, load_ch H.h2 _ _ e7 m7, load_ch H.h2 _ _ e10 m10, load_ch H.h3 _ _ e7 m7, load_ch H.h3 _ _ e10 m10, load_ch H.h4 _ _ e7 m7, load_ch H.h4 _ _ e10 m10, load_ch H.h5 _ _ e7 m7, load_ch H.h5 _ _ e10 m10, load_ch H.h6 _ _ e7 m7, load_ch H.h6 _ _ e10 m10, load_ch H.h7 _ _ e7 m7, load_ch H.h7 _ _ e10 m10, load_tab H.hT, pay13_up, pay14_up, pay16_up, pay17_up, pay43_up, pay44_up, pay46_up, pay47_up, pay19_up, pay49_up, pay21_up, pay51_up, pay22_up, pay23_up, pay24_up, pay25_up, pay52_up, pay53_up, pay54_up, pay55_up, pay18_up, pay48_up]
  exact ⟨pay36_up I.a _ _ _ _ _ _ _, pay1_up I.b _ _ _ _ _ _ _⟩

/-- The decays' sums after `t` chunks from the last. -/
theorem dls (h13 : arg13.view.read (Elt Ideal) X_arg13 = fun i => ((stn I (i 0).val (i 1).val (i 2) (i 3) : ℝ) : EReal)) (t : ℕ) (ht : t ≤ 34) :
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) t).1.2.1 = up1 (φ := .f32) (fun c => ∑ j ∈ Finset.range t, I.dl mf I.a (33 - j) c)
    ∧ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) t).1.2.2.2 = up1 (φ := .f32) (fun c => ∑ j ∈ Finset.range t, I.dl mb I.b (33 - j) c) := by
  induction t with
  | zero => exact ⟨zero_up1, zero_up1⟩
  | succ t ih =>
    obtain ⟨i3, i4⟩ := ih (by omega)
    obtain ⟨i1, i2⟩ := carry 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 I H t (by omega)
    have hk : t < k0_t2_loop.trips := by rw [trips]; omega
    have e := congrArg Prod.fst (st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) ⟨t, hk⟩)
    have s := dl_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 I H h13 ⟨t, hk⟩ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) t).1 _ _ _ _ i1 i2 i3 i4
    have t' : 33 - (33 - t) = t := by omega
    simp only [Finset.sum_range_succ]
    refine ⟨((congrArg (·.2.1) e).trans s.1).trans ?_, ((congrArg (·.2.2.2) e).trans s.2).trans ?_⟩
    · refine congrArg _ (funext fun c => ?_)
      unfold In.dl; rw [t']
    · refine congrArg _ (funext fun c => ?_)
      unfold In.dl; rw [t']

/-- The slab of the keys' gradients. -/
theorem dks (t : ℕ) (ht : t ≤ 34) : Slab (I.dk mf I.a) (I.dk mb I.b) t (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) t).2.2.1 := by
  induction t with
  | zero => exact slab_nil _ _
  | succ t ih =>
    have i' := ih (by omega)
    obtain ⟨i1, i2⟩ := carry 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 I H t (by omega)
    have hk : t < k0_t2_loop.trips := by rw [trips]; omega
    have e := congrArg (·.2.2.1) (st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) ⟨t, hk⟩)
    obtain ⟨hb1, hb0, s⟩ := dk_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 I H ⟨t, hk⟩ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) t).1 _ _ i1 i2
    refine (congrArg (Slab _ _ (t + 1)) (e.trans (congrArg (· ++ _) s))).mpr ?_
    have t' : 33 - (33 - t) = t := by omega
    exact slab_step (by omega) i' (k0_off12_eq ⟨t, hk⟩) (k0_off9_eq ⟨t, hk⟩) (by unfold In.dk; rw [t']) (by unfold In.dk; rw [t'])

/-- The slab of the queries' gradients. -/
theorem dqs (h13 : arg13.view.read (Elt Ideal) X_arg13 = fun i => ((stn I (i 0).val (i 1).val (i 2) (i 3) : ℝ) : EReal)) (t : ℕ) (ht : t ≤ 34) : Slab (I.dq mf I.a) (I.dq mb I.b) t (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) t).2.1 := by
  induction t with
  | zero => exact slab_nil _ _
  | succ t ih =>
    have i' := ih (by omega)
    have hk : t < k0_t2_loop.trips := by rw [trips]; omega
    have e := congrArg (·.2.1) (st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) ⟨t, hk⟩)
    obtain ⟨hb1, hb0, s⟩ := dq_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 I H h13 ⟨t, hk⟩ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg12 X_arg13 (k0_pay95, k0_pay98, k0_pay95, k0_pay98) t).1
    refine (congrArg (Slab _ _ (t + 1)) (e.trans (congrArg (· ++ _) s))).mpr ?_
    exact slab_step (by omega) i' (k0_off12_eq ⟨t, hk⟩) (k0_off9_eq ⟨t, hk⟩) rfl rfl

end Cert.KernelIdeal.Sweep
-- ==== Proof.States.lean ====
/- The states the first loop stores, chunk by chunk and direction by direction. -/
module

public import proofs.«01_k».proof.Proof.SweepMore

@[expose] public section

noncomputable section

namespace Cert.KernelIdeal.States

open Idealize.ShloMosaic Idealize.ShloMosaic.TcCoe Cert.KernelIdeal Cert.KernelIdeal.Gen Cert.KernelIdeal.Lift Cert.KernelIdeal.Spec Cert.KernelIdeal.Loads Cert.KernelIdeal.Pay

/-- The first `t` chunks' states are written. -/
def Cells (G : ℕ → ℕ → Tile) (t : ℕ) (L : List (View.Piece (Elt Ideal) S2x34x128x128 .f32)) : Prop :=
  (∀ y : S2x34x128x128.Idx, View.AllAt L y ((G (y 0).val (y 1).val (y 2) (y 3) : ℝ) : EReal))
    ∧ ∀ y : S2x34x128x128.Idx, (y 1).val < t → ∃ p ∈ L, y ∈ p.1.set

theorem cells_nil (G : ℕ → ℕ → Tile) : Cells G 0 [] :=
  ⟨fun y => View.allAt_nil y _, fun _ h => absurd h (Nat.not_lt_zero _)⟩

theorem cells_step {G : ℕ → ℕ → Tile} {k : ℕ} {L : List (View.Piece (Elt Ideal) S2x34x128x128 .f32)}
    (hL : Cells G k L) {off1 off0 : Fin 4 → ℕ} (h1 : off1 = ![1, k, 0, 0]) (h0 : off0 = ![0, k, 0, 0])
    {hb1 hb0} {w1 w0 : S1x1x128x128.Idx → Elt Ideal .f32}
    (hw1 : w1 = up4 (φ := .f32) (G 1 k)) (hw0 : w0 = up4 (φ := .f32) (G 0 k)) :
    Cells G (k + 1) (⟨Rect.unit (s := S2x34x128x128) off1 ![1, 1, 128, 128] hb1, w1⟩ :: ⟨Rect.unit (s := S2x34x128x128) off0 ![1, 1, 128, 128] hb0, w0⟩ :: L) := by
  subst h1 h0 hw1 hw0
  have key : ∀ (d : ℕ) (y : S2x34x128x128.Idx) (x : S1x1x128x128.Idx), (∀ a, (y a).val = (![d, k, 0, 0] : Fin 4 → ℕ) a + (x a).val) →
      up4 (φ := .f32) (G d k) x = ((G (y 0).val (y 1).val (y 2) (y 3) : ℝ) : EReal) := by
    intro d y x hx
    have x0 : (x 0).val < 1 := (x 0).isLt
    have x1 : (x 1).val < 1 := (x 1).isLt
    have e0 : (y 0).val = d + (x 0).val := hx 0
    have e1 : (y 1).val = k + (x 1).val := hx 1
    have e2 : (y 2).val = 0 + (x 2).val := hx 2
    have e3 : (y 3).val = 0 + (x 3).val := hx 3
    show ((G d k (x 2) (x 3) : ℝ) : EReal) = _
    rw [show (y 0).val = d by omega, show (y 1).val = k by omega, show x 2 = y 2 from Fin.ext (by omega), show x 3 = y 3 from Fin.ext (by omega)]
  refine ⟨fun y => View.allAt_cons_unit _ _ _ _ _ (fun x hx => key 1 y x hx) (View.allAt_cons_unit _ _ _ _ _ (fun x hx => key 0 y x hx) (hL.1 y)), fun y hy => ?_⟩
  have y0 : (y 0).val < 2 := (y 0).isLt
  have y2 : (y 2).val < 128 := (y 2).isLt
  have y3 : (y 3).val < 128 := (y 3).isLt
  by_cases h : (y 1).val < k
  · obtain ⟨p, hp, hy'⟩ := hL.2 y h
    exact ⟨p, by simp [hp], hy'⟩
  · by_cases h0 : (y 0).val = 0
    · refine ⟨_, List.mem_cons_of_mem _ (List.mem_cons_self ..), (Rect.mem_set_unit (inb := hb0)).2 fun a => ?_⟩
      fin_cases a
      · exact ⟨Nat.zero_le _, by show (y 0).val < 0 + 1; omega⟩
      · exact ⟨by show k ≤ (y 1).val; omega, by show (y 1).val < k + 1; omega⟩
      · exact ⟨Nat.zero_le _, by show (y 2).val < 0 + 128; omega⟩
      · exact ⟨Nat.zero_le _, by show (y 3).val < 0 + 128; omega⟩
    · refine ⟨_, List.mem_cons_self .., (Rect.mem_set_unit (inb := hb1)).2 fun a => ?_⟩
      fin_cases a
      · exact ⟨by show 1 ≤ (y 0).val; omega, by show (y 0).val < 1 + 1; omega⟩
      · exact ⟨by show k ≤ (y 1).val; omega, by show (y 1).val < k + 1; omega⟩
      · exact ⟨Nat.zero_le _, by show (y 2).val < 0 + 128; omega⟩
      · exact ⟨Nat.zero_le _, by show (y 3).val < 0 + 128; omega⟩

/-- The states read back. -/
theorem cells_read {A : Memref sig .tc .vmem S2x34x128x128 .f32} {G : ℕ → ℕ → Tile} {L : List (View.Piece (Elt Ideal) S2x34x128x128 .f32)}
    (hL : Cells G 34 L) (f : BufTy.Contents (Elt Ideal) A.view.ty) :
    A.view.read (Elt Ideal) (A.view.writes (Elt Ideal) f L) = fun y => ((G (y 0).val (y 1).val (y 2) (y 3) : ℝ) : EReal) := by
  funext y
  have hc := hL.2 y (y 1).isLt
  rw [View.read_writes_apply_eq_canon _ f y L hc]
  exact View.canon_eq_of_allAt L y _ hc (hL.1 y)

theorem trips : k0_t1_loop.trips = 34 := by
  have h := k0_t1_abs
  exact le_antisymm h.2.1 (by decide)

variable (𝒱 : Variants) (c : Dev nD) (bd : Option 𝒱.V) (i : grid0.Coords) (arg1 : Memref sig .tc .smem S2x4 .f32) (harg1 : arg1.IsWhole) (arg2 : Memref sig .tc .vmem S4352x128 .f32) (harg2 : arg2.IsWhole) (arg3 : Memref sig .tc .vmem S4352x128 .f32) (harg3 : arg3.IsWhole) (arg4 : Memref sig .tc .vmem S4352x128 .f32) (harg4 : arg4.IsWhole) (arg5 : Memref sig .tc .vmem S4352x128 .f32) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4352x128 .bf16) (harg8 : arg8.IsWhole) (arg9 : Memref sig .tc .vmem S4352x128 .bf16) (harg9 : arg9.IsWhole) (arg10 : Memref sig .tc .vmem S4352x128 .bf16) (harg10 : arg10.IsWhole) (arg11 : Memref sig .tc .vmem S1x8x128 .f32) (harg11 : arg11.IsWhole) (arg12 : Memref sig .tc .vmem S14x128x128 .f32) (harg12 : arg12.IsWhole) (arg13 : Memref sig .tc .vmem S2x34x128x128 .f32) (harg13 : arg13.IsWhole) (arg14 : Memref sig .tc .vmem S2x4352x128 .bf16) (harg14 : arg14.IsWhole) (arg15 : Memref sig .tc .vmem S2x4352x128 .bf16) (harg15 : arg15.IsWhole) (arg16 : Memref sig .tc .vmem S2x4352x128 .bf16) (harg16 : arg16.IsWhole) (v3 : Elt Ideal .f32) (v5 : FVec Ideal S128x128 .f32) (v56 : FVec Ideal S128x128 .f32) (v58 : FVec Ideal S128x128 .f32) (v72 : FVec Ideal S1x128x128 .f32)
  (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg12 : BufTy.Contents (Elt Ideal) arg12.view.ty)
  (I : In)

/-- The buffers the loop loads from hold the head's inputs and tables. -/
structure Reads : Prop where
  h3 : arg3.view.read (Elt Ideal) X_arg3 = up2 (φ := .f32) I.k
  h4 : arg4.view.read (Elt Ideal) X_arg4 = up2 (φ := .f32) I.v
  h6 : arg6.view.read (Elt Ideal) X_arg6 = up2 (φ := .f32) I.cs
  h7 : arg7.view.read (Elt Ideal) X_arg7 = up2 (φ := .f32) I.sn
  hT : arg12.view.read (Elt Ideal) X_arg12 = fun i => ((tabs I.a I.b (i 0).val (i 1) (i 2) : ℝ) : EReal)

variable (H : Reads arg3 arg4 arg6 arg7 arg12 X_arg3 X_arg4 X_arg6 X_arg7 X_arg12 I)

/-- One trip's stores. -/
theorem store_step (k : Fin k0_t1_loop.trips) (acc) (f g : Tile) (h1 : acc.1 = up2 (φ := .f32) f) (h2 : acc.2 = up2 (φ := .f32) g) :
    ∃ hb1 hb0, (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 k).2.1 acc = [⟨Rect.unit (s := S2x34x128x128) (k0_off6 k) ![1, 1, 128, 128] hb1, up4 (φ := .f32) g⟩,
      ⟨Rect.unit (s := S2x34x128x128) (k0_off4 k) ![1, 1, 128, 128] hb0, up4 (φ := .f32) f⟩] := by
  refine ⟨k0_off6_inb k, k0_off4_inb k, ?_⟩
  · unfold trip_k0_t1
    simp only [h1, h2]
    refine congrArg₂ List.cons (congrArg (Sigma.mk _) ?_) (congrArg₂ List.cons (congrArg (Sigma.mk _) ?_) rfl)
    · exact pay96_up _
    · exact pay9_up _

include H

/-- One trip on the carried states. -/
theorem carry_step (k : Fin k0_t1_loop.trips) (acc) (f g : Tile) (h1 : acc.1 = up2 (φ := .f32) f) (h2 : acc.2 = up2 (φ := .f32) g) :
    ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 k).1 acc).1 = up2 (φ := .f32) (fun c d => f c d * I.a.cd + Cert.Chunk.upd (I.K mf) (I.V mf) I.a.ze k.val c d)
    ∧ ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 k).1 acc).2 = up2 (φ := .f32) (fun c d => g c d * I.b.cd + Cert.Chunk.upd (I.K mb) (I.V mb) I.b.ze k.val c d) := by
  have hk : k.val < 34 := lt_of_lt_of_eq k.isLt trips
  have e3 : k0_off3 k = ![128 * mf k.val, 0] := k0_off3_eq k
  have e5 : k0_off5 k = ![128 * mb k.val, 0] := by
    rw [k0_off5_eq]; unfold mb; congr 1; omega
  have m3 : mf k.val < 34 := Nat.mod_lt _ (by norm_num)
  have m5 : mb k.val < 34 := by unfold mb; omega
  unfold trip_k0_t1
  simp only [trip_k0_t1.sl.r, trip_k0_t1.sl.r_1]
  simp only [h1, h2, load_ch H.h3 _ _ e3 m3, load_ch H.h3 _ _ e5 m5, load_ch H.h4 _ _ e3 m3, load_ch H.h4 _ _ e5 m5, load_ch H.h6 _ _ e3 m3, load_ch H.h6 _ _ e5 m5, load_ch H.h7 _ _ e3 m3, load_ch H.h7 _ _ e5 m5, load_tab H.hT]
  exact ⟨pay10_up f _ _ _ _ _ _, pay97_up g _ _ _ _ _ _⟩

/-- The states are carried. -/
theorem carry (t : ℕ) (ht : t ≤ 34) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 (k0_pay95, k0_pay95) t).1.1 = up2 (φ := .f32) (I.S mf I.a t)
    ∧ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 (k0_pay95, k0_pay95) t).1.2 = up2 (φ := .f32) (I.S mb I.b t) := by
  induction t with
  | zero => exact ⟨zero_up2, zero_up2⟩
  | succ t ih =>
    obtain ⟨i1, i2⟩ := ih (by omega)
    have hk : t < k0_t1_loop.trips := by rw [trips]; omega
    have e := congrArg Prod.fst (st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 (k0_pay95, k0_pay95) ⟨t, hk⟩)
    have s := carry_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 I H ⟨t, hk⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 (k0_pay95, k0_pay95) t).1 _ _ i1 i2
    exact ⟨(congrArg (·.1) e).trans s.1, (congrArg (·.2) e).trans s.2⟩

/-- The states are stored. -/
theorem states (t : ℕ) (ht : t ≤ 34) : Cells (Sweep.stn I) t (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 (k0_pay95, k0_pay95) t).2 := by
  induction t with
  | zero => exact cells_nil _
  | succ t ih =>
    have i' := ih (by omega)
    obtain ⟨i1, i2⟩ := carry 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 I H t (by omega)
    have hk : t < k0_t1_loop.trips := by rw [trips]; omega
    have e := congrArg (·.2) (st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 (k0_pay95, k0_pay95) ⟨t, hk⟩)
    obtain ⟨hb1, hb0, s⟩ := store_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 ⟨t, hk⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 X_arg3 X_arg4 X_arg6 X_arg7 X_arg12 (k0_pay95, k0_pay95) t).1 _ _ i1 i2
    refine (congrArg (Cells _ (t + 1)) (e.trans (congrArg (· ++ _) s))).mpr ?_
    exact cells_step i' (k0_off6_eq ⟨t, hk⟩) (k0_off4_eq ⟨t, hk⟩) rfl rfl

end Cert.KernelIdeal.States
-- ==== Proof.Table.lean ====
/- The fourteen tables of decays: what each stored value is, and the buffer they fill. -/
module

public import proofs.«01_k».proof.Proof.States

@[expose] public section

noncomputable section

namespace Cert.KernelIdeal.Table

open Idealize.ShloMosaic Idealize.ShloMosaic.TcCoe Cert.KernelIdeal Cert.KernelIdeal.Gen Cert.KernelIdeal.Lift Cert.KernelIdeal.Spec

/-- The tables below `n` are written. -/
def Tab (T : ℕ → Tile) (n : ℕ) (L : List (View.Piece (Elt Ideal) S14x128x128 .f32)) : Prop :=
  (∀ y : S14x128x128.Idx, View.AllAt L y ((T (y 0).val (y 1) (y 2) : ℝ) : EReal))
    ∧ ∀ y : S14x128x128.Idx, (y 0).val < n → ∃ p ∈ L, y ∈ p.1.set

theorem tab_nil (T : ℕ → Tile) : Tab T 0 [] :=
  ⟨fun y => View.allAt_nil y _, fun _ h => absurd h (Nat.not_lt_zero _)⟩

theorem tab_step {T : ℕ → Tile} {n : ℕ} {L : List (View.Piece (Elt Ideal) S14x128x128 .f32)}
    (hL : Tab T n L) {hb} {w : S1x128x128.Idx → Elt Ideal .f32} (hw : w = up3 (φ := .f32) (T n)) :
    Tab T (n + 1) (⟨Rect.unit (s := S14x128x128) ![n, 0, 0] ![1, 128, 128] hb, w⟩ :: L) := by
  subst hw
  refine ⟨fun y => View.allAt_cons_unit _ _ _ _ _ (fun x hx => ?_) (hL.1 y), fun y hy => ?_⟩
  · have x0 : (x 0).val < 1 := (x 0).isLt
    have e0 : (y 0).val = n + (x 0).val := hx 0
    have e1 : (y 1).val = 0 + (x 1).val := hx 1
    have e2 : (y 2).val = 0 + (x 2).val := hx 2
    show ((T n (x 1) (x 2) : ℝ) : EReal) = _
    rw [show (y 0).val = n by omega, show x 1 = y 1 from Fin.ext (by omega), show x 2 = y 2 from Fin.ext (by omega)]
  · have y1 : (y 1).val < 128 := (y 1).isLt
    have y2 : (y 2).val < 128 := (y 2).isLt
    by_cases h : (y 0).val < n
    · obtain ⟨p, hp, hy'⟩ := hL.2 y h
      exact ⟨p, by simp [hp], hy'⟩
    · refine ⟨_, List.mem_cons_self .., (Rect.mem_set_unit (inb := hb)).2 fun a => ?_⟩
      fin_cases a
      · exact ⟨by show n ≤ (y 0).val; omega, by show (y 0).val < n + 1; omega⟩
      · exact ⟨Nat.zero_le _, by show (y 1).val < 0 + 128; omega⟩
      · exact ⟨Nat.zero_le _, by show (y 2).val < 0 + 128; omega⟩

/-- The tables read back. -/
theorem tab_read {A : Memref sig .tc .vmem S14x128x128 .f32} {T : ℕ → Tile} {L : List (View.Piece (Elt Ideal) S14x128x128 .f32)}
    (hL : Tab T 14 L) (f : BufTy.Contents (Elt Ideal) A.view.ty) :
    A.view.read (Elt Ideal) (A.view.writes (Elt Ideal) f L) = fun y => ((T (y 0).val (y 1) (y 2) : ℝ) : EReal) := by
  funext y
  have hc := hL.2 y (y 0).isLt
  rw [View.read_writes_apply_eq_canon _ f y L hc]
  exact View.canon_eq_of_allAt L y _ hc (hL.1 y)

theorem index_coe (n : Fin 128) : (((BitVec.ofNat 32 n.val).toInt : ℝ) : EReal) = (((n.val : ℕ) : ℝ) : EReal) := by
  have h : (BitVec.ofNat 32 n.val).toInt = (n.val : ℤ) := by
    rw [BitVec.toInt_ofNat']
    have := n.isLt
    have e : (2 : ℕ) ^ 32 = 4294967296 := by norm_num
    rw [Int.bmod_def]
    omega
  rw [h]; simp

theorem rows_up2 : k0_pay70 (F := Ideal) = up2 (φ := .f32) fun r _ => (r.val : ℝ) := by
  funext i
  show (((BitVec.ofNat 32 (0 * 128 + (i 0).val)).toInt : ℝ) : EReal) = _
  rw [Nat.zero_mul, Nat.zero_add]
  exact index_coe (i 0)

theorem cols_up2 : k0_pay71 (F := Ideal) = up2 (φ := .f32) fun _ c => (c.val : ℝ) := by
  funext i
  show (((BitVec.ofNat 32 (0 * 128 + (i 1).val)).toInt : ℝ) : EReal) = _
  rw [Nat.zero_mul, Nat.zero_add]
  exact index_coe (i 1)

/-- A choice by comparing two tiles. -/
theorem pick_ge (f g x y : Tile) :
    select (cmpf .oge (up2 (φ := .f32) f) (up2 (φ := .f32) g)) (up2 (φ := .f32) x) (up2 (φ := .f32) y)
      = up2 (φ := .f32) fun r c => if g r c ≤ f r c then x r c else y r c := by
  funext i
  show (if BitVec.ofBool (decide (((g (i 0) (i 1) : ℝ) : EReal) ≤ ((f (i 0) (i 1) : ℝ) : EReal))) = 1 then _ else _) = _
  by_cases h : g (i 0) (i 1) ≤ f (i 0) (i 1)
  · rw [decide_eq_true (EReal.coe_le_coe_iff.2 h)]
    show _ = (((if _ then _ else _ : ℝ)) : EReal)
    rw [if_pos h]; rfl
  · rw [decide_eq_false (fun hh => h (EReal.coe_le_coe_iff.1 hh))]
    show _ = (((if _ then _ else _ : ℝ)) : EReal)
    rw [if_neg h]; rfl

theorem pick_gt (f g x y : Tile) :
    select (cmpf .ogt (up2 (φ := .f32) f) (up2 (φ := .f32) g)) (up2 (φ := .f32) x) (up2 (φ := .f32) y)
      = up2 (φ := .f32) fun r c => if g r c < f r c then x r c else y r c := by
  funext i
  show (if BitVec.ofBool (decide (((g (i 0) (i 1) : ℝ) : EReal) < ((f (i 0) (i 1) : ℝ) : EReal))) = 1 then _ else _) = _
  by_cases h : g (i 0) (i 1) < f (i 0) (i 1)
  · rw [decide_eq_true (EReal.coe_lt_coe_iff.2 h)]
    show _ = (((if _ then _ else _ : ℝ)) : EReal)
    rw [if_pos h]; rfl
  · rw [decide_eq_false (fun hh => h (EReal.coe_lt_coe_iff.1 hh))]
    show _ = (((if _ then _ else _ : ℝ)) : EReal)
    rw [if_neg h]; rfl

theorem c1 : (broadcast S128x128 (Scalar.ofBits (F := Ideal) .f32 0x3F800000#32) : FVec Ideal S128x128 .f32) = up2 (φ := .f32) fun _ _ => 1 := by
  funext i
  show Ideal.ofBits .f32 0x3F800000#32 = _
  rw [Ideal.ofBits_one_f32]; rfl

theorem c0 : (broadcast S128x128 (Scalar.ofBits (F := Ideal) .f32 0x00000000#32) : FVec Ideal S128x128 .f32) = up2 (φ := .f32) fun _ _ => 0 := by
  funext i
  show Ideal.ofBits .f32 0x00000000#32 = _
  rw [Ideal.ofBits_zero_f32]; rfl

theorem c127 : (broadcast S128x128 (Scalar.ofBits (F := Ideal) .f32 0x42FE0000#32) : FVec Ideal S128x128 .f32) = up2 (φ := .f32) fun _ _ => 127 := by
  funext i
  show Ideal.ofBits .f32 0x42FE0000#32 = _
  rw [n127_coe]; rfl

theorem bx (x : ℝ) : (broadcast S128x128 ((x : EReal) : Ideal .f32) : FVec Ideal S128x128 .f32) = up2 (φ := .f32) fun _ _ => x := rfl

theorem bx128 (x : ℝ) : (broadcast S128x128 (Scalar.mulf (F := Ideal) (φ := .f32) ((x : EReal) : Ideal .f32) (Scalar.ofBits (F := Ideal) .f32 0x43000000#32)) : FVec Ideal S128x128 .f32) = up2 (φ := .f32) fun _ _ => x * 128 := by
  funext i
  show (x : EReal) * Ideal.ofBits .f32 0x43000000#32 = _
  rw [n128_coe]; exact (EReal.coe_mul _ _).symm

theorem le_cast (r c : Fin 128) : ((c.val : ℝ) ≤ (r.val : ℝ)) ↔ c ≤ r := by rw [Nat.cast_le]; rfl
theorem lt_cast (r c : Fin 128) : ((r.val : ℝ) < (c.val : ℝ)) ↔ r < c := by rw [Nat.cast_lt]; rfl

variable (x : ℝ)

theorem pay76_tab : k0_pay76 (F := Ideal) ((x : EReal) : Ideal .f32) = up3 (φ := .f32) ((fwd x).dm) := by
  simp only [k0_pay76, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  refine congrArg _ (funext fun r => funext fun c => ?_)
  by_cases h : c ≤ r
  · simp only [fwd, bwd, if_pos h]
  · simp only [fwd, bwd, if_neg h]

theorem pay77_tab : k0_pay77 (F := Ideal) ((x : EReal) : Ideal .f32) = up3 (φ := .f32) (fun r _ => (fwd x).xi r) := by
  simp only [k0_pay77, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  rfl

theorem pay78_tab : k0_pay78 (F := Ideal) ((x : EReal) : Ideal .f32) = up3 (φ := .f32) (fun r _ => (fwd x).ze r) := by
  simp only [k0_pay78, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  rfl

theorem pay80_tab : k0_pay80 (F := Ideal) (k0_pay79 ((x : EReal) : Ideal .f32)) = up3 (φ := .f32) (fun _ _ => (fwd x).cd) := by
  simp only [k0_pay80, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  rfl

theorem pay81_tab : k0_pay81 (F := Ideal) k0_pay75 = up3 (φ := .f32) ((fwd x).e) := by
  simp only [k0_pay81, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  rfl

theorem pay82_tab : k0_pay82 (F := Ideal) k0_pay73 = up3 (φ := .f32) (fun r _ => (fwd x).xe r) := by
  simp only [k0_pay82, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  rfl

theorem pay83_tab : k0_pay83 (F := Ideal) k0_pay74 = up3 (φ := .f32) (fun r _ => (fwd x).zx r) := by
  simp only [k0_pay83, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  rfl

theorem pay87_tab : k0_pay87 (F := Ideal) ((x : EReal) : Ideal .f32) (k0_pay70 (F := Ideal)) (k0_pay71 (F := Ideal)) = up3 (φ := .f32) ((bwd x).dm) := by
  simp only [k0_pay87, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  refine congrArg _ (funext fun r => funext fun c => ?_)
  by_cases h : r < c
  · simp only [fwd, bwd, if_pos h]
  · simp only [fwd, bwd, if_neg h]

theorem pay88_tab : k0_pay88 (F := Ideal) ((x : EReal) : Ideal .f32) (k0_pay70 (F := Ideal)) = up3 (φ := .f32) (fun r _ => (bwd x).xi r) := by
  simp only [k0_pay88, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  rfl

theorem pay89_tab : k0_pay89 (F := Ideal) ((x : EReal) : Ideal .f32) (k0_pay70 (F := Ideal)) = up3 (φ := .f32) (fun r _ => (bwd x).ze r) := by
  simp only [k0_pay89, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  rfl

theorem pay90_tab : k0_pay90 (F := Ideal) ((x : EReal) : Ideal .f32) = up3 (φ := .f32) (fun _ _ => (bwd x).cd) := by
  simp only [k0_pay90, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  rfl

theorem pay91_tab : k0_pay91 (F := Ideal) (k0_pay86 (k0_pay70 (F := Ideal)) (k0_pay71 (F := Ideal))) = up3 (φ := .f32) ((bwd x).e) := by
  simp only [k0_pay91, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  rfl

theorem pay92_tab : k0_pay92 (F := Ideal) (k0_pay85 (k0_pay70 (F := Ideal))) = up3 (φ := .f32) (fun r _ => (bwd x).xe r) := by
  simp only [k0_pay92, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  rfl

theorem pay93_tab : k0_pay93 (F := Ideal) (k0_pay70 (F := Ideal)) = up3 (φ := .f32) (fun r _ => (bwd x).zx r) := by
  simp only [k0_pay93, k0_pay79, k0_pay72, k0_pay73, k0_pay74, k0_pay75, k0_pay84, k0_pay85, k0_pay86, rows_up2, cols_up2, c1, c0, c127, bx, bx128, mulf_up2, addf_up2, subf_up2, exp_up2, pick_ge, pick_gt, cast_to3, le_cast, lt_cast]
  rfl

/-- The pieces the kernel stores, last first. -/
def pieces (v1 v3 : Elt Ideal .f32) : List (View.Piece (Elt Ideal) S14x128x128 .f32) :=
  [⟨Rect.unit (s := S14x128x128) ![13, 0, 0] ![1, 128, 128] inb_S14x128x128_S1x128x128_13_0_0, k0_pay93 (F := Ideal) (k0_pay70 (F := Ideal))⟩,
   ⟨Rect.unit (s := S14x128x128) ![12, 0, 0] ![1, 128, 128] inb_S14x128x128_S1x128x128_12_0_0, k0_pay92 (F := Ideal) (k0_pay85 (k0_pay70 (F := Ideal)))⟩,
   ⟨Rect.unit (s := S14x128x128) ![11, 0, 0] ![1, 128, 128] inb_S14x128x128_S1x128x128_11_0_0, k0_pay91 (F := Ideal) (k0_pay86 (k0_pay70 (F := Ideal)) (k0_pay71 (F := Ideal)))⟩,
   ⟨Rect.unit (s := S14x128x128) ![10, 0, 0] ![1, 128, 128] inb_S14x128x128_S1x128x128_10_0_0, k0_pay90 (F := Ideal) v3⟩,
   ⟨Rect.unit (s := S14x128x128) ![9, 0, 0] ![1, 128, 128] inb_S14x128x128_S1x128x128_9_0_0, k0_pay89 (F := Ideal) v3 (k0_pay70 (F := Ideal))⟩,
   ⟨Rect.unit (s := S14x128x128) ![8, 0, 0] ![1, 128, 128] inb_S14x128x128_S1x128x128_8_0_0, k0_pay88 (F := Ideal) v3 (k0_pay70 (F := Ideal))⟩,
   ⟨Rect.unit (s := S14x128x128) ![7, 0, 0] ![1, 128, 128] inb_S14x128x128_S1x128x128_7_0_0, k0_pay87 (F := Ideal) v3 (k0_pay70 (F := Ideal)) (k0_pay71 (F := Ideal))⟩,
   ⟨Rect.unit (s := S14x128x128) ![6, 0, 0] ![1, 128, 128] inb_S14x128x128_S1x128x128_6_0_0, k0_pay83 (F := Ideal) k0_pay74⟩,
   ⟨Rect.unit (s := S14x128x128) ![5, 0, 0] ![1, 128, 128] inb_S14x128x128_S1x128x128_5_0_0, k0_pay82 (F := Ideal) k0_pay73⟩,
   ⟨Rect.unit (s := S14x128x128) ![4, 0, 0] ![1, 128, 128] inb_S14x128x128_S1x128x128_4_0_0, k0_pay81 (F := Ideal) k0_pay75⟩,
   ⟨Rect.unit (s := S14x128x128) ![3, 0, 0] ![1, 128, 128] inb_S14x128x128_S1x128x128_3_0_0, k0_pay80 (F := Ideal) (k0_pay79 v1)⟩,
   ⟨Rect.unit (s := S14x128x128) ![2, 0, 0] ![1, 128, 128] inb_S14x128x128_S1x128x128_2_0_0, k0_pay78 (F := Ideal) v1⟩,
   ⟨Rect.unit (s := S14x128x128) ![1, 0, 0] ![1, 128, 128] inb_S14x128x128_S1x128x128_1_0_0, k0_pay77 (F := Ideal) v1⟩,
   ⟨Rect.unit (s := S14x128x128) ![0, 0, 0] ![1, 128, 128] inb_S14x128x128_S1x128x128_0_0_0, k0_pay76 (F := Ideal) v1⟩]

theorem pieces_tab (x z : ℝ) : Tab (tabs (fwd x) (bwd z)) 14 (pieces ((x : EReal) : Ideal .f32) ((z : EReal) : Ideal .f32)) :=
  tab_step (tab_step (tab_step (tab_step (tab_step (tab_step (tab_step (tab_step (tab_step (tab_step (tab_step (tab_step (tab_step (tab_step (tab_nil _) (pay76_tab x)) (pay77_tab x)) (pay78_tab x)) (pay80_tab x)) (pay81_tab x)) (pay82_tab x)) (pay83_tab x)) (pay87_tab z)) (pay88_tab z)) (pay89_tab z)) (pay90_tab z)) (pay91_tab z)) (pay92_tab z)) (pay93_tab z)

end Cert.KernelIdeal.Table
-- ==== Proof.Finish.lean ====
/- What the last loop writes: both directions' gradients added and turned back. -/
module

public import proofs.«01_k».proof.Proof.Slab
public import proofs.«01_k».proof.Proof.Pay
public import proofs.«01_k».proof.Proof.Gen.KernelIdeal.Loops

@[expose] public section

noncomputable section

namespace Cert.KernelIdeal.Finish

open Idealize.ShloMosaic Idealize.ShloMosaic.TcCoe Cert.KernelIdeal Cert.KernelIdeal.Gen Cert.KernelIdeal.Lift Cert.KernelIdeal.Spec Cert.KernelIdeal.Loads Cert.KernelIdeal.Pay

/-- The first `t` chunks of a long matrix are written. -/
def Rows (g : Fin 4352 → Fin 128 → ℝ) (t : ℕ) (L : List (View.Piece (Elt Ideal) S4352x128 .bf16)) : Prop :=
  (∀ y : S4352x128.Idx, View.AllAt L y ((g (y 0) (y 1) : ℝ) : EReal))
    ∧ ∀ y : S4352x128.Idx, (y 0).val < 128 * t → ∃ p ∈ L, y ∈ p.1.set

theorem rows_nil (g : Fin 4352 → Fin 128 → ℝ) : Rows g 0 [] :=
  ⟨fun y => View.allAt_nil y _, fun _ h => absurd h (Nat.not_lt_zero _)⟩

theorem rows_step {g : Fin 4352 → Fin 128 → ℝ} {k : ℕ} (hk : k < 34) {L : List (View.Piece (Elt Ideal) S4352x128 .bf16)}
    (hL : Rows g k L) {off : Fin 2 → ℕ} (h : off = ![128 * k, 0]) {hb} {w : S128x128.Idx → Elt Ideal .bf16}
    (hw : w = up2 (φ := .bf16) (ch g k)) :
    Rows g (k + 1) (⟨Rect.unit (s := S4352x128) off ![128, 128] hb, w⟩ :: L) := by
  subst h hw
  refine ⟨fun y => View.allAt_cons_unit _ _ _ _ _ ?_ (hL.1 y), fun y hy => ?_⟩
  · intro x hx
    have e0 : (y 0).val = 128 * k + (x 0).val := hx 0
    have e1 : (y 1).val = 0 + (x 1).val := hx 1
    have x0 : (x 0).val < 128 := (x 0).isLt
    show ((g (row k (x 0)) (x 1) : ℝ) : EReal) = _
    congr 2
    · apply Fin.ext; show (128 * k + (x 0).val) % 4352 = (y 0).val; omega
    · apply Fin.ext; show (x 1).val = (y 1).val; omega
  · have y1 : (y 1).val < 128 := (y 1).isLt
    by_cases hk' : (y 0).val < 128 * k
    · obtain ⟨p, hp, hy⟩ := hL.2 y hk'
      exact ⟨p, List.mem_cons_of_mem _ hp, hy⟩
    · refine ⟨⟨Rect.unit _ _ hb, _⟩, List.mem_cons_self, (Rect.mem_set_unit (inb := hb)).2 fun a => ?_⟩
      match a with
      | ⟨0, _⟩ => show 128 * k ≤ (y 0).val ∧ (y 0).val < 128 * k + 128; omega
      | ⟨1, _⟩ => show 0 ≤ (y 1).val ∧ (y 1).val < 0 + 128; omega

/-- A matrix all written reads as its rows. -/
theorem rows_read {g : Fin 4352 → Fin 128 → ℝ} {L : List (View.Piece (Elt Ideal) S4352x128 .bf16)} (hL : Rows g 34 L)
    {A : Memref sig .tc .vmem S4352x128 .bf16} (f : A.view.ty.Contents (Elt Ideal)) :
    A.view.read (Elt Ideal) (A.view.writes (Elt Ideal) f L) = up2 (φ := .bf16) g := by
  funext y
  have y0 : (y 0).val < 4352 := (y 0).isLt
  have hc : ∃ p ∈ L, y ∈ p.1.set := hL.2 y (by omega)
  rw [View.read_writes_apply_eq_canon _ f y L hc]
  exact View.canon_eq_of_allAt L y _ hc (hL.1 y)

/-- A chunk of one of a slab's matrices. -/
theorem load_slab {A : Memref sig .tc .vmem S2x4352x128 .bf16} {X : BufTy.Contents (Elt Ideal) A.view.ty} {G0 G1 : ℕ → Tile}
    (h : A.view.read (Elt Ideal) X = fun y => ((slab G0 G1 (y 0).val (y 1).val (y 2) : ℝ) : EReal))
    (off : Fin 3 → ℕ) (d m : ℕ) (ho : off = ![d, 128 * m, 0]) (hb) :
    A.view.readAt (Elt Ideal) (Rect.unit (s := S2x4352x128) off ![1, 128, 128] hb).toLoadRect X
      = up3 (φ := .bf16) (fun r c => slab G0 G1 d (128 * m + r.val) c) := by
  subst ho
  funext i
  show A.view.read (Elt Ideal) X _ = _
  rw [h]
  have h0 : (i 0).val = 0 := Nat.lt_one_iff.mp (i 0).isLt
  show ((slab _ _ _ _ _ : ℝ) : EReal) = ((slab _ _ _ _ _ : ℝ) : EReal)
  congr 2
  · show d + 1 * (i 0).val = d
    omega
  · show 128 * m + 1 * (i 1).val = 128 * m + (i 1).val
    omega
  · apply Fin.ext
    show 0 + 1 * (i 2).val = (i 2).val
    omega

/-- Both directions' entry of a row. -/
def both (G0 G1 : ℕ → Tile) (R : Fin 4352) (c : Fin 128) : ℝ := slab G0 G1 0 R.val c + slab G0 G1 1 R.val c

theorem ch_both (G0 G1 : ℕ → Tile) (m : ℕ) (hm : m < 34) :
    (fun r c => slab G0 G1 0 (128 * m + r.val) c + slab G0 G1 1 (128 * m + r.val) c) = ch (both G0 G1) m := by
  funext r c
  have e : (row m r).val = 128 * m + r.val := by show (128 * m + r.val) % 4352 = _; omega
  unfold ch both
  rw [e]

theorem trips : k0_t3_loop.trips = 34 := by decide +kernel

variable (𝒱 : Variants) (c : Dev nD) (bd : Option 𝒱.V) (i : grid0.Coords) (arg1 : Memref sig .tc .smem S2x4 .f32) (harg1 : arg1.IsWhole) (arg2 : Memref sig .tc .vmem S4352x128 .f32) (harg2 : arg2.IsWhole) (arg3 : Memref sig .tc .vmem S4352x128 .f32) (harg3 : arg3.IsWhole) (arg4 : Memref sig .tc .vmem S4352x128 .f32) (harg4 : arg4.IsWhole) (arg5 : Memref sig .tc .vmem S4352x128 .f32) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4352x128 .bf16) (harg8 : arg8.IsWhole) (arg9 : Memref sig .tc .vmem S4352x128 .bf16) (harg9 : arg9.IsWhole) (arg10 : Memref sig .tc .vmem S4352x128 .bf16) (harg10 : arg10.IsWhole) (arg11 : Memref sig .tc .vmem S1x8x128 .f32) (harg11 : arg11.IsWhole) (arg12 : Memref sig .tc .vmem S14x128x128 .f32) (harg12 : arg12.IsWhole) (arg13 : Memref sig .tc .vmem S2x34x128x128 .f32) (harg13 : arg13.IsWhole) (arg14 : Memref sig .tc .vmem S2x4352x128 .bf16) (harg14 : arg14.IsWhole) (arg15 : Memref sig .tc .vmem S2x4352x128 .bf16) (harg15 : arg15.IsWhole) (arg16 : Memref sig .tc .vmem S2x4352x128 .bf16) (harg16 : arg16.IsWhole)
  (X_arg6 : BufTy.Contents (Elt Ideal) arg6.view.ty) (X_arg7 : BufTy.Contents (Elt Ideal) arg7.view.ty) (X_arg14 : BufTy.Contents (Elt Ideal) arg14.view.ty) (X_arg15 : BufTy.Contents (Elt Ideal) arg15.view.ty) (X_arg16 : BufTy.Contents (Elt Ideal) arg16.view.ty)
  (cs sn : Fin 4352 → Fin 128 → ℝ) (Q0 Q1 K0 K1 V0 V1 : ℕ → Tile)

/-- The buffers the loop loads from hold the rotary tables and the slabs. -/
structure Reads : Prop where
  h6 : arg6.view.read (Elt Ideal) X_arg6 = up2 (φ := .f32) cs
  h7 : arg7.view.read (Elt Ideal) X_arg7 = up2 (φ := .f32) sn
  h14 : arg14.view.read (Elt Ideal) X_arg14 = fun y => ((slab Q0 Q1 (y 0).val (y 1).val (y 2) : ℝ) : EReal)
  h15 : arg15.view.read (Elt Ideal) X_arg15 = fun y => ((slab K0 K1 (y 0).val (y 1).val (y 2) : ℝ) : EReal)
  h16 : arg16.view.read (Elt Ideal) X_arg16 = fun y => ((slab V0 V1 (y 0).val (y 1).val (y 2) : ℝ) : EReal)

/-- The values' gradients are both directions' sum. -/
theorem dv (h16 : arg16.view.read (Elt Ideal) X_arg16 = fun y => ((slab V0 V1 (y 0).val (y 1).val (y 2) : ℝ) : EReal)) (t : ℕ) (ht : t ≤ 34) :
    Rows (both V0 V1) t (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg6 X_arg7 X_arg14 X_arg15 X_arg16 t).2.2 := by
  induction t with
  | zero => exact rows_nil _
  | succ t ih =>
    have i' := ih (by omega)
    have hk : t < k0_t3_loop.trips := by rw [trips]; omega
    have e := congrArg (·.2.2) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg6 X_arg7 X_arg14 X_arg15 X_arg16 ⟨t, hk⟩)
    have s : ∃ hb, (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg6 X_arg7 X_arg14 X_arg15 X_arg16 ⟨t, hk⟩).2.2.1 = [⟨Rect.unit (s := S4352x128) (k0_off13 ⟨t, hk⟩) ![128, 128] hb, up2 (φ := .bf16) (ch (both V0 V1) t)⟩] := by
      refine ⟨k0_off13_inb _, ?_⟩
      unfold trip_k0_t3
      refine congrArg₂ List.cons (congrArg (Sigma.mk _) ?_) rfl
      rw [load_slab h16 _ 0 t (k0_off14_eq ⟨t, hk⟩), load_slab h16 _ 1 t (k0_off15_eq ⟨t, hk⟩), pay8_up]
      exact congrArg _ (ch_both _ _ _ (by omega))
    obtain ⟨hb, s⟩ := s
    refine (congrArg (Rows _ (t + 1)) (e.trans (congrArg (· ++ _) s))).mpr ?_
    exact rows_step (by omega) i' (k0_off13_eq ⟨t, hk⟩) rfl

/-- The queries' gradients, turned back and scaled. -/
theorem dq (H : Reads arg6 arg7 arg14 arg15 arg16 X_arg6 X_arg7 X_arg14 X_arg15 X_arg16 cs sn Q0 Q1 K0 K1 V0 V1) (t : ℕ) (ht : t ≤ 34) :
    Rows (fun R c => ropeT cs sn (both Q0 Q1) R c * qs) t (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg6 X_arg7 X_arg14 X_arg15 X_arg16 t).1 := by
  induction t with
  | zero => exact rows_nil _
  | succ t ih =>
    have i' := ih (by omega)
    have hk : t < k0_t3_loop.trips := by rw [trips]; omega
    have e := congrArg (·.1) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg6 X_arg7 X_arg14 X_arg15 X_arg16 ⟨t, hk⟩)
    have s : ∃ hb, (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg6 X_arg7 X_arg14 X_arg15 X_arg16 ⟨t, hk⟩).1 = [⟨Rect.unit (s := S4352x128) (k0_off13 ⟨t, hk⟩) ![128, 128] hb, up2 (φ := .bf16) (ch (fun R c => ropeT cs sn (both Q0 Q1) R c * qs) t)⟩] := by
      refine ⟨k0_off13_inb _, ?_⟩
      unfold trip_k0_t3
      refine congrArg₂ List.cons (congrArg (Sigma.mk _) ?_) rfl
      rw [load_slab H.h14 _ 0 t (k0_off14_eq ⟨t, hk⟩), load_slab H.h14 _ 1 t (k0_off15_eq ⟨t, hk⟩),
        load_ch H.h6 _ t (k0_off13_eq ⟨t, hk⟩) (by omega), load_ch H.h7 _ t (k0_off13_eq ⟨t, hk⟩) (by omega), pay68_up, ch_both _ _ _ (by omega)]
      rfl
    obtain ⟨hb, s⟩ := s
    refine (congrArg (Rows _ (t + 1)) (e.trans (congrArg (· ++ _) s))).mpr ?_
    exact rows_step (by omega) i' (k0_off13_eq ⟨t, hk⟩) rfl

/-- The keys' gradients, turned back. -/
theorem dk (H : Reads arg6 arg7 arg14 arg15 arg16 X_arg6 X_arg7 X_arg14 X_arg15 X_arg16 cs sn Q0 Q1 K0 K1 V0 V1) (t : ℕ) (ht : t ≤ 34) :
    Rows (ropeT cs sn (both K0 K1)) t (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg6 X_arg7 X_arg14 X_arg15 X_arg16 t).2.1 := by
  induction t with
  | zero => exact rows_nil _
  | succ t ih =>
    have i' := ih (by omega)
    have hk : t < k0_t3_loop.trips := by rw [trips]; omega
    have e := congrArg (·.2.1) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg6 X_arg7 X_arg14 X_arg15 X_arg16 ⟨t, hk⟩)
    have s : ∃ hb, (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg6 X_arg7 X_arg14 X_arg15 X_arg16 ⟨t, hk⟩).2.1 = [⟨Rect.unit (s := S4352x128) (k0_off13 ⟨t, hk⟩) ![128, 128] hb, up2 (φ := .bf16) (ch (ropeT cs sn (both K0 K1)) t)⟩] := by
      refine ⟨k0_off13_inb _, ?_⟩
      unfold trip_k0_t3
      refine congrArg₂ List.cons (congrArg (Sigma.mk _) ?_) rfl
      simp only [trip_k0_t3.sl.r]
      rw [load_slab H.h15 _ 0 t (k0_off14_eq ⟨t, hk⟩), load_slab H.h15 _ 1 t (k0_off15_eq ⟨t, hk⟩),
        load_ch H.h6 _ t (k0_off13_eq ⟨t, hk⟩) (by omega), load_ch H.h7 _ t (k0_off13_eq ⟨t, hk⟩) (by omega), pay69_up, ch_both _ _ _ (by omega)]
      rfl
    obtain ⟨hb, s⟩ := s
    refine (congrArg (Rows _ (t + 1)) (e.trans (congrArg (· ++ _) s))).mpr ?_
    exact rows_step (by omega) i' (k0_off13_eq ⟨t, hk⟩) rfl

end Cert.KernelIdeal.Finish
-- ==== Proof.Out.lean ====
/- What the kernel's body leaves in its four outputs, of real inputs. -/
module

public import proofs.«01_k».proof.Proof.Table
public import proofs.«01_k».proof.Proof.Finish

@[expose] public section

noncomputable section

namespace Cert.KernelIdeal.Out

open Idealize.ShloMosaic Idealize.ShloMosaic.TcCoe Cert.KernelIdeal Cert.KernelIdeal.Gen Cert.KernelIdeal.Lift Cert.KernelIdeal.Spec Cert.KernelIdeal.Loads Cert.KernelIdeal.Pay

/-- The four gradients of one head. -/
def dv (I : In) : Fin 4352 → Fin 128 → ℝ := Finish.both (I.dv mf I.a) (I.dv mb I.b)
def dk (I : In) : Fin 4352 → Fin 128 → ℝ := ropeT I.cs I.sn (Finish.both (I.dk mf I.a) (I.dk mb I.b))
def dq (I : In) : Fin 4352 → Fin 128 → ℝ := fun R c => ropeT I.cs I.sn (Finish.both (I.dq mf I.a) (I.dq mb I.b)) R c * qs
def dl (I : In) (n : ℕ) : ℝ :=
  if n = 0 then ∑ c, ∑ j ∈ Finset.range 34, I.dl mf I.a (33 - j) c
  else if n = 1 then ∑ c, ∑ j ∈ Finset.range 34, I.dl mb I.b (33 - j) c else 0

theorem pay6_up (l : Fin 128 → ℝ) : k0_pay6 (up1 (φ := .f32) l) = fun _ => ((∑ c, l c : ℝ) : EReal) := by
  funext i
  simp (disch := first | rfl | decide) only [k0_pay6, total_up1]
  rw [ValueIdx.eq_ix3 i]
  refine (ValueIdx.shapeCast_ab_1ab_apply _ _ _ _ _).trans ?_
  show Ideal.ofBits .f32 0x00000000#32 + ((∑ c, l c : ℝ) : EReal) = _
  rw [Ideal.ofBits_zero_f32, zero_add]

theorem pay7_up (l : Fin 128 → ℝ) : k0_pay7 (up1 (φ := .f32) l) = fun _ => ((∑ c, l c : ℝ) : EReal) := pay6_up l

/-- The last of two writes over a third that covers all. -/
theorem over {s : Shape} (R1 R0 R : Rect s) {w1 : R1.shape.Idx → Elt Ideal .f32} {w0 : R0.shape.Idx → Elt Ideal .f32} {w : R.shape.Idx → Elt Ideal .f32}
    (a b d : EReal) (h1 : ∀ v, w1 v = a) (h0 : ∀ v, w0 v = b) (h : ∀ v, w v = d) (y : s.Idx) (m : y ∈ R.set) :
    (y ∈ R1.set → View.canon (Val := Elt Ideal) (e := .f32) [⟨R1, w1⟩, ⟨R0, w0⟩, ⟨R, w⟩] y = a)
    ∧ (y ∉ R1.set → y ∈ R0.set → View.canon (Val := Elt Ideal) (e := .f32) [⟨R1, w1⟩, ⟨R0, w0⟩, ⟨R, w⟩] y = b)
    ∧ (y ∉ R1.set → y ∉ R0.set → View.canon (Val := Elt Ideal) (e := .f32) [⟨R1, w1⟩, ⟨R0, w0⟩, ⟨R, w⟩] y = d) := by
  refine ⟨fun m1 => ?_, fun n1 m0 => ?_, fun n1 n0 => ?_⟩
  · obtain ⟨v, rfl⟩ := R1.exists_idx_of_mem m1
    exact (View.canon_cons_emb _ _ _ v).trans (h1 v)
  · obtain ⟨v, rfl⟩ := R0.exists_idx_of_mem m0
    exact (View.canon_cons_of_not_mem _ _ n1).trans ((View.canon_cons_emb _ _ _ v).trans (h0 v))
  · obtain ⟨v, rfl⟩ := R.exists_idx_of_mem m
    exact (View.canon_cons_of_not_mem _ _ n1).trans ((View.canon_cons_of_not_mem _ _ n0).trans ((View.canon_cons_emb _ _ _ v).trans (h v)))

/-- The row of sums read back. -/
theorem dl_read {A : Memref sig .tc .vmem S1x8x128 .f32} (f : BufTy.Contents (Elt Ideal) A.view.ty) (x z : ℝ)
    {w1 w0 : S1x1x128.Idx → Elt Ideal .f32} (h1 : ∀ v, w1 v = ((z : ℝ) : EReal)) (h0 : ∀ v, w0 v = ((x : ℝ) : EReal)) (hb1 hb0 hb) :
    A.view.read (Elt Ideal) (A.view.writes (Elt Ideal) f [⟨Rect.unit (s := S1x8x128) ![0, 1, 0] ![1, 1, 128] hb1, w1⟩,
      ⟨Rect.unit (s := S1x8x128) ![0, 0, 0] ![1, 1, 128] hb0, w0⟩, ⟨Rect.unit (s := S1x8x128) ![0, 0, 0] ![1, 8, 128] hb, k0_pay94 (F := Ideal)⟩])
      = fun y => ((if (y 1).val = 0 then x else if (y 1).val = 1 then z else 0 : ℝ) : EReal) := by
  funext y
  have y0 : (y 0).val < 1 := (y 0).isLt
  have y1 : (y 1).val < 8 := (y 1).isLt
  have y2 : (y 2).val < 128 := (y 2).isLt
  have m : y ∈ (Rect.unit (s := S1x8x128) ![0, 0, 0] ![1, 8, 128] hb).set := (Rect.mem_set_unit (inb := hb)).2 fun a => by
    fin_cases a
    · exact ⟨Nat.zero_le _, by show (y 0).val < 0 + 1; omega⟩
    · exact ⟨Nat.zero_le _, by show (y 1).val < 0 + 8; omega⟩
    · exact ⟨Nat.zero_le _, by show (y 2).val < 0 + 128; omega⟩
  have m0 : y ∈ (Rect.unit (s := S1x8x128) ![0, 0, 0] ![1, 1, 128] hb0).set ↔ (y 1).val = 0 := by
    rw [Rect.mem_set_unit (inb := hb0)]
    refine ⟨fun h => ?_, fun h a => ?_⟩
    · have := (h 1).2
      change (y 1).val < 0 + 1 at this
      omega
    · fin_cases a
      · exact ⟨Nat.zero_le _, by show (y 0).val < 0 + 1; omega⟩
      · exact ⟨Nat.zero_le _, by show (y 1).val < 0 + 1; omega⟩
      · exact ⟨Nat.zero_le _, by show (y 2).val < 0 + 128; omega⟩
  have m1 : y ∈ (Rect.unit (s := S1x8x128) ![0, 1, 0] ![1, 1, 128] hb1).set ↔ (y 1).val = 1 := by
    rw [Rect.mem_set_unit (inb := hb1)]
    refine ⟨fun h => ?_, fun h a => ?_⟩
    · have := h 1
      change 1 ≤ (y 1).val ∧ (y 1).val < 1 + 1 at this
      omega
    · fin_cases a
      · exact ⟨Nat.zero_le _, by show (y 0).val < 0 + 1; omega⟩
      · exact ⟨by show 1 ≤ (y 1).val; omega, by show (y 1).val < 1 + 1; omega⟩
      · exact ⟨Nat.zero_le _, by show (y 2).val < 0 + 128; omega⟩
  have o := over (Rect.unit (s := S1x8x128) ![0, 1, 0] ![1, 1, 128] hb1) (Rect.unit (s := S1x8x128) ![0, 0, 0] ![1, 1, 128] hb0) (Rect.unit (s := S1x8x128) ![0, 0, 0] ![1, 8, 128] hb)
    (w1 := w1) (w0 := w0) (w := k0_pay94 (F := Ideal)) (z : EReal) (x : EReal) (((0 : ℝ)) : EReal) h1 h0
    (fun v => (show Ideal.ofBits .f32 0x00000000#32 = ((0 : ℝ) : EReal) by rw [Ideal.ofBits_zero_f32]; rfl)) y m
  refine (View.read_writes_apply_eq_canon _ f y _ ⟨_, List.mem_cons_of_mem _ (List.mem_cons_of_mem _ List.mem_cons_self), m⟩).trans ?_
  by_cases e1 : (y 1).val = 1
  · rw [if_neg (by omega), if_pos e1]
    exact o.1 (m1.2 e1)
  · by_cases e0 : (y 1).val = 0
    · rw [if_pos e0]
      exact o.2.1 (fun h => e1 (m1.1 h)) (m0.2 e0)
    · rw [if_neg e0, if_neg e1]
      exact o.2.2 (fun h => e1 (m1.1 h)) (fun h => e0 (m0.1 h))

variable (𝒱 : Variants) (c : Dev nD) (bd : Option 𝒱.V) (i : grid0.Coords) (arg1 : Memref sig .tc .smem S2x4 .f32) (harg1 : arg1.IsWhole) (arg2 : Memref sig .tc .vmem S4352x128 .f32) (harg2 : arg2.IsWhole) (arg3 : Memref sig .tc .vmem S4352x128 .f32) (harg3 : arg3.IsWhole) (arg4 : Memref sig .tc .vmem S4352x128 .f32) (harg4 : arg4.IsWhole) (arg5 : Memref sig .tc .vmem S4352x128 .f32) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4352x128 .bf16) (harg8 : arg8.IsWhole) (arg9 : Memref sig .tc .vmem S4352x128 .bf16) (harg9 : arg9.IsWhole) (arg10 : Memref sig .tc .vmem S4352x128 .bf16) (harg10 : arg10.IsWhole) (arg11 : Memref sig .tc .vmem S1x8x128 .f32) (harg11 : arg11.IsWhole) (arg12 : Memref sig .tc .vmem S14x128x128 .f32) (harg12 : arg12.IsWhole) (arg13 : Memref sig .tc .vmem S2x34x128x128 .f32) (harg13 : arg13.IsWhole) (arg14 : Memref sig .tc .vmem S2x4352x128 .bf16) (harg14 : arg14.IsWhole) (arg15 : Memref sig .tc .vmem S2x4352x128 .bf16) (harg15 : arg15.IsWhole) (arg16 : Memref sig .tc .vmem S2x4352x128 .bf16) (harg16 : arg16.IsWhole)
  (v3 : Elt Ideal .f32) (v5 : FVec Ideal S128x128 .f32) (v56 : FVec Ideal S128x128 .f32) (v58 : FVec Ideal S128x128 .f32) (v72 : FVec Ideal S1x128x128 .f32)
  (Y2 : BufTy.Contents (Elt Ideal) arg2.view.ty) (Y3 : BufTy.Contents (Elt Ideal) arg3.view.ty) (Y4 : BufTy.Contents (Elt Ideal) arg4.view.ty) (Y5 : BufTy.Contents (Elt Ideal) arg5.view.ty) (Y6 : BufTy.Contents (Elt Ideal) arg6.view.ty) (Y7 : BufTy.Contents (Elt Ideal) arg7.view.ty) (X : BufTy.Contents (Elt Ideal) arg12.view.ty)
  (fs1 : BufTy.Contents (Elt Ideal) arg13.view.ty) (fs14 : BufTy.Contents (Elt Ideal) arg14.view.ty) (fs15 : BufTy.Contents (Elt Ideal) arg15.view.ty) (fs16 : BufTy.Contents (Elt Ideal) arg16.view.ty)
  (n1 n2 n3 : ℕ) (hn1 : n1 = 34) (hn2 : n2 = 34) (hn3 : n3 = 34) (I : In)

/-- The inputs' buffers and the tables hold real numbers. -/
structure Holds : Prop where
  h2 : arg2.view.read (Elt Ideal) Y2 = up2 (φ := .f32) I.q
  h3 : arg3.view.read (Elt Ideal) Y3 = up2 (φ := .f32) I.k
  h4 : arg4.view.read (Elt Ideal) Y4 = up2 (φ := .f32) I.v
  h5 : arg5.view.read (Elt Ideal) Y5 = up2 (φ := .f32) I.o
  h6 : arg6.view.read (Elt Ideal) Y6 = up2 (φ := .f32) I.cs
  h7 : arg7.view.read (Elt Ideal) Y7 = up2 (φ := .f32) I.sn
  hT : arg12.view.read (Elt Ideal) X = fun i => ((tabs I.a I.b (i 0).val (i 1) (i 2) : ℝ) : EReal)

variable (H : Holds arg2 arg3 arg4 arg5 arg6 arg7 arg12 Y2 Y3 Y4 Y5 Y6 Y7 X I)
include H

theorem sweeps (X13 : BufTy.Contents (Elt Ideal) arg13.view.ty) : Sweep.Reads arg2 arg3 arg4 arg5 arg6 arg7 arg12 Y2 Y3 Y4 Y5 Y6 Y7 X I :=
  ⟨H.h2, H.h3, H.h4, H.h5, H.h6, H.h7, H.hT⟩

include hn1

theorem states : arg13.view.read (Elt Ideal) (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) = fun i => ((Sweep.stn I (i 0).val (i 1).val (i 2) (i 3) : ℝ) : EReal) := by
  subst hn1
  exact States.cells_read (States.states 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X I ⟨H.h3, H.h4, H.h6, H.h7, H.hT⟩ 34 (le_refl _)) _

include hn2

theorem finishes : Finish.Reads arg6 arg7 arg14 arg15 arg16 Y6 Y7 (arg14.view.writes (Elt Ideal) fs14 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).2.1) (arg15.view.writes (Elt Ideal) fs15 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).2.2.1) (arg16.view.writes (Elt Ideal) fs16 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).2.2.2) I.cs I.sn
    (I.dq mf I.a) (I.dq mb I.b) (I.dk mf I.a) (I.dk mb I.b) (I.dv mf I.a) (I.dv mb I.b) := by
  have h13 := states 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y2 Y3 Y4 Y5 Y6 Y7 X fs1 n1 hn1 I H
  have R : Sweep.Reads arg2 arg3 arg4 arg5 arg6 arg7 arg12 Y2 Y3 Y4 Y5 Y6 Y7 X I := ⟨H.h2, H.h3, H.h4, H.h5, H.h6, H.h7, H.hT⟩
  subst hn2
  exact ⟨H.h6, H.h7, slab_read (Sweep.dqs 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X _ I R h13 34 (le_refl _)) _,
    slab_read (Sweep.dks 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X _ I R 34 (le_refl _)) _,
    slab_read (Sweep.dvs 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X _ I R 34 (le_refl _)) _⟩

/-- The decays' row. -/
theorem out11 (f : BufTy.Contents (Elt Ideal) arg11.view.ty) (hb1 hb0 hb) :
    arg11.view.read (Elt Ideal) (arg11.view.writes (Elt Ideal) f [⟨Rect.unit (s := S1x8x128) ![0, 1, 0] ![1, 1, 128] hb1, k0_pay7 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).1.2.2.2⟩,
      ⟨Rect.unit (s := S1x8x128) ![0, 0, 0] ![1, 1, 128] hb0, k0_pay6 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).1.2.1⟩, ⟨Rect.unit (s := S1x8x128) ![0, 0, 0] ![1, 8, 128] hb, k0_pay94 (F := Ideal)⟩])
      = fun y => ((dl I (y 1).val : ℝ) : EReal) := by
  have h13 := states 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y2 Y3 Y4 Y5 Y6 Y7 X fs1 n1 hn1 I H
  have R : Sweep.Reads arg2 arg3 arg4 arg5 arg6 arg7 arg12 Y2 Y3 Y4 Y5 Y6 Y7 X I := ⟨H.h2, H.h3, H.h4, H.h5, H.h6, H.h7, H.hT⟩
  subst hn2
  obtain ⟨s0, s1⟩ := Sweep.dls 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X _ I R h13 34 (le_refl _)
  exact dl_read f _ _ (congrFun ((congrArg k0_pay7 s1).trans (pay7_up _))) (congrFun ((congrArg k0_pay6 s0).trans (pay6_up _))) hb1 hb0 hb

include hn3

/-- The queries' gradients. -/
theorem out8 (f : BufTy.Contents (Elt Ideal) arg8.view.ty) :
    arg8.view.read (Elt Ideal) (arg8.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y6 Y7 (arg14.view.writes (Elt Ideal) fs14 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).2.1) (arg15.view.writes (Elt Ideal) fs15 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).2.2.1) (arg16.view.writes (Elt Ideal) fs16 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).2.2.2) n3).1) = up2 (φ := .bf16) (dq I) := by
  subst hn3
  exact Finish.rows_read (Finish.dq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y6 Y7 _ _ _ I.cs I.sn _ _ _ _ _ _ (finishes 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y2 Y3 Y4 Y5 Y6 Y7 X fs1 fs14 fs15 fs16 n1 n2 hn1 hn2 I H) 34 (le_refl _)) f

/-- The keys' gradients. -/
theorem out9 (f : BufTy.Contents (Elt Ideal) arg9.view.ty) :
    arg9.view.read (Elt Ideal) (arg9.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y6 Y7 (arg14.view.writes (Elt Ideal) fs14 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).2.1) (arg15.view.writes (Elt Ideal) fs15 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).2.2.1) (arg16.view.writes (Elt Ideal) fs16 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).2.2.2) n3).2.1) = up2 (φ := .bf16) (dk I) := by
  subst hn3
  exact Finish.rows_read (Finish.dk 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y6 Y7 _ _ _ I.cs I.sn _ _ _ _ _ _ (finishes 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y2 Y3 Y4 Y5 Y6 Y7 X fs1 fs14 fs15 fs16 n1 n2 hn1 hn2 I H) 34 (le_refl _)) f

/-- The values' gradients. -/
theorem out10 (f : BufTy.Contents (Elt Ideal) arg10.view.ty) :
    arg10.view.read (Elt Ideal) (arg10.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y6 Y7 (arg14.view.writes (Elt Ideal) fs14 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).2.1) (arg15.view.writes (Elt Ideal) fs15 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).2.2.1) (arg16.view.writes (Elt Ideal) fs16 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y2 Y3 Y4 Y5 Y6 Y7 X (arg13.view.writes (Elt Ideal) fs1 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y3 Y4 Y6 Y7 X (k0_pay95, k0_pay95) n1).2) (k0_pay95, k0_pay98, k0_pay95, k0_pay98) n2).2.2.2) n3).2.2) = up2 (φ := .bf16) (dv I) := by
  subst hn3
  exact Finish.rows_read (Finish.dv 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y6 Y7 _ _ _ _ _ (finishes 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v5 v56 v58 v72 Y2 Y3 Y4 Y5 Y6 Y7 X fs1 fs14 fs15 fs16 n1 n2 hn1 hn2 I H).h16 34 (le_refl _)) f

end Cert.KernelIdeal.Out
-- ==== Proof.Global.lean ====
/- The gradients of one head as sums over all pairs of rows: the chunks put together. -/
module

public import proofs.«01_k».proof.Proof.Out

@[expose] public section

noncomputable section

namespace Cert.KernelIdeal.Global

open Finset Cert.KernelIdeal.Lift Cert.KernelIdeal.Spec

/-- The place at which the forward direction takes a row. -/
def tf (R : Fin 4352) : ℕ := (R.val + 256) % 4352

/-- The place at which the backward direction takes a row. -/
def tb (R : Fin 4352) : ℕ := 4351 - R.val

/-- The forward weight of the pair of rows: the decay over the steps from the second to the first. -/
def Wf (l : ℝ) (R C : Fin 4352) : ℝ := if tf C ≤ tf R then Real.exp (l * ((tf R : ℝ) - (tf C : ℝ))) else 0

/-- The forward exponent of the pair of rows. -/
def Xf (R C : Fin 4352) : ℝ := if tf C ≤ tf R then (tf R : ℝ) - (tf C : ℝ) else 0

/-- The backward weight of the pair of rows, the row itself left out. -/
def Wb (l : ℝ) (R C : Fin 4352) : ℝ := if tb C < tb R then Real.exp (l * ((tb R : ℝ) - (tb C : ℝ) - 1)) else 0

/-- The backward exponent of the pair of rows. -/
def Xb (R C : Fin 4352) : ℝ := if tb C < tb R then (tb R : ℝ) - (tb C : ℝ) - 1 else 0

/-- A sum over the rows, chunk by chunk. -/
theorem sum_rows (F : Fin 4352 → ℝ) : ∑ R, F R = ∑ a ∈ range 34, ∑ r : Fin 128, F (row a r) := by
  rw [Finset.sum_range (fun a => ∑ r : Fin 128, F (row a r))]
  rw [← Fintype.sum_prod_type' (f := fun (a : Fin 34) (r : Fin 128) => F (row a.val r))]
  refine (Fintype.sum_equiv (finProdFinEquiv (m := 34) (n := 128)) _ F fun p => ?_).symm
  congr 1
  apply Fin.ext
  have h1 := p.1.isLt
  have h2 := p.2.isLt
  show (128 * p.1.val + p.2.val) % 4352 = p.2.val + 128 * p.1.val
  omega

/-- The same in the order in which a direction takes the chunks. -/
theorem sum_order (m : ℕ → ℕ) (hm : ∀ a < 34, m a < 34) (hi : ∀ a < 34, ∀ b < 34, m a = m b → a = b)
    (hs : ∀ b < 34, ∃ a < 34, m a = b) (F : Fin 4352 → ℝ) :
    ∑ a ∈ range 34, ∑ r : Fin 128, F (row (m a) r) = ∑ R, F R := by
  rw [sum_rows]
  refine sum_nbij m (fun a ha => mem_range.2 (hm a (mem_range.1 ha))) ?_ ?_ fun _ _ => rfl
  · intro a ha b hb h
    exact hi a (by simpa using ha) b (by simpa using hb) h
  · intro b hb
    obtain ⟨a, ha, e⟩ := hs b (by simpa using hb)
    exact ⟨a, by simpa using ha, e⟩

theorem sum_mf (F : Fin 4352 → ℝ) : ∑ a ∈ range 34, ∑ r : Fin 128, F (row (mf a) r) = ∑ R, F R :=
  sum_order mf (fun a h => by unfold mf; omega) (fun a _ b _ h => by unfold mf at h; omega)
    (fun b _ => ⟨(b + 2) % 34, by omega, by unfold mf; omega⟩) F

theorem sum_mb (F : Fin 4352 → ℝ) : ∑ a ∈ range 34, ∑ r : Fin 128, F (row (mb a) r) = ∑ R, F R :=
  sum_order mb (fun a h => by unfold mb; omega) (fun a _ b _ h => by unfold mb at h; omega)
    (fun b _ => ⟨33 - b, by omega, by unfold mb; omega⟩) F

theorem tf_row (a : ℕ) (ha : a < 34) (r : Fin 128) : tf (row (mf a) r) = 128 * a + r.val := by
  have := r.isLt
  show ((128 * ((a + 32) % 34) + r.val) % 4352 + 256) % 4352 = _
  omega

theorem tb_row (a : ℕ) (ha : a < 34) (r : Fin 128) : tb (row (mb a) r) = 128 * a + (127 - r.val) := by
  have := r.isLt
  show 4351 - (128 * (33 - a) + r.val) % 4352 = _
  omega

/-- The decays between two chunks make one exponential. -/
theorem wt_exp (l x y w z : ℝ) (n : ℕ) (h : z = x + (n : ℝ) * w + y) :
    Real.exp (l * x) * Real.exp (l * w) ^ n * Real.exp (l * y) = Real.exp (l * z) := by
  rw [← Real.exp_nat_mul, ← Real.exp_add, ← Real.exp_add, h]
  congr 1; ring

theorem wt_f (l : ℝ) (a b : ℕ) (ha : a < 34) (hb : b < 34) (r c : Fin 128) :
    Cert.Chunk.wt (fwd l).dm (fwd l).xi (fwd l).ze (fwd l).cd a r b c = Wf l (row (mf a) r) (row (mf b) c) := by
  have hr := r.isLt
  have hc := c.isLt
  unfold Wf Cert.Chunk.wt
  rw [tf_row a ha, tf_row b hb]
  by_cases h : a = b
  · subst h
    rw [if_pos rfl]
    show (if c ≤ r then _ else _) = _
    by_cases h' : c ≤ r
    · rw [if_pos h', if_pos (by have : c.val ≤ r.val := h'; omega)]
      push_cast; congr 2; ring
    · rw [if_neg h', if_neg (by have : ¬ c.val ≤ r.val := h'; omega)]
  · rw [if_neg h]
    by_cases h' : b < a
    · rw [if_pos h', if_pos (by omega)]
      refine wt_exp l _ _ _ _ _ ?_
      rw [Nat.sub_sub, Nat.cast_sub (by omega)]
      push_cast; ring
    · rw [if_neg h', if_neg (by omega)]

theorem ex_f (l : ℝ) (a b : ℕ) (ha : a < 34) (hb : b < 34) (r c : Fin 128) :
    Cert.Chunk.ex (fwd l).e (fwd l).xe (fwd l).zx 128 a r b c = Xf (row (mf a) r) (row (mf b) c) := by
  have hr := r.isLt
  have hc := c.isLt
  unfold Xf Cert.Chunk.ex
  rw [tf_row a ha, tf_row b hb]
  by_cases h : a = b
  · subst h
    rw [if_pos rfl]
    show (if c ≤ r then _ else _) = _
    by_cases h' : c ≤ r
    · rw [if_pos h', if_pos (by have : c.val ≤ r.val := h'; omega)]
      push_cast; ring
    · rw [if_neg h', if_neg (by have : ¬ c.val ≤ r.val := h'; omega)]
  · rw [if_neg h]
    by_cases h' : b < a
    · rw [if_pos h', if_pos (by omega)]
      show ((r.val : ℝ) + 1) + 128 * _ + (127 - (c.val : ℝ)) = _
      rw [Nat.sub_sub, Nat.cast_sub (by omega)]
      push_cast; ring
    · rw [if_neg h', if_neg (by omega)]

theorem cast127 (r : Fin 128) : ((127 - r.val : ℕ) : ℝ) = 127 - (r.val : ℝ) := by
  rw [Nat.cast_sub (by have := r.isLt; omega)]; norm_num

theorem wt_b (l : ℝ) (a b : ℕ) (ha : a < 34) (hb : b < 34) (r c : Fin 128) :
    Cert.Chunk.wt (bwd l).dm (bwd l).xi (bwd l).ze (bwd l).cd a r b c = Wb l (row (mb a) r) (row (mb b) c) := by
  have hr := r.isLt
  have hc := c.isLt
  unfold Wb Cert.Chunk.wt
  rw [tb_row a ha, tb_row b hb]
  by_cases h : a = b
  · subst h
    rw [if_pos rfl]
    show (if r < c then _ else _) = _
    by_cases h' : r < c
    · rw [if_pos h', if_pos (by have : r.val < c.val := h'; omega)]
      push_cast [cast127]; congr 2; ring
    · rw [if_neg h', if_neg (by have : ¬ r.val < c.val := h'; omega)]
  · rw [if_neg h]
    by_cases h' : b < a
    · rw [if_pos h', if_pos (by omega)]
      refine wt_exp l _ _ _ _ _ ?_
      rw [Nat.sub_sub, Nat.cast_sub (by omega)]
      push_cast [cast127]; ring
    · rw [if_neg h', if_neg (by omega)]

theorem ex_b (l : ℝ) (a b : ℕ) (ha : a < 34) (hb : b < 34) (r c : Fin 128) :
    Cert.Chunk.ex (bwd l).e (bwd l).xe (bwd l).zx 128 a r b c = Xb (row (mb a) r) (row (mb b) c) := by
  have hr := r.isLt
  have hc := c.isLt
  unfold Xb Cert.Chunk.ex
  rw [tb_row a ha, tb_row b hb]
  by_cases h : a = b
  · subst h
    rw [if_pos rfl]
    show (if r < c then _ else _) = _
    by_cases h' : r < c
    · rw [if_pos h', if_pos (by have : r.val < c.val := h'; omega)]
      push_cast [cast127]; ring
    · rw [if_neg h', if_neg (by have : ¬ r.val < c.val := h'; omega)]
  · rw [if_neg h]
    by_cases h' : b < a
    · rw [if_pos h', if_pos (by omega)]
      show (127 - (r.val : ℝ)) + 128 * _ + (c.val : ℝ) = _
      rw [Nat.sub_sub, Nat.cast_sub (by omega)]
      push_cast [cast127]; ring
    · rw [if_neg h', if_neg (by omega)]

section
variable (I : In)

/-- The rotated and scaled queries, and the rotated keys. -/
def qr : Fin 4352 → Fin 128 → ℝ := ropeQ I.cs I.sn I.q
def kr : Fin 4352 → Fin 128 → ℝ := rope I.cs I.sn I.k

/-- The gradients through one direction's weights `W`, and the log decay's, with the exponents `X`. -/
def gv (W : Fin 4352 → Fin 4352 → ℝ) (C : Fin 4352) (f : Fin 128) : ℝ := ∑ R, ((∑ e, qr I R e * kr I C e) * W R C) * I.o R f
def gk (W : Fin 4352 → Fin 4352 → ℝ) (C : Fin 4352) (e : Fin 128) : ℝ := ∑ R, ((∑ f, I.o R f * I.v C f) * W R C) * qr I R e
def gq (W : Fin 4352 → Fin 4352 → ℝ) (R : Fin 4352) (e : Fin 128) : ℝ := ∑ C, ((∑ f, I.o R f * I.v C f) * W R C) * kr I C e
def gl (W X : Fin 4352 → Fin 4352 → ℝ) : ℝ :=
  ∑ R, ∑ C, X R C * (W R C * ((∑ e, qr I R e * kr I C e) * ∑ f, I.o R f * I.v C f))

variable (m : ℕ → ℕ) (d : Dir) (W X : Fin 4352 → Fin 4352 → ℝ)
  (hs : ∀ F : Fin 4352 → ℝ, ∑ a ∈ range 34, ∑ r : Fin 128, F (row (m a) r) = ∑ R, F R)
  (hw : ∀ a b : ℕ, a < 34 → b < 34 → ∀ r c, Cert.Chunk.wt d.dm d.xi d.ze d.cd a r b c = W (row (m a) r) (row (m b) c))
  (hx : ∀ a b : ℕ, a < 34 → b < 34 → ∀ r c, Cert.Chunk.ex d.e d.xe d.zx 128 a r b c = X (row (m a) r) (row (m b) c))
include hs hw

theorem dv_eq (b : ℕ) (hb : b < 34) (c f : Fin 128) : I.dv m d b c f = gv I W (row (m b) c) f := by
  refine (Cert.Chunk.dv_eq (I.Q m) (I.K m) (I.O m) d.dm d.xi d.ze d.cd 34 b hb c f).trans ?_
  refine (sum_congr rfl fun a ha => sum_congr rfl fun r _ => ?_).trans
    (hs fun R => ((∑ e, qr I R e * kr I (row (m b) c) e) * W R (row (m b) c)) * I.o R f)
  rw [hw a b (mem_range.1 ha) hb]; rfl

theorem dk_eq (b : ℕ) (hb : b < 34) (c e : Fin 128) : I.dk m d b c e = gk I W (row (m b) c) e := by
  refine (Cert.Chunk.dk_eq (I.Q m) (I.V m) (I.O m) d.dm d.xi d.ze d.cd 34 b hb c e).trans ?_
  refine (sum_congr rfl fun a ha => sum_congr rfl fun r _ => ?_).trans
    (hs fun R => ((∑ f, I.o R f * I.v (row (m b) c) f) * W R (row (m b) c)) * qr I R e)
  rw [hw a b (mem_range.1 ha) hb]; rfl

theorem dq_eq (a : ℕ) (ha : a < 34) (r e : Fin 128) : I.dq m d a r e = gq I W (row (m a) r) e := by
  refine (Cert.Chunk.dq_eq (I.K m) (I.V m) (I.O m) d.dm d.xi d.ze d.cd 34 a ha r e).trans ?_
  refine (sum_congr rfl fun b hb => sum_congr rfl fun c _ => ?_).trans
    (hs fun C => ((∑ f, I.o (row (m a) r) f * I.v C f) * W (row (m a) r) C) * kr I C e)
  rw [hw a b ha (mem_range.1 hb)]; rfl

include hx in
theorem dl_eq : ∑ c, ∑ j ∈ range 34, I.dl m d (33 - j) c = gl I W X := by
  rw [sum_comm, ← sum_range_reflect]
  refine Eq.trans (sum_congr rfl fun j hj => ?_)
    ((Cert.Chunk.dlg_eq (I.Q m) (I.K m) (I.V m) (I.O m) d.dm d.e d.xi d.ze d.xe d.zx d.cd 128 34).trans ?_)
  · have hj' := mem_range.1 hj
    rw [show 33 - (34 - 1 - j) = j by omega]
    show ∑ c, dlT d (I.Q m j) (I.K m j) (I.V m j) (I.O m j) (I.S m d j) (I.G m d (33 - j)) c = _
    unfold dlT
    simp only [sum_add_distrib]
    congr 1; congr 1; congr 1
    · exact sum_comm
    · exact sum_comm
    · rw [← mul_sum]; congr 1; exact sum_comm
    · exact sum_comm
  · unfold gl
    rw [← hs]
    refine sum_congr rfl fun a ha => ?_
    rw [sum_comm]
    refine sum_congr rfl fun r _ => ?_
    rw [← hs]
    refine sum_congr rfl fun b hb => sum_congr rfl fun c _ => ?_
    rw [hw a b (mem_range.1 ha) (mem_range.1 hb), hx a b (mem_range.1 ha) (mem_range.1 hb)]
    rfl
end

/-- A row's chunk and place. -/
theorem row_f (R : Fin 4352) : row (mf ((R.val / 128 + 2) % 34)) ⟨R.val % 128, Nat.mod_lt _ (by norm_num)⟩ = R := by
  apply Fin.ext
  have := R.isLt
  show (128 * (((R.val / 128 + 2) % 34 + 32) % 34) + R.val % 128) % 4352 = R.val
  omega

theorem row_b (R : Fin 4352) : row (mb (33 - R.val / 128)) ⟨R.val % 128, Nat.mod_lt _ (by norm_num)⟩ = R := by
  apply Fin.ext
  have := R.isLt
  show (128 * (33 - (33 - R.val / 128)) + R.val % 128) % 4352 = R.val
  omega

/-- Both directions' tiles of chunks, read at a row. -/
theorem both_eq (G0 G1 : ℕ → Tile) (H0 H1 : Fin 4352 → Fin 128 → ℝ)
    (h0 : ∀ j < 34, ∀ r c, G0 j r c = H0 (row (mf j) r) c) (h1 : ∀ j < 34, ∀ r c, G1 j r c = H1 (row (mb j) r) c) :
    Finish.both G0 G1 = fun R c => H0 R c + H1 R c := by
  funext R c
  have := R.isLt
  unfold Finish.both slab
  rw [if_pos rfl, if_neg (by omega), h0 _ (by omega), h1 _ (by omega), row_f, row_b]

variable (I : In) (x z : ℝ)

theorem out_dv (ha : I.a = fwd x) (hb : I.b = bwd z) : Out.dv I = fun R c => gv I (Wf x) R c + gv I (Wb z) R c :=
  both_eq _ _ _ _ (fun j hj r c => dv_eq I mf I.a (Wf x) sum_mf (by rw [ha]; exact wt_f x) j hj r c)
    (fun j hj r c => dv_eq I mb I.b (Wb z) sum_mb (by rw [hb]; exact wt_b z) j hj r c)

theorem out_dk (ha : I.a = fwd x) (hb : I.b = bwd z) :
    Out.dk I = ropeT I.cs I.sn fun R c => gk I (Wf x) R c + gk I (Wb z) R c := by
  unfold Out.dk; congr 1
  exact both_eq _ _ _ _ (fun j hj r c => dk_eq I mf I.a (Wf x) sum_mf (by rw [ha]; exact wt_f x) j hj r c)
    (fun j hj r c => dk_eq I mb I.b (Wb z) sum_mb (by rw [hb]; exact wt_b z) j hj r c)

theorem out_dq (ha : I.a = fwd x) (hb : I.b = bwd z) :
    Out.dq I = fun R c => ropeT I.cs I.sn (fun R c => gq I (Wf x) R c + gq I (Wb z) R c) R c * qs := by
  unfold Out.dq
  have := both_eq _ _ _ _ (fun j hj r c => dq_eq I mf I.a (Wf x) sum_mf (by rw [ha]; exact wt_f x) j hj r c)
    (fun j hj r c => dq_eq I mb I.b (Wb z) sum_mb (by rw [hb]; exact wt_b z) j hj r c)
  rw [this]

theorem out_dl (ha : I.a = fwd x) (hb : I.b = bwd z) (n : ℕ) :
    Out.dl I n = if n = 0 then gl I (Wf x) Xf else if n = 1 then gl I (Wb z) Xb else 0 := by
  unfold Out.dl
  rw [dl_eq I mf I.a (Wf x) Xf sum_mf (by rw [ha]; exact wt_f x) (by rw [ha]; exact ex_f x),
    dl_eq I mb I.b (Wb z) Xb sum_mb (by rw [hb]; exact wt_b z) (by rw [hb]; exact ex_b z)]

end Cert.KernelIdeal.Global

end
-- ==== Proof.Angles.lean ====
/- The reference's rotary angles are real numbers; their tables of cosines and signed sines. -/
module

public import proofs.«01_k».proof.Proof.Gen.KernelIdeal
public import proofs.«01_k».proof.Proof.Gen.ReferenceIdeal.Read
public import Idealize.ShloMosaic.Lib.Pipeline.Value

@[expose] public section

set_option maxRecDepth 16384

noncomputable section

namespace Cert.KernelIdeal.Angles

open Idealize.ShloMosaic Idealize.ShloMosaic.TcCoe
open Idealize.SL.Sem
open Cert.KernelIdeal Cert.KernelIdeal.Gen

/-- The angles of every row and pair of columns. -/
def angles : Vec Ideal S4352x64 .f32 := Cert.ReferenceIdeal.Read.val_main_v82 (F := Ideal)

/-! ## The angles are real -/

/-- Every element is a real number. -/
def Re {ι : Type} (v : ι → EReal) : Prop := ∀ i, ∃ x : ℝ, v i = (x : EReal)

theorem re_concat {t : Shape} (a : Fin t.rank) (xs : List ((s : Shape) × (s.Idx → EReal))) (h : Shape.Concatenates (xs.map (·.1)) t a)
    (hx : ∀ p ∈ xs, Re p.2) : Re (concatenate t a xs h) := fun j => by
  unfold concatenate
  exact hx _ (List.getElem_mem _) _

theorem re_bcast {s t : Shape} (d : Fin s.rank → Fin t.rank) (h : s.BroadcastsInDim t d) (x : s.Idx → EReal) (hx : Re x) : Re (broadcastInDim t d h x) := fun j => by
  unfold broadcastInDim
  exact hx _

theorem re_cast {s t : Shape} (h : s.ShapeCasts t) (x : s.Idx → EReal) (hx : Re x) : Re (shapeCast t x h) := fun j => by
  unfold shapeCast
  exact hx _

theorem re_iota {s : Shape} (v : IVec s 32) : Re (sitofp (F := Ideal) .f32 v) := fun j => ⟨(((v j).toInt : ℤ) : ℝ), rfl⟩

theorem re_mul {s : Shape} (x y : FVec Ideal s .f32) (hx : Re x) (hy : Re y) : Re (mulf x y) := fun j => by
  obtain ⟨a, ha⟩ := hx j
  obtain ⟨b, hb⟩ := hy j
  refine ⟨a * b, ?_⟩
  show x j * y j = _
  rw [ha, hb, EReal.coe_mul]

theorem re_neg {s : Shape} (x : FVec Ideal s .f32) (hx : Re x) : Re (Host.negf x) := fun j => by
  obtain ⟨a, ha⟩ := hx j
  refine ⟨-a, ?_⟩
  show -(x j) = _
  rw [ha, EReal.coe_neg]

theorem re_div {s : Shape} (x y : FVec Ideal s .f32) (hx : Re x) (b : ℝ) (hb : b ≠ 0) (hy : ∀ j, y j = (b : EReal)) : Re (Host.divf x y) := fun j => by
  obtain ⟨a, ha⟩ := hx j
  refine ⟨a * b⁻¹, ?_⟩
  show Ideal.div (x j) (y j) = _
  rw [ha, hy j, Ideal.div, if_neg (by exact_mod_cast hb), EReal.coe_mul, EReal.coe_inv]

theorem re_pow {s : Shape} (x y : FVec Ideal s .f32) (hx : Re x) (hy : Re y) : Re (Host.powf x y) := fun j => by
  obtain ⟨a, ha⟩ := hx j
  obtain ⟨b, hb⟩ := hy j
  refine ⟨Real.rpow a b, ?_⟩
  show Ideal.pow (x j) (y j) = _
  rw [ha, hb]; rfl

theorem b16 : Ideal.ofBits .f32 0x41800000#32 = ((16 : ℝ) : EReal) := by
  have h : (16 : ℝ) = (8388608 : ℝ) * (2 ^ 19)⁻¹ := by norm_num
  rw [h, EReal.coe_mul]; simp [Ideal.ofBits, Ideal.ieee]

theorem b24 : Ideal.ofBits .f32 0x41C00000#32 = ((24 : ℝ) : EReal) := by
  have h : (24 : ℝ) = (12582912 : ℝ) * (2 ^ 19)⁻¹ := by norm_num
  rw [h, EReal.coe_mul]; simp [Ideal.ofBits, Ideal.ieee]

theorem b10000 : Ideal.ofBits .f32 0x461C4000#32 = ((10000 : ℝ) : EReal) := by
  have h : (10000 : ℝ) = (10240000 : ℝ) * (2 ^ 10)⁻¹ := by norm_num
  rw [h, EReal.coe_mul]; simp [Ideal.ofBits, Ideal.ieee]

theorem b256 : Ideal.ofBits .f32 0x43800000#32 = ((256 : ℝ) : EReal) := by
  have h : (256 : ℝ) = (8388608 : ℝ) * (2 ^ 15)⁻¹ := by norm_num
  rw [h, EReal.coe_mul]; simp [Ideal.ofBits, Ideal.ieee]

open Cert.ReferenceIdeal.Read in
theorem re_angles : Re angles := by
  have c16 : Re (val_main_cst_1 (F := Ideal)) := fun _ => ⟨10000, b10000⟩
  have z : Re (val_main_cst_6 (F := Ideal)) := fun _ => ⟨0, Ideal.ofBits_zero_f32⟩
  have f16 : ∀ x : FVec Ideal Cert.ReferenceIdeal.S16 .f32, Re x → ∀ k : FVec Ideal Cert.ReferenceIdeal.S16 .f32, Re k → ∀ y, (∀ j, y j = ((16 : ℝ) : EReal)) → Re (Host.powf k (Host.divf (Host.negf x) y)) :=
    fun x hx k hk y hy => re_pow _ _ hk (re_div _ _ (re_neg _ hx) 16 (by norm_num) hy)
  have f24 : ∀ x : FVec Ideal Cert.ReferenceIdeal.S24 .f32, Re x → ∀ k : FVec Ideal Cert.ReferenceIdeal.S24 .f32, Re k → ∀ y, (∀ j, y j = ((24 : ℝ) : EReal)) → Re (Host.powf k (Host.divf (Host.negf x) y)) :=
    fun x hx k hk y hy => re_pow _ _ hk (re_div _ _ (re_neg _ hx) 24 (by norm_num) hy)
  have h17 : Re (val_main_v17 (F := Ideal)) := f16 _ (re_iota _) _ (re_bcast _ _ _ fun _ => ⟨_, b10000⟩) _ fun _ => b16
  have h28 : Re (val_main_v28 (F := Ideal)) := f24 _ (re_iota _) _ (re_bcast _ _ _ fun _ => ⟨_, b10000⟩) _ fun _ => b24
  have h53 : Re (val_main_v53 (F := Ideal)) := h17
  have h39 : Re (val_main_v39 (F := Ideal)) := h28
  have h64 : Re (val_main_v64 (F := Ideal)) := h28
  have h75 : Re (val_main_v75 (F := Ideal)) := h28
  have h6 : Re (val_main_v6 (F := Ideal)) := re_cast _ _ (re_bcast _ _ _ (re_bcast _ _ _ (re_iota _)))
  have h10 : Re (val_main_v10 (F := Ideal)) := re_cast _ _ (re_bcast _ _ _ (re_bcast _ _ _ (re_iota _)))
  have h11 : Re (val_main_v11 (F := Ideal)) := re_bcast _ _ _ fun _ => ⟨_, b256⟩
  have h46 : Re (val_main_v46 (F := Ideal)) := re_bcast _ _ _ z
  have h47 : Re (val_main_v47 (F := Ideal)) := re_iota _
  have h22 : Re (val_main_v22 (F := Ideal)) := re_mul _ _ (re_bcast _ _ _ (re_bcast _ _ _ h11)) (re_bcast _ _ _ (re_bcast _ _ _ h17))
  have h33 : Re (val_main_v33 (F := Ideal)) := re_mul _ _ (re_bcast _ _ _ (re_bcast _ _ _ h6)) (re_bcast _ _ _ (re_bcast _ _ _ h28))
  have h44 : Re (val_main_v44 (F := Ideal)) := re_mul _ _ (re_bcast _ _ _ (re_bcast _ _ _ h10)) (re_bcast _ _ _ (re_bcast _ _ _ h39))
  have h58 : Re (val_main_v58 (F := Ideal)) := re_mul _ _ (re_bcast _ _ _ (re_bcast _ _ _ h47)) (re_bcast _ _ _ (re_bcast _ _ _ h53))
  have h69 : Re (val_main_v69 (F := Ideal)) := re_mul _ _ (re_bcast _ _ _ (re_bcast _ _ _ h46)) (re_bcast _ _ _ (re_bcast _ _ _ h64))
  have h80 : Re (val_main_v80 (F := Ideal)) := re_mul _ _ (re_bcast _ _ _ (re_bcast _ _ _ h46)) (re_bcast _ _ _ (re_bcast _ _ _ h75))
  have h45 : Re (val_main_v45 (F := Ideal)) := re_concat _ _ (by exact Cert.ReferenceIdeal.Gen.concatenates_S4096x16_S4096x24_S4096x24_S4096x64_d1) fun p hp => by
    simp only [List.mem_cons, List.not_mem_nil, or_false] at hp
    rcases hp with rfl | rfl | rfl
    · exact h22
    · exact h33
    · exact h44
  have h81 : Re (val_main_v81 (F := Ideal)) := re_concat _ _ (by exact Cert.ReferenceIdeal.Gen.concatenates_S256x16_S256x24_S256x24_S256x64_d1) fun p hp => by
    simp only [List.mem_cons, List.not_mem_nil, or_false] at hp
    rcases hp with rfl | rfl | rfl
    · exact h58
    · exact h69
    · exact h80
  unfold angles val_main_v82
  refine re_concat _ _ (by exact Cert.ReferenceIdeal.Gen.concatenates_S4096x64_S256x64_S4352x64_d0) fun p hp => ?_
  simp only [List.mem_cons, List.not_mem_nil, or_false] at hp
  rcases hp with rfl | rfl
  · exact h45
  · exact h81

/-- The real angles. -/
def ang (R : Fin 4352) (k : Fin 64) : ℝ := (angles (ValueIdx.ix2 R k)).toReal

theorem angles_coe (i : S4352x64.Idx) : angles i = ((ang (i 0) (i 1) : ℝ) : EReal) := by
  obtain ⟨x, hx⟩ := re_angles i
  have e : (ValueIdx.ix2 (i 0) (i 1) : S4352x64.Idx) = i := (ValueIdx.eq_ix2 i).symm
  unfold ang
  rw [e, hx, EReal.toReal_coe]

/-- The pair of columns a column is in. -/
def pair (k : Fin 128) : Fin 64 := ⟨k.val % 64, Nat.mod_lt _ (by norm_num)⟩

/-- The cosines and the signed sines, column by column. -/
def cs (R : Fin 4352) (k : Fin 128) : ℝ := Real.cos (ang R (pair k))
def sn (R : Fin 4352) (k : Fin 128) : ℝ := if k.val < 64 then -Real.sin (ang R (pair k)) else Real.sin (ang R (pair k))

/-- The table of cosines: the angles' cosines, twice over. -/
def cosT : FVec Ideal S4352x128 .f32 :=
  concatenate S4352x128 1 [⟨S4352x64, (Host.cos (F := Ideal) (φ := .f32) angles)⟩, ⟨S4352x64, (Host.cos (F := Ideal) (φ := .f32) angles)⟩]
    concatenates_S4352x64_S4352x64_S4352x128_d1

/-- The table of signed sines: the angles' sines, first negated. -/
def sinT : FVec Ideal S4352x128 .f32 :=
  concatenate S4352x128 1 [⟨S4352x64, (Host.negf (F := Ideal) (φ := .f32) (Host.sin (F := Ideal) (φ := .f32) angles))⟩, ⟨S4352x64, (Host.sin (F := Ideal) (φ := .f32) angles)⟩]
    concatenates_S4352x64_S4352x64_S4352x128_d1

theorem cos_at (i : S4352x128.Idx) (j : S4352x64.Idx) (h0 : (j 0).val = (i 0).val) (h1 : (j 1).val = (i 1).val % 64) :
    Host.cos (F := Ideal) (φ := .f32) angles j = ((Real.cos (ang (i 0) (pair (i 1))) : ℝ) : EReal) := by
  show Ideal.cos (angles j) = _
  rw [angles_coe j, show j 0 = i 0 from Fin.ext h0, show j 1 = pair (i 1) from Fin.ext h1]
  rfl

theorem sin_at (i : S4352x128.Idx) (j : S4352x64.Idx) (h0 : (j 0).val = (i 0).val) (h1 : (j 1).val = (i 1).val % 64) :
    Host.sin (F := Ideal) (φ := .f32) angles j = ((Real.sin (ang (i 0) (pair (i 1))) : ℝ) : EReal) := by
  show Ideal.sin (angles j) = _
  rw [angles_coe j, show j 0 = i 0 from Fin.ext h0, show j 1 = pair (i 1) from Fin.ext h1]
  rfl

/-- Two halves side by side, at a column. -/
theorem halves (x y : S4352x64.Idx → EReal) (i : S4352x128.Idx) (h : Shape.Concatenates [S4352x64, S4352x64] S4352x128 1) :
    ∃ j : S4352x64.Idx, (j 0).val = (i 0).val ∧ (j 1).val = (i 1).val % 64 ∧
      concatenate S4352x128 1 [⟨S4352x64, x⟩, ⟨S4352x64, y⟩] h i = if (i 1).val < 64 then x j else y j := by
  have h1 : (i 1).val < 128 := (i 1).isLt
  have h0 : (i 0).val < 4352 := (i 0).isLt
  refine ⟨ValueIdx.ix2 ⟨(i 0).val, h0⟩ ⟨(i 1).val % 64, Nat.mod_lt _ (by norm_num)⟩, rfl, rfl, ?_⟩
  by_cases h2 : (i 1).val < 64
  · rw [if_pos h2]
    exact concatenate_pair_apply_left 1 x y h i rfl _ fun b => match b with
      | ⟨0, _⟩ => rfl
      | ⟨1, _⟩ => Nat.mod_eq_of_lt h2
  · rw [if_neg h2]
    refine concatenate_pair_apply_right 1 x y h i rfl rfl _ (fun b hb => match b, hb with
      | ⟨0, _⟩, _ => rfl
      | ⟨1, _⟩, hb => absurd rfl hb) ?_
    show (i 1).val % 64 + 64 = (i 1).val
    omega

theorem cosT_at (i : S4352x128.Idx) : cosT i = ((cs (i 0) (i 1) : ℝ) : EReal) := by
  obtain ⟨j, h0, h1, e⟩ := halves (Host.cos (F := Ideal) (φ := .f32) angles) (Host.cos (F := Ideal) (φ := .f32) angles) i concatenates_S4352x64_S4352x64_S4352x128_d1
  refine e.trans ?_
  rw [ite_self]
  exact cos_at i j h0 h1

theorem sinT_at (i : S4352x128.Idx) : sinT i = ((sn (i 0) (i 1) : ℝ) : EReal) := by
  obtain ⟨j, h0, h1, e⟩ := halves (Host.negf (F := Ideal) (φ := .f32) (Host.sin (F := Ideal) (φ := .f32) angles)) (Host.sin (F := Ideal) (φ := .f32) angles) i concatenates_S4352x64_S4352x64_S4352x128_d1
  refine e.trans ?_
  unfold sn
  by_cases h : (i 1).val < 64
  · rw [if_pos h, if_pos h]
    show -(Host.sin (F := Ideal) (φ := .f32) angles j) = _
    rw [sin_at i j h0 h1, EReal.coe_neg]
  · rw [if_neg h, if_neg h]
    exact sin_at i j h0 h1

end Cert.KernelIdeal.Angles

end
-- ==== Proof.Inputs.lean ====
/- The real inputs of one head, from the three argument arrays. -/
module

public import proofs.«01_k».proof.Proof.Global
public import proofs.«01_k».proof.Proof.Angles

@[expose] public section

noncomputable section

namespace Cert.KernelIdeal.Inputs

open Idealize.ShloMosaic
open Cert.KernelIdeal Cert.KernelIdeal.Lift Cert.KernelIdeal.Spec

/-- Column `k` of head `h` in the `a`-th group of 512 columns. -/
def col (a : Fin 3) (h : Fin 4) (k : Fin 128) : Fin 3072 := ⟨512 * a.val + 128 * h.val + k.val, by omega⟩

/-- Column `k` of head `h` among 512. -/
def lan (h : Fin 4) (k : Fin 128) : Fin 512 := ⟨128 * h.val + k.val, by omega⟩

variable (p : Fin 4352 → Fin 3072 → ℝ) (l : Fin 2 → Fin 4 → ℝ) (y : Fin 4352 → Fin 512 → ℝ)

/-- What head `h` reads. -/
def inp (h : Fin 4) : In where
  q R k := p R (col 0 h k)
  k R k := p R (col 1 h k)
  v R k := p R (col 2 h k)
  o R k := y R (lan h k)
  cs := Angles.cs
  sn := Angles.sn
  a := fwd (l 0 h)
  b := bwd (l 1 h)

/-- A real array read at a place whose coordinates are given. -/
theorem up2_at {n0 n1 : ℕ} (f : Fin n0 → Fin n1 → ℝ) (i : (⟨2, ![n0, n1]⟩ : Shape).Idx) (a : Fin n0) (b : Fin n1)
    (h0 : (i 0).val = a.val) (h1 : (i 1).val = b.val) : (up2 (φ := .f32) f : FVec Ideal ⟨2, ![n0, n1]⟩ .f32) i = (f a b : EReal) := by
  have e0 : i 0 = a := Fin.ext h0
  have e1 : i 1 = b := Fin.ext h1
  show ((f (i 0) (i 1) : ℝ) : EReal) = _
  rw [e0, e1]

/-- A real array of three axes. -/
def u3 {n0 n1 n2 : ℕ} (f : Fin n0 → Fin n1 → Fin n2 → ℝ) : FVec Ideal ⟨3, ![n0, n1, n2]⟩ .f32 :=
  fun i => ((f (i 0) (i 1) (i 2) : ℝ) : EReal)

theorem u3_at {n0 n1 n2 : ℕ} (f : Fin n0 → Fin n1 → Fin n2 → ℝ) (i : (⟨3, ![n0, n1, n2]⟩ : Shape).Idx) (a : Fin n0) (b : Fin n1) (c : Fin n2)
    (h0 : (i 0).val = a.val) (h1 : (i 1).val = b.val) (h2 : (i 2).val = c.val) : u3 f i = (f a b c : EReal) := by
  have e0 : i 0 = a := Fin.ext h0
  have e1 : i 1 = b := Fin.ext h1
  have e2 : i 2 = c := Fin.ext h2
  show ((f (i 0) (i 1) (i 2) : ℝ) : EReal) = _
  rw [e0, e1, e2]

section
variable {n0 n1 n2 : ℕ} (f g : Fin n0 → Fin n1 → Fin n2 → ℝ)

theorem u3_congr (h : ∀ a b c, f a b c = g a b c) : u3 f = u3 g := congrArg u3 (funext fun a => funext fun b => funext fun c => h a b c)

theorem mulf_u3 : mulf (u3 f) (u3 g) = u3 fun a b c => f a b c * g a b c := by
  funext i
  exact (EReal.coe_mul _ _).symm

theorem addf_u3 : addf (u3 f) (u3 g) = u3 fun a b c => f a b c + g a b c := by
  funext i
  exact (EReal.coe_add _ _).symm

theorem subf_u3 : subf (u3 f) (u3 g) = u3 fun a b c => f a b c - g a b c := by
  funext i
  exact (EReal.coe_sub _ _).symm

theorem negf_u3 : Host.negf (u3 f) = u3 fun a b c => -f a b c := by
  funext i
  exact (EReal.coe_neg _).symm

theorem exp_u3 : Host.exp (u3 f) = u3 fun a b c => Real.exp (f a b c) := rfl

end

end Cert.KernelIdeal.Inputs

end
-- ==== Proof.Body.lean ====
/- The body's triple on real inputs: what it hands back in each output. -/
module

public import proofs.«01_k».proof.Proof.Gen.KernelIdeal.Frame.Runs
public import proofs.«01_k».proof.Proof.Out

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Lift Cert.KernelIdeal.Spec

local notation "𝕄" => MT nD τ sig Unit (Elt Ideal) ℕ (UR sig nD τ) ℕ

/-- A log decay as loaded. -/
theorem scalar (arg1 : Memref sig .tc .smem S2x4 .f32) (harg1 : arg1.IsWhole) (x0 : Vec Ideal S2x4 .f32) (off : Fin 2 → ℕ) (d h : ℕ)
    (ho : off = ![d, h]) (hb) (hn) (x : ℝ) (hx : ∀ y : S2x4.Idx, (y 0).val = d → (y 1).val = h → x0 y = ((x : ℝ) : EReal)) :
    arg1.view.readAt (Elt Ideal) (Rect.unit (s := S2x4) off S1x1.size hb).toLoadRect (harg1.unread x0) (Shape.Idx.first hn) = ((x : ℝ) : EReal) := by
  subst ho
  show arg1.view.read (Elt Ideal) (harg1.unread x0) _ = _
  rw [harg1.read_unread]
  exact hx _ rfl rfl

theorem pieces_tab (v1 v3 : Elt Ideal .f32) (I : In) (x z : ℝ) (h1 : v1 = ((x : ℝ) : EReal)) (h3 : v3 = ((z : ℝ) : EReal)) (ha : I.a = fwd x) (hb : I.b = bwd z) :
    Table.Tab (tabs I.a I.b) 14 (Table.pieces v1 v3) := by
  subst h1 h3
  rw [ha, hb]
  exact Table.pieces_tab x z

theorem trips1 : Scf.trips k0_t1_loop.lb k0_t1_loop.ub k0_t1_loop.st = 34 := States.trips
theorem trips2 : Scf.trips k0_t2_loop.lb k0_t2_loop.ub k0_t2_loop.st = 34 := Sweep.trips
theorem trips3 : Scf.trips k0_t3_loop.lb k0_t3_loop.ub k0_t3_loop.st = 34 := Finish.trips

set_option maxHeartbeats 4000000 in
/-- The body, from real inputs to the four gradients. -/
theorem run (c : Dev nD) (i : grid0.Coords) (arg1 : Memref sig .tc .smem S2x4 .f32) (harg1 : arg1.IsWhole) (arg2 : Memref sig .tc .vmem S4352x128 .f32) (harg2 : arg2.IsWhole) (arg3 : Memref sig .tc .vmem S4352x128 .f32) (harg3 : arg3.IsWhole) (arg4 : Memref sig .tc .vmem S4352x128 .f32) (harg4 : arg4.IsWhole) (arg5 : Memref sig .tc .vmem S4352x128 .f32) (harg5 : arg5.IsWhole) (arg6 : Memref sig .tc .vmem S4352x128 .f32) (harg6 : arg6.IsWhole) (arg7 : Memref sig .tc .vmem S4352x128 .f32) (harg7 : arg7.IsWhole) (arg8 : Memref sig .tc .vmem S4352x128 .bf16) (harg8 : arg8.IsWhole) (arg9 : Memref sig .tc .vmem S4352x128 .bf16) (harg9 : arg9.IsWhole) (arg10 : Memref sig .tc .vmem S4352x128 .bf16) (harg10 : arg10.IsWhole) (arg11 : Memref sig .tc .vmem S1x8x128 .f32) (harg11 : arg11.IsWhole) (arg12 : Memref sig .tc .vmem S14x128x128 .f32) (harg12 : arg12.IsWhole) (arg13 : Memref sig .tc .vmem S2x34x128x128 .f32) (harg13 : arg13.IsWhole) (arg14 : Memref sig .tc .vmem S2x4352x128 .bf16) (harg14 : arg14.IsWhole) (arg15 : Memref sig .tc .vmem S2x4352x128 .bf16) (harg15 : arg15.IsWhole) (arg16 : Memref sig .tc .vmem S2x4352x128 .bf16) (harg16 : arg16.IsWhole)
    (x0 : Vec Ideal S2x4 .f32) (x1 : Vec Ideal S4352x128 .f32) (x2 : Vec Ideal S4352x128 .f32) (x3 : Vec Ideal S4352x128 .f32) (x4 : Vec Ideal S4352x128 .f32) (x5 : Vec Ideal S4352x128 .f32) (x6 : Vec Ideal S4352x128 .f32)
    (I : In) (x z : ℝ) (hx1 : x1 = up2 (φ := .f32) I.q) (hx2 : x2 = up2 (φ := .f32) I.k) (hx3 : x3 = up2 (φ := .f32) I.v) (hx4 : x4 = up2 (φ := .f32) I.o) (hx5 : x5 = up2 (φ := .f32) I.cs) (hx6 : x6 = up2 (φ := .f32) I.sn)
    (hx : ∀ y : S2x4.Idx, (y 0).val = 0 → (y 1).val = (i 0).val → x0 y = ((x : ℝ) : EReal)) (hz : ∀ y : S2x4.Idx, (y 0).val = 1 → (y 1).val = (i 0).val → x0 y = ((z : ℝ) : EReal))
    (ha : I.a = fwd x) (hb : I.b = bwd z) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (up2 (φ := .bf16) (Out.dq I)) ∗ owns (c : Thread nD τ) arg9 fullShare (up2 (φ := .bf16) (Out.dk I)) ∗ owns (c : Thread nD τ) arg10 fullShare (up2 (φ := .bf16) (Out.dv I)) ∗ owns (c : Thread nD τ) arg11 fullShare (fun y => ((Out.dl I (y 1).val : ℝ) : EReal)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := Ideal)) Variants.none c none) E (cc0_ret_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_ret_bwd_eq_skeleton]; unfold cc0_ret_bwd_skel
    simp only [k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      exact Out.out8 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ trips1 trips2 trips3 I ⟨(harg2.read_unread _).trans hx1, (harg3.read_unread _).trans hx2, (harg4.read_unread _).trans hx3, (harg5.read_unread _).trans hx4, (harg6.read_unread _).trans hx5, (harg7.read_unread _).trans hx6, (Table.tab_read (pieces_tab _ _ I x z (scalar arg1 harg1 x0 _ 0 _ (k0_off1_eq i) (k0_off1_inb i) (by show 0 < S1x1.numel; decide) x hx) (scalar arg1 harg1 x0 _ 1 _ (k0_off2_eq i) (k0_off2_inb i) (by show 0 < S1x1.numel; decide) z hz) ha hb) _)⟩ _
    isplitl [H8]
    · iexists _; isplitr; swap; · iexact H8
      ipureintro
      exact Out.out9 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ trips1 trips2 trips3 I ⟨(harg2.read_unread _).trans hx1, (harg3.read_unread _).trans hx2, (harg4.read_unread _).trans hx3, (harg5.read_unread _).trans hx4, (harg6.read_unread _).trans hx5, (harg7.read_unread _).trans hx6, (Table.tab_read (pieces_tab _ _ I x z (scalar arg1 harg1 x0 _ 0 _ (k0_off1_eq i) (k0_off1_inb i) (by show 0 < S1x1.numel; decide) x hx) (scalar arg1 harg1 x0 _ 1 _ (k0_off2_eq i) (k0_off2_inb i) (by show 0 < S1x1.numel; decide) z hz) ha hb) _)⟩ _
    isplitl [H9]
    · iexists _; isplitr; swap; · iexact H9
      ipureintro
      exact Out.out10 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ trips1 trips2 trips3 I ⟨(harg2.read_unread _).trans hx1, (harg3.read_unread _).trans hx2, (harg4.read_unread _).trans hx3, (harg5.read_unread _).trans hx4, (harg6.read_unread _).trans hx5, (harg7.read_unread _).trans hx6, (Table.tab_read (pieces_tab _ _ I x z (scalar arg1 harg1 x0 _ 0 _ (k0_off1_eq i) (k0_off1_inb i) (by show 0 < S1x1.numel; decide) x hx) (scalar arg1 harg1 x0 _ 1 _ (k0_off2_eq i) (k0_off2_inb i) (by show 0 < S1x1.numel; decide) z hz) ha hb) _)⟩ _
    isplitl [H10]
    · iexists _; isplitr; swap; · iexact H10
      ipureintro
      exact Out.out11 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ trips1 trips2 I ⟨(harg2.read_unread _).trans hx1, (harg3.read_unread _).trans hx2, (harg4.read_unread _).trans hx3, (harg5.read_unread _).trans hx4, (harg6.read_unread _).trans hx5, (harg7.read_unread _).trans hx6, (Table.tab_read (pieces_tab _ _ I x z (scalar arg1 harg1 x0 _ 0 _ (k0_off1_eq i) (k0_off1_inb i) (by show 0 < S1x1.numel; decide) x hx) (scalar arg1 harg1 x0 _ 1 _ (k0_off2_eq i) (k0_off2_inb i) (by show 0 < S1x1.numel; decide) z hz) ha hb) _)⟩ _ _ _ _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Body
-- ==== Proof.Vals.lean ====
/- The gradient's launch on real inputs: every output array named, block by block. -/
module

public import proofs.«01_k».proof.Proof.Body
public import Idealize.ShloMosaic.Lib.Claim
public import Idealize.ShloMosaic.Lib.Pipeline.Value
public import Idealize.ShloMosaic.Lib.Pipeline.ValueKit.Geometry

@[expose] public section

set_option maxRecDepth 16384

noncomputable section

namespace Cert.KernelIdeal.Vals

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Lift Cert.KernelIdeal.Spec

local notation "𝕄" => MT nD τ sig Unit (Elt Ideal) ℕ (UR sig nD τ) ℕ

variable (m : (ℓ : Loc nD τ sig) → Buf (Elt Ideal) ℓ) (ρ : Dev nD → PrngReg)

variable (J : Dev nD → Fin cfg0.N → In)

/-- The blocks at each point hold the real numbers of `J`. -/
structure RealIn (c : Dev nD) : Prop where
  b1 : ∀ t, (iblk m c 1 t : Vec Ideal S4352x128 .f32) = up2 (φ := .f32) (J c t).q
  b2 : ∀ t, (iblk m c 2 t : Vec Ideal S4352x128 .f32) = up2 (φ := .f32) (J c t).k
  b3 : ∀ t, (iblk m c 3 t : Vec Ideal S4352x128 .f32) = up2 (φ := .f32) (J c t).v
  b4 : ∀ t, (iblk m c 4 t : Vec Ideal S4352x128 .f32) = up2 (φ := .f32) (J c t).o
  b5 : ∀ t, (iblk m c 5 t : Vec Ideal S4352x128 .f32) = up2 (φ := .f32) (J c t).cs
  b6 : ∀ t, (iblk m c 6 t : Vec Ideal S4352x128 .f32) = up2 (φ := .f32) (J c t).sn
  x : ∀ t, ∃ x : ℝ, (J c t).a = fwd x ∧ ∀ y : S2x4.Idx, (y 0).val = 0 → (y 1).val = (grid0.coords t 0).val → (iblk m c 0 t : Vec Ideal S2x4 .f32) y = ((x : ℝ) : EReal)
  z : ∀ t, ∃ z : ℝ, (J c t).b = bwd z ∧ ∀ y : S2x4.Idx, (y 0).val = 1 → (y 1).val = (grid0.coords t 0).val → (iblk m c 0 t : Vec Ideal S2x4 .f32) y = ((z : ℝ) : EReal)

/-- The proof data of the one pipeline on core `c`: each output's block at its gradient. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (up2 (φ := .bf16) (Out.dq (J c t)) : Vec Ideal S4352x128 .bf16)
    | ⟨8, _⟩ => (up2 (φ := .bf16) (Out.dk (J c t)) : Vec Ideal S4352x128 .bf16)
    | ⟨9, _⟩ => (up2 (φ := .bf16) (Out.dv (J c t)) : Vec Ideal S4352x128 .bf16)
    | ⟨10, _⟩ => ((fun y => ((Out.dl (J c t) (y 1).val : ℝ) : EReal)) : Vec Ideal S1x8x128 .f32)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m J 0 c).A w = V m c (Pipeline.arrRef spec0 w) := by
  dsimp only [dats]

/-- What the body leaves, window by window (the proof data's `match` reduced by `dsimp`). -/
theorem after0_0 (c : Dev nD) (t : Fin cfg0.N) : (dats m J 0 c).after 0 t = iblk m c 0 t := by dsimp only [dats]
theorem after0_1 (c : Dev nD) (t : Fin cfg0.N) : (dats m J 0 c).after 1 t = iblk m c 1 t := by dsimp only [dats]
theorem after0_2 (c : Dev nD) (t : Fin cfg0.N) : (dats m J 0 c).after 2 t = iblk m c 2 t := by dsimp only [dats]
theorem after0_3 (c : Dev nD) (t : Fin cfg0.N) : (dats m J 0 c).after 3 t = iblk m c 3 t := by dsimp only [dats]
theorem after0_4 (c : Dev nD) (t : Fin cfg0.N) : (dats m J 0 c).after 4 t = iblk m c 4 t := by dsimp only [dats]
theorem after0_5 (c : Dev nD) (t : Fin cfg0.N) : (dats m J 0 c).after 5 t = iblk m c 5 t := by dsimp only [dats]
theorem after0_6 (c : Dev nD) (t : Fin cfg0.N) : (dats m J 0 c).after 6 t = iblk m c 6 t := by dsimp only [dats]
theorem after0_7 (c : Dev nD) (t : Fin cfg0.N) : (dats m J 0 c).after 7 t = up2 (φ := .bf16) (Out.dq (J c t)) := by dsimp only [dats]
theorem after0_8 (c : Dev nD) (t : Fin cfg0.N) : (dats m J 0 c).after 8 t = up2 (φ := .bf16) (Out.dk (J c t)) := by dsimp only [dats]
theorem after0_9 (c : Dev nD) (t : Fin cfg0.N) : (dats m J 0 c).after 9 t = up2 (φ := .bf16) (Out.dv (J c t)) := by dsimp only [dats]
theorem after0_10 (c : Dev nD) (t : Fin cfg0.N) : (dats m J 0 c).after 10 t = ((fun y => ((Out.dl (J c t) (y 1).val : ℝ) : EReal)) : Vec Ideal S1x8x128 .f32) := by dsimp only [dats]

/-- Each input's current staging buffer holds its block at every point, fetched there or not (`beforeK_W_of`). -/
theorem before0_0 (c : Dev nD) (t : Fin cfg0.N) (d) : (dats m J 0 c).before 0 t d = iblk m c 0 t :=
  before0_0_of m (dats m J 0 c) (A_eq m J c 0) (after0_0 m J c) t d
theorem before0_1 (c : Dev nD) (t : Fin cfg0.N) (d) : (dats m J 0 c).before 1 t d = iblk m c 1 t :=
  before0_1_of m (dats m J 0 c) (A_eq m J c 1) (after0_1 m J c) t d
theorem before0_2 (c : Dev nD) (t : Fin cfg0.N) (d) : (dats m J 0 c).before 2 t d = iblk m c 2 t :=
  before0_2_of m (dats m J 0 c) (A_eq m J c 2) (after0_2 m J c) t d
theorem before0_3 (c : Dev nD) (t : Fin cfg0.N) (d) : (dats m J 0 c).before 3 t d = iblk m c 3 t :=
  before0_3_of m (dats m J 0 c) (A_eq m J c 3) (after0_3 m J c) t d
theorem before0_4 (c : Dev nD) (t : Fin cfg0.N) (d) : (dats m J 0 c).before 4 t d = iblk m c 4 t :=
  before0_4_of m (dats m J 0 c) (A_eq m J c 4) (after0_4 m J c) t d
theorem before0_5 (c : Dev nD) (t : Fin cfg0.N) (d) : (dats m J 0 c).before 5 t d = iblk m c 5 t :=
  before0_5_of m (dats m J 0 c) (A_eq m J c 5) (after0_5 m J c) t d
theorem before0_6 (c : Dev nD) (t : Fin cfg0.N) (d) : (dats m J 0 c).before 6 t d = iblk m c 6 t :=
  before0_6_of m (dats m J 0 c) (A_eq m J c 6) (after0_6 m J c) t d

/-! ## The body obligation, at a generic point -/

/-- What the body is called with at point `t` (Lib/Pipeline.lean `BodyObligation`'s precondition, the windows one by one), -/
def bodyPre (c : Dev nD) (t : Fin cfg0.N) : sProp 𝕄 :=
  iprop((dats m J 0 c).Φ t.castSucc ∗ (dats m J 0 c).owesAt () t.castSucc
    ∗ (∃ d, owns (c : Thread nD τ) (ms0_0 t) fullShare ((dats m J 0 c).before 0 t d))
    ∗ (∃ d, owns (c : Thread nD τ) (ms0_1 t) fullShare ((dats m J 0 c).before 1 t d))
    ∗ (∃ d, owns (c : Thread nD τ) (ms0_2 t) fullShare ((dats m J 0 c).before 2 t d))
    ∗ (∃ d, owns (c : Thread nD τ) (ms0_3 t) fullShare ((dats m J 0 c).before 3 t d))
    ∗ (∃ d, owns (c : Thread nD τ) (ms0_4 t) fullShare ((dats m J 0 c).before 4 t d))
    ∗ (∃ d, owns (c : Thread nD τ) (ms0_5 t) fullShare ((dats m J 0 c).before 5 t d))
    ∗ (∃ d, owns (c : Thread nD τ) (ms0_6 t) fullShare ((dats m J 0 c).before 6 t d))
    ∗ (∃ d, owns (c : Thread nD τ) (ms0_7 t) fullShare ((dats m J 0 c).before 7 t d))
    ∗ (∃ d, owns (c : Thread nD τ) (ms0_8 t) fullShare ((dats m J 0 c).before 8 t d))
    ∗ (∃ d, owns (c : Thread nD τ) (ms0_9 t) fullShare ((dats m J 0 c).before 9 t d))
    ∗ (∃ d, owns (c : Thread nD τ) (ms0_10 t) fullShare ((dats m J 0 c).before 10 t d)))

/-- and what it returns. -/
def bodyPost (c : Dev nD) (t : Fin cfg0.N) : sProp 𝕄 :=
  iprop((dats m J 0 c).Φ t.succ ∗ (dats m J 0 c).owesAt () t.succ
    ∗ owns (c : Thread nD τ) (ms0_0 t) fullShare ((dats m J 0 c).after 0 t)
    ∗ owns (c : Thread nD τ) (ms0_1 t) fullShare ((dats m J 0 c).after 1 t)
    ∗ owns (c : Thread nD τ) (ms0_2 t) fullShare ((dats m J 0 c).after 2 t)
    ∗ owns (c : Thread nD τ) (ms0_3 t) fullShare ((dats m J 0 c).after 3 t)
    ∗ owns (c : Thread nD τ) (ms0_4 t) fullShare ((dats m J 0 c).after 4 t)
    ∗ owns (c : Thread nD τ) (ms0_5 t) fullShare ((dats m J 0 c).after 5 t)
    ∗ owns (c : Thread nD τ) (ms0_6 t) fullShare ((dats m J 0 c).after 6 t)
    ∗ owns (c : Thread nD τ) (ms0_7 t) fullShare ((dats m J 0 c).after 7 t)
    ∗ owns (c : Thread nD τ) (ms0_8 t) fullShare ((dats m J 0 c).after 8 t)
    ∗ owns (c : Thread nD τ) (ms0_9 t) fullShare ((dats m J 0 c).after 9 t)
    ∗ owns (c : Thread nD τ) (ms0_10 t) fullShare ((dats m J 0 c).after 10 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (hF : RealIn m J c) (t : Fin cfg0.N) :
    bodyPre m J c t ⊢ wp frame (wpE (defs₀ (F := Ideal)) Variants.none c none) Set.univ (bodyAt0 t) (fun _ => bodyPost m J c t) := by
  unfold bodyPre bodyPost bodyAt0
  simp only [before0_0, before0_1, before0_2, before0_3, before0_4, before0_5, before0_6]
  rw [show (dats m J 0 c).Φ t.succ = (dats m J 0 c).Φ t.castSucc from rfl,
    show (dats m J 0 c).owesAt () t.succ = (dats m J 0 c).owesAt () t.castSucc from rfl,
    after0_0, after0_1, after0_2, after0_3, after0_4, after0_5, after0_6, after0_7, after0_8, after0_9, after0_10]
  rw [show (dats m J 0 c).Φ t.castSucc = Pipeline.ΦA spec0 c from rfl, PhiA0_eq]
  obtain ⟨x, ha, hx⟩ := hF.x t
  obtain ⟨z, hb, hz⟩ := hF.z t
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (Body.run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
    (J c t) x z (hF.b1 t) (hF.b2 t) (hF.b3 t) (hF.b4 t) (hF.b5 t) (hF.b6 t) hx hz ha hb Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) (hF : RealIn m J c) : BodyObligation (dats m J 0 c) (defs₀ (F := Ideal)) Variants.none () Set.univ := fun t => by
  rw [bigSep_W0, bigSep_W0, defs₀_row]
  exact triple_restated (sound_body m J c hF t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hF : ∀ c, RealIn m J c) : θ_run defs (onTc (τ := τ) (main (F := Ideal))) (s₀ m ρ) (fun r => (Pipeline.FramePost cfgs (dats m J) 0 (V m)) r ∧ r.2.sem = fun _ => 0) :=
  Pipeline.θ_run_frame_shared (Q' := _) cfgs (dats m J) (0 : Fin 1) launch₀0 defs₀ Variants.none m ρ main
    (hbody := fun c => (body_obligation m J c (hF c)).loose) (hq := fun _ _ _ => rfl)
    (howed := fun _ _ => rfl) (V := V m) (hmain := hmain m Variants.none) (hA := A_eq m J) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hF : ∀ c, RealIn m J c) : θ_run defs (onTc (τ := τ) (main (F := Ideal))) (s₀ m ρ) (Pipeline.FramePost cfgs (dats m J) 0 (V m)) :=
  (θ_run defs _ _).mono (fun _ h => h.1) (run_main_quiescent m ρ J hF)

/-- The point that computes a column's head, and the column's place in it. -/
def pt (h : Fin 4) : Fin cfg0.N := Fin.cast (by decide +kernel : 4 = cfg0.N) h
def head (x : Fin 512) : Fin 4 := ⟨x.val / 128, by have := x.isLt; omega⟩
def lane (x : Fin 512) : Fin 128 := ⟨x.val % 128, Nat.mod_lt _ (by norm_num)⟩

theorem idx7 : ∀ t : Fin cfg0.N, win0_7.index t = ![0, t.val] := (by decide +kernel : ∀ t : Fin grid0.N, win0_7.index t = ![0, t.val])
theorem idx8 : ∀ t : Fin cfg0.N, win0_8.index t = ![0, t.val] := (by decide +kernel : ∀ t : Fin grid0.N, win0_8.index t = ![0, t.val])
theorem idx9 : ∀ t : Fin cfg0.N, win0_9.index t = ![0, t.val] := (by decide +kernel : ∀ t : Fin grid0.N, win0_9.index t = ![0, t.val])
theorem idx10 : ∀ t : Fin cfg0.N, win0_10.index t = ![t.val, 0, 0] := (by decide +kernel : ∀ t : Fin grid0.N, win0_10.index t = ![t.val, 0, 0])

/-- The whole array of four heads' matrices. -/
def cols (f : Fin cfg0.N → Fin 4352 → Fin 128 → ℝ) : Vec Ideal S4352x512 .bf16 := fun i => ((f (pt (head (i 1))) (i 0) (lane (i 1)) : ℝ) : EReal)

theorem cols_at (f : Fin cfg0.N → Fin 4352 → Fin 128 → ℝ) (t : Fin cfg0.N) (y : S4352x128.Idx) (i : S4352x512.Idx)
    (h0 : (i 0).val = (y 0).val) (h1 : (i 1).val = t.val * 128 + (y 1).val) :
    up2 (φ := .bf16) (f t) y = cols f i := by
  have hy : (y 1).val < 128 := (y 1).isLt
  unfold up2 cols
  rw [show pt (head (i 1)) = t from Fin.ext (by show (i 1).val / 128 = t.val; omega),
    show i 0 = y 0 from Fin.ext h0, show lane (i 1) = y 1 from Fin.ext (by show (i 1).val % 128 = (y 1).val; omega)]

/-- The whole array of four heads' rows of numbers, each number along a row. -/
def rows (f : Fin cfg0.N → ℕ → ℝ) : Vec Ideal S4x8x128 .f32 := fun i => ((f (pt (i 0)) (i 1).val : ℝ) : EReal)

theorem arr7 (c : Dev nD) : (dats m J 0 c).arrAt 7 cfg0.N = cols fun t => Out.dq (J c t) := by
  refine (dats m J 0 c).arrAt_eq_of_covers 7 _ (by decide +kernel) fun t hf y => ?_
  blk_simp
  rw [after0_7]
  refine cols_at (fun t => Out.dq (J c t)) t y _ ?_ ?_ <;> blk_simp [idx7]

theorem arr8 (c : Dev nD) : (dats m J 0 c).arrAt 8 cfg0.N = cols fun t => Out.dk (J c t) := by
  refine (dats m J 0 c).arrAt_eq_of_covers 8 _ (by decide +kernel) fun t hf y => ?_
  blk_simp
  rw [after0_8]
  refine cols_at (fun t => Out.dk (J c t)) t y _ ?_ ?_ <;> blk_simp [idx8]

theorem arr9 (c : Dev nD) : (dats m J 0 c).arrAt 9 cfg0.N = cols fun t => Out.dv (J c t) := by
  refine (dats m J 0 c).arrAt_eq_of_covers 9 _ (by decide +kernel) fun t hf y => ?_
  blk_simp
  rw [after0_9]
  refine cols_at (fun t => Out.dv (J c t)) t y _ ?_ ?_ <;> blk_simp [idx9]

theorem rows_at (f : Fin cfg0.N → ℕ → ℝ) (t : Fin cfg0.N) (y : S1x8x128.Idx) (i : S4x8x128.Idx)
    (h0 : (i 0).val = t.val * 1 + (y 0).val) (h1 : (i 1).val = (y 1).val) :
    ((f t (y 1).val : ℝ) : EReal) = rows f i := by
  have hy : (y 0).val < 1 := (y 0).isLt
  unfold rows
  rw [show pt (i 0) = t from Fin.ext (by show (i 0).val = t.val; omega), h1]

theorem arr10 (c : Dev nD) : (dats m J 0 c).arrAt 10 cfg0.N = rows fun t => Out.dl (J c t) := by
  refine (dats m J 0 c).arrAt_eq_of_covers 10 _ (by decide +kernel) fun t hf y => ?_
  blk_simp
  rw [after0_10]
  refine rows_at (fun t => Out.dl (J c t)) t y _ ?_ ?_ <;> blk_simp [idx10]

end Cert.KernelIdeal.Vals

end
-- ==== Proof.Ends.lean ====
/- What the launch leaves: the four result arrays, and the arguments as they were. -/
module

public import proofs.«01_k».proof.Proof.Vals

@[expose] public section

set_option maxRecDepth 16384

noncomputable section

namespace Cert.KernelIdeal.Vals

open Idealize.ShloMosaic Idealize.ShloMosaic.TcCoe
open Idealize.SL.Sem
open Cert.KernelIdeal Cert.KernelIdeal.Gen Cert.KernelIdeal.Lift Cert.KernelIdeal.Spec

variable (m : (ℓ : Loc nD τ sig) → Buf (Elt Ideal) ℓ) (ρ : Dev nD → PrngReg)
variable (J : Dev nD → Fin cfg0.N → In)

/-- What a final state holds of one device: the four result arrays, and the arguments as they were. -/
structure Ends (c : Dev nD) (w : (ℓ : Loc nD τ sig) → Buf (Elt Ideal) ℓ) : Prop where
  dq : w ((c.tc : Thread nD τ).loc main_v85_0) = (cols fun t => Out.dq (J c t))
  dk : w ((c.tc : Thread nD τ).loc main_v85_1) = (cols fun t => Out.dk (J c t))
  dv : w ((c.tc : Thread nD τ).loc main_v85_2) = (cols fun t => Out.dv (J c t))
  dl : w ((c.tc : Thread nD τ).loc main_v85_3) = (rows fun t => Out.dl (J c t))
  a0 : w ((c.tc : Thread nD τ).loc main_arg0) = m ((c.tc : Thread nD τ).loc main_arg0)
  a1 : w ((c.tc : Thread nD τ).loc main_arg1) = m ((c.tc : Thread nD τ).loc main_arg1)
  a2 : w ((c.tc : Thread nD τ).loc main_arg2) = m ((c.tc : Thread nD τ).loc main_arg2)

/-- What a window's array holds, at its buffer. -/
theorem at_window (r) (h : Pipeline.FramePost cfgs (dats m J) 0 (V m) r) (c : Dev nD) (w : Fin cfg0.W) :
    r.2.mem (((cfgs 0).spec w).arr.view.loc (c.tc : Thread nD τ)) = (dats m J 0 c).arrAt w cfg0.N := (h c).1 w

theorem at_dq (r) (h : Pipeline.FramePost cfgs (dats m J) 0 (V m) r) (c : Dev nD) :
    r.2.mem ((c.tc : Thread nD τ).loc main_v85_0) = (cols fun t => Out.dq (J c t)) := by
  have e := at_window m J r h c 7
  rw [arr7 m J c] at e
  exact e

theorem at_dk (r) (h : Pipeline.FramePost cfgs (dats m J) 0 (V m) r) (c : Dev nD) :
    r.2.mem ((c.tc : Thread nD τ).loc main_v85_1) = (cols fun t => Out.dk (J c t)) := by
  have e := at_window m J r h c 8
  rw [arr8 m J c] at e
  exact e

theorem at_dv (r) (h : Pipeline.FramePost cfgs (dats m J) 0 (V m) r) (c : Dev nD) :
    r.2.mem ((c.tc : Thread nD τ).loc main_v85_2) = (cols fun t => Out.dv (J c t)) := by
  have e := at_window m J r h c 9
  rw [arr9 m J c] at e
  exact e

theorem at_dl (r) (h : Pipeline.FramePost cfgs (dats m J) 0 (V m) r) (c : Dev nD) :
    r.2.mem ((c.tc : Thread nD τ).loc main_v85_3) = (rows fun t => Out.dl (J c t)) := by
  have e := at_window m J r h c 10
  rw [arr10 m J c] at e
  exact e

theorem at_arg0 (r) (h : Pipeline.FramePost cfgs (dats m J) 0 (V m) r) (c : Dev nD) :
    r.2.mem ((c.tc : Thread nD τ).loc main_arg0) = m ((c.tc : Thread nD τ).loc main_arg0) := by
  have e := at_window m J r h c 3
  rw [(dats m J 0 c).arrAt_in 3 rfl, A_eq m J c 3] at e
  exact e.trans (V_main_arg0 m c)

theorem at_arg1 (r) (h : Pipeline.FramePost cfgs (dats m J) 0 (V m) r) (c : Dev nD) :
    r.2.mem ((c.tc : Thread nD τ).loc main_arg1) = m ((c.tc : Thread nD τ).loc main_arg1) := by
  have e := at_window m J r h c 0
  rw [(dats m J 0 c).arrAt_in 0 rfl, A_eq m J c 0] at e
  exact e.trans (V_main_arg1 m c)

theorem at_arg2 (r) (h : Pipeline.FramePost cfgs (dats m J) 0 (V m) r) (c : Dev nD) :
    r.2.mem ((c.tc : Thread nD τ).loc main_arg2) = m ((c.tc : Thread nD τ).loc main_arg2) := by
  have e := at_window m J r h c 4
  rw [(dats m J 0 c).arrAt_in 4 rfl, A_eq m J c 4] at e
  exact e.trans (V_main_arg2 m c)

theorem ends (r) (h : Pipeline.FramePost cfgs (dats m J) 0 (V m) r) (c : Dev nD) : Ends m J c r.2.mem where
  dq := at_dq m J r h c
  dk := at_dk m J r h c
  dv := at_dv m J r h c
  dl := at_dl m J r h c
  a0 := at_arg0 m J r h c
  a1 := at_arg1 m J r h c
  a2 := at_arg2 m J r h c

/-- The launch on real inputs. -/
theorem run (hF : ∀ c, RealIn m J c) : θ_run defs (onTc (τ := τ) (main (F := Ideal))) ⟨m, fun _ => 0, ρ⟩ fun r => ∀ c : Dev nD, Ends m J c r.2.mem :=
  (θ_run defs _ _).mono (fun r h c => ends m J r h c) (run_main m ρ J hF)

end Cert.KernelIdeal.Vals

end
-- ==== Proof.Tables.lean ====
/- The rotary tables the launch finds: those of the reference's angles. -/
module

public import proofs.«01_k».proof.Proof.Angles
public import proofs.«01_k».proof.Proof.Gen.KernelIdeal.Frame.Runs
public import Idealize.ShloMosaic.Lib.Claim

@[expose] public section

set_option maxRecDepth 16384

noncomputable section

namespace Cert.KernelIdeal.Angles

open Idealize.ShloMosaic Idealize.ShloMosaic.TcCoe
open Idealize.SL.Sem
open Cert.KernelIdeal Cert.KernelIdeal.Gen

/-- A line of operations in two parts. -/
theorem after_split (n : ℕ) (l : List (HloOp τ sig (Elt Ideal))) (σ : Valuation τ sig (Elt Ideal)) :
    StableHlo.after l σ = StableHlo.after (l.drop n) (StableHlo.after (l.take n) σ) := by
  induction n generalizing l σ with
  | zero => rfl
  | succ n ih => cases l with
    | nil => rfl
    | cons a l => exact ih l (a.result σ)

/-- The operations that make the angles of the leading rows, those that make the angles of the rest, and those that make the tables. -/
theorem head_angles (σ : Valuation τ sig (Elt Ideal)) :
    StableHlo.after ((hostOps0 (F := Ideal)).take 52) σ (Proc.devRef .tc main_v43) = Cert.ReferenceIdeal.Read.val_main_v45 (F := Ideal) := by
  simp only [hostOps0, List.take_succ_cons, List.take_zero]
  after_results_simp
  try dsimp only [Matrix.cons_val]
  try after_results_simp
  rfl

theorem head_zero (σ : Valuation τ sig (Elt Ideal)) :
    StableHlo.after ((hostOps0 (F := Ideal)).take 52) σ (Proc.devRef .tc main_v8) = Cert.ReferenceIdeal.Read.val_main_v46 (F := Ideal) := by
  simp only [hostOps0, List.take_succ_cons, List.take_zero]
  after_results_simp
  rfl

theorem mid_keep (σ : Valuation τ sig (Elt Ideal)) :
    StableHlo.after (((hostOps0 (F := Ideal)).drop 52).take 41) σ (Proc.devRef .tc main_v43) = σ (Proc.devRef .tc main_v43) := by
  simp only [hostOps0, List.drop_succ_cons, List.drop_zero, List.take_succ_cons, List.take_zero]
  after_results_simp

theorem mid_angles (σ : Valuation τ sig (Elt Ideal)) (h : σ (Proc.devRef .tc main_v8) = Cert.ReferenceIdeal.Read.val_main_v46 (F := Ideal)) :
    StableHlo.after (((hostOps0 (F := Ideal)).drop 52).take 41) σ (Proc.devRef .tc main_v78) = Cert.ReferenceIdeal.Read.val_main_v81 (F := Ideal) := by
  simp only [hostOps0, List.drop_succ_cons, List.drop_zero, List.take_succ_cons, List.take_zero]
  after_results_simp
  try dsimp only [Matrix.cons_val]
  try after_results_simp
  after_results_loop
  rw [h]
  rfl

theorem tail_cos (σ : Valuation τ sig (Elt Ideal)) (h : σ (Proc.devRef .tc main_v43) = Cert.ReferenceIdeal.Read.val_main_v45 (F := Ideal))
    (h' : σ (Proc.devRef .tc main_v78) = Cert.ReferenceIdeal.Read.val_main_v81 (F := Ideal)) :
    StableHlo.after (((hostOps0 (F := Ideal)).drop 52).drop 41) σ (Proc.devRef .tc main_v82) = cosT := by
  simp only [hostOps0, List.drop_succ_cons, List.drop_zero]
  after_results_simp
  after_results_loop
  rw [h, h']
  rfl

theorem tail_sin (σ : Valuation τ sig (Elt Ideal)) (h : σ (Proc.devRef .tc main_v43) = Cert.ReferenceIdeal.Read.val_main_v45 (F := Ideal))
    (h' : σ (Proc.devRef .tc main_v78) = Cert.ReferenceIdeal.Read.val_main_v81 (F := Ideal)) :
    StableHlo.after (((hostOps0 (F := Ideal)).drop 52).drop 41) σ (Proc.devRef .tc main_v84) = sinT := by
  simp only [hostOps0, List.drop_succ_cons, List.drop_zero]
  after_results_simp
  after_results_loop
  rw [h, h']
  rfl

variable (m : (ℓ : Loc nD τ sig) → Buf (Elt Ideal) ℓ)

theorem cos_table (c : Dev nD) : V m c main_v82 = cosT := by
  have e := after_split 52 (hostOps0 (F := Ideal)) (fun b => m (c, b))
  rw [after_split 41 ((hostOps0 (F := Ideal)).drop 52)] at e
  exact (congrFun e _).trans (tail_cos _ ((mid_keep _).trans (head_angles _)) (mid_angles _ (head_zero _)))

theorem sin_table (c : Dev nD) : V m c main_v84 = sinT := by
  have e := after_split 52 (hostOps0 (F := Ideal)) (fun b => m (c, b))
  rw [after_split 41 ((hostOps0 (F := Ideal)).drop 52)] at e
  exact (congrFun e _).trans (tail_sin _ ((mid_keep _).trans (head_angles _)) (mid_angles _ (head_zero _)))

end Cert.KernelIdeal.Angles

end
-- ==== Proof.Args.lean ====
/- The launch's blocks are the heads' real inputs, when the arguments are real. -/
module

public import proofs.«01_k».proof.Proof.Inputs
public import proofs.«01_k».proof.Proof.Ends
public import proofs.«01_k».proof.Proof.Tables

@[expose] public section

set_option maxRecDepth 16384

noncomputable section

namespace Cert.KernelIdeal.Args

open Idealize.ShloMosaic Idealize.ShloMosaic.TcCoe Idealize.ShloMosaic.Tactic
open Idealize.SL.Sem
open Cert.KernelIdeal Cert.KernelIdeal.Gen Cert.KernelIdeal.Lift Cert.KernelIdeal.Spec Cert.KernelIdeal.Vals
open Cert.KernelIdeal.Inputs Cert.KernelIdeal.Angles

variable (m : (ℓ : Loc nD τ sig) → Buf (Elt Ideal) ℓ) (c : Dev nD)
variable (p : Fin 4352 → Fin 3072 → ℝ) (l : Fin 2 → Fin 4 → ℝ) (y : Fin 4352 → Fin 512 → ℝ)

/-- The head of a grid point. -/
def hd (t : Fin cfg0.N) : Fin 4 := ⟨t.val, t.isLt⟩

theorem coord : ∀ t : Fin cfg0.N, (grid0.coords t 0).val = t.val :=
  (by decide +kernel : ∀ t : Fin grid0.N, (grid0.coords t 0).val = t.val)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val + 4] := (by decide +kernel : ∀ t : Fin grid0.N, win0_2.index t = ![0, t.val + 4])
theorem idx3 : ∀ t : Fin cfg0.N, win0_3.index t = ![0, t.val + 8] := (by decide +kernel : ∀ t : Fin grid0.N, win0_3.index t = ![0, t.val + 8])
theorem idx4 : ∀ t : Fin cfg0.N, win0_4.index t = ![0, t.val] := (by decide +kernel : ∀ t : Fin grid0.N, win0_4.index t = ![0, t.val])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])

variable (hp : m ((c.tc : Thread nD τ).loc main_arg0) = (up2 (φ := .f32) p : FVec Ideal S4352x3072 .f32))
  (hl : m ((c.tc : Thread nD τ).loc main_arg1) = (up2 (φ := .f32) l : FVec Ideal S2x4 .f32))
  (hy : m ((c.tc : Thread nD τ).loc main_arg2) = (up2 (φ := .f32) y : FVec Ideal S4352x512 .f32))

include hp in
theorem b1 (t : Fin cfg0.N) : (iblk m c 1 t : Vec Ideal S4352x128 .f32) = up2 (φ := .f32) (inp p l y (hd t)).q := by
  funext i
  show V m c main_arg0 (((cfg0.win 1).blk t).view.emb i) = _
  rw [V_main_arg0, hp]
  refine up2_at p _ _ _ ?_ ?_
  · blk_simp [idx1]
    done
  · blk_simp [idx1]
    simp only [col, hd]
    omega

include hp in
theorem b2 (t : Fin cfg0.N) : (iblk m c 2 t : Vec Ideal S4352x128 .f32) = up2 (φ := .f32) (inp p l y (hd t)).k := by
  funext i
  show V m c main_arg0 (((cfg0.win 2).blk t).view.emb i) = _
  rw [V_main_arg0, hp]
  refine up2_at p _ _ _ ?_ ?_
  · blk_simp [idx2]
    done
  · blk_simp [idx2]
    simp only [col, hd]
    omega

include hp in
theorem b3 (t : Fin cfg0.N) : (iblk m c 3 t : Vec Ideal S4352x128 .f32) = up2 (φ := .f32) (inp p l y (hd t)).v := by
  funext i
  show V m c main_arg0 (((cfg0.win 3).blk t).view.emb i) = _
  rw [V_main_arg0, hp]
  refine up2_at p _ _ _ ?_ ?_
  · blk_simp [idx3]
    done
  · blk_simp [idx3]
    simp only [col, hd]
    omega

include hy in
theorem b4 (t : Fin cfg0.N) : (iblk m c 4 t : Vec Ideal S4352x128 .f32) = up2 (φ := .f32) (inp p l y (hd t)).o := by
  funext i
  show V m c main_arg2 (((cfg0.win 4).blk t).view.emb i) = _
  rw [V_main_arg2, hy]
  refine up2_at y _ _ _ ?_ ?_
  · blk_simp [idx4]
    done
  · blk_simp [idx4]
    simp only [lan, hd]
    omega

theorem b5 (t : Fin cfg0.N) : (iblk m c 5 t : Vec Ideal S4352x128 .f32) = up2 (φ := .f32) (inp p l y (hd t)).cs := by
  funext i
  show V m c main_v82 (((cfg0.win 5).blk t).view.emb i) = _
  rw [cos_table, cosT_at]
  have h0 : (((cfg0.win 5).blk t).view.emb i) 0 = i 0 := by
    apply Fin.ext
    blk_simp [idx5]
    done
  have h1 : (((cfg0.win 5).blk t).view.emb i) 1 = i 1 := by
    apply Fin.ext
    blk_simp [idx5]
    done
  rw [h0, h1]
  rfl

theorem b6 (t : Fin cfg0.N) : (iblk m c 6 t : Vec Ideal S4352x128 .f32) = up2 (φ := .f32) (inp p l y (hd t)).sn := by
  funext i
  show V m c main_v84 (((cfg0.win 6).blk t).view.emb i) = _
  rw [sin_table, sinT_at]
  have h0 : (((cfg0.win 6).blk t).view.emb i) 0 = i 0 := by
    apply Fin.ext
    blk_simp [idx6]
    done
  have h1 : (((cfg0.win 6).blk t).view.emb i) 1 = i 1 := by
    apply Fin.ext
    blk_simp [idx6]
    done
  rw [h0, h1]
  rfl

include hl in
theorem x_at (t : Fin cfg0.N) : ∃ x : ℝ, (inp p l y (hd t)).a = fwd x ∧ ∀ j : S2x4.Idx, (j 0).val = 0 → (j 1).val = (grid0.coords t 0).val →
    (iblk m c 0 t : Vec Ideal S2x4 .f32) j = ((x : ℝ) : EReal) := by
  refine ⟨l 0 (hd t), rfl, fun j h0 h1 => ?_⟩
  show V m c main_arg1 (((cfg0.win 0).blk t).view.emb j) = _
  rw [V_main_arg1, hl]
  rw [coord] at h1
  refine up2_at l _ _ _ ?_ ?_
  · blk_simp [idx0]
    exact h0
  · blk_simp [idx0]
    exact h1

include hl in
theorem z_at (t : Fin cfg0.N) : ∃ x : ℝ, (inp p l y (hd t)).b = bwd x ∧ ∀ j : S2x4.Idx, (j 0).val = 1 → (j 1).val = (grid0.coords t 0).val →
    (iblk m c 0 t : Vec Ideal S2x4 .f32) j = ((x : ℝ) : EReal) := by
  refine ⟨l 1 (hd t), rfl, fun j h0 h1 => ?_⟩
  show V m c main_arg1 (((cfg0.win 0).blk t).view.emb j) = _
  rw [V_main_arg1, hl]
  rw [coord] at h1
  refine up2_at l _ _ _ ?_ ?_
  · blk_simp [idx0]
    exact h0
  · blk_simp [idx0]
    exact h1

include hp hl hy in
/-- The blocks of the launch are the heads' real inputs. -/
theorem real_in (J : Dev nD → Fin cfg0.N → In) (hJ : ∀ t, J c t = inp p l y (hd t)) : RealIn m J c where
  b1 t := by rw [hJ]; exact b1 m c p l y hp t
  b2 t := by rw [hJ]; exact b2 m c p l y hp t
  b3 t := by rw [hJ]; exact b3 m c p l y hp t
  b4 t := by rw [hJ]; exact b4 m c p l y hy t
  b5 t := by rw [hJ]; exact b5 m c p l y t
  b6 t := by rw [hJ]; exact b6 m c p l y t
  x t := by rw [hJ]; exact x_at m c p l y hl t
  z t := by rw [hJ]; exact z_at m c p l y hl t

end Cert.KernelIdeal.Args

end
-- ==== Proof.RefRope.lean ====
/- The reference's rotated queries and keys, its values and its result's gradient, on real arguments. -/
module

public import proofs.«01_k».proof.Proof.Inputs
public import Idealize.ShloMosaic.Lib.Pipeline.Value

@[expose] public section

set_option maxRecDepth 16384

noncomputable section

namespace Cert.RefLeg

open Idealize.ShloMosaic
open Cert.ReferenceIdeal Cert.ReferenceIdeal.Gen Cert.ReferenceIdeal.Read
open Cert.KernelIdeal.Lift (up2 half)
open Cert.KernelIdeal.Spec Cert.KernelIdeal.Inputs Cert.KernelIdeal.Angles

variable (p : Fin 4352 → Fin 3072 → ℝ) (y : Fin 4352 → Fin 512 → ℝ)

/-- The arguments as the reference takes them. -/
abbrev X0 : (⟨S4352x3072, .f32⟩ : BufTy).Contents (Elt Ideal) := (up2 (φ := .f32) p : FVec Ideal S4352x3072 .f32)
abbrev X2 : (⟨S4352x512, .f32⟩ : BufTy).Contents (Elt Ideal) := (up2 (φ := .f32) y : FVec Ideal S4352x512 .f32)

theorem v84_real : val_main_v84 (X0 p) = u3 fun h R k => p R (col 0 h k) := by
  funext i
  rw [val_main_v84_apply, val_main_v83_apply, val_main_v0_apply]
  have h0 : (i 0).val < 4 := (i 0).isLt
  have h2 : (i 2).val < 128 := (i 2).isLt
  exact up2_at p _ (i 1) (col 0 (i 0) (i 2)) (by simp; omega) (by simp [col]; omega)

theorem v107_real : val_main_v107 (X0 p) = u3 fun h R k => p R (col 1 h k) := by
  funext i
  rw [val_main_v107_apply, val_main_v106_apply, val_main_v1_apply]
  have h0 : (i 0).val < 4 := (i 0).isLt
  have h2 : (i 2).val < 128 := (i 2).isLt
  exact up2_at p _ (i 1) (col 1 (i 0) (i 2)) (by simp; omega) (by simp [col]; omega)

theorem v128_real : val_main_v128 (X0 p) = u3 fun h R k => p R (col 2 h k) := by
  funext i
  rw [val_main_v128_apply, val_main_v127_apply, val_main_v2_apply]
  have h0 : (i 0).val < 4 := (i 0).isLt
  have h2 : (i 2).val < 128 := (i 2).isLt
  exact up2_at p _ (i 1) (col 2 (i 0) (i 2)) (by simp; omega) (by simp [col]; omega)

theorem v187_real : val_main_v187 (X2 y) = u3 fun h R k => y R (lan h k) := by
  funext i
  rw [val_main_v187_apply, val_main_v186_apply]
  have h0 : (i 0).val < 4 := (i 0).isLt
  have h2 : (i 2).val < 128 := (i 2).isLt
  exact up2_at y _ (i 1) (lan (i 0) (i 2)) (by simp; omega) (by simp [lan]; omega)

theorem v90_real : val_main_v90 (F := Ideal) = u3 fun _ R k => Real.cos (ang R k) := by
  funext i
  rw [val_main_v90_apply, val_main_v89_apply, val_main_v87_apply]
  show Ideal.cos (angles _) = _
  rw [angles_coe]
  rfl

theorem v93_real : val_main_v93 (F := Ideal) = u3 fun _ R k => Real.sin (ang R k) := by
  funext i
  rw [val_main_v93_apply, val_main_v92_apply, val_main_v88_apply]
  show Ideal.sin (angles _) = _
  rw [angles_coe]
  rfl

/-- Two halves of 64 columns side by side. -/
theorem halves3 (a b : FVec Ideal S4x4352x64 .f32) (f : Fin 4 → Fin 4352 → Fin 128 → ℝ)
    (ha : a = u3 fun h R k => f h R ⟨k.val, by omega⟩) (hb : b = u3 fun h R k => f h R ⟨k.val + 64, by omega⟩)
    (hc : Shape.Concatenates [S4x4352x64, S4x4352x64] S4x4352x128 2) :
    concatenate S4x4352x128 2 [⟨S4x4352x64, a⟩, ⟨S4x4352x64, b⟩] hc = u3 f := by
  funext j
  have h2 : (j 2).val < 128 := (j 2).isLt
  by_cases h : (j 2).val < 64
  · refine (concatenate_pair_apply_left 2 a b hc j rfl (ValueIdx.ix3 (j 0) (j 1) ⟨(j 2).val, h⟩) fun b => match b with
      | ⟨0, _⟩ => rfl
      | ⟨1, _⟩ => rfl
      | ⟨2, _⟩ => rfl).trans ?_
    rw [ha]
    rfl
  · refine (concatenate_pair_apply_right 2 a b hc j rfl rfl (ValueIdx.ix3 (j 0) (j 1) ⟨(j 2).val - 64, by omega⟩) (fun b hb => match b, hb with
      | ⟨0, _⟩, _ => rfl
      | ⟨1, _⟩, _ => rfl
      | ⟨2, _⟩, hb => absurd rfl hb) (by show (j 2).val - 64 + 64 = (j 2).val; omega)).trans ?_
    rw [hb]
    refine congrArg (fun k => ((f (j 0) (j 1) k : ℝ) : EReal)) (Fin.ext ?_)
    show (j 2).val - 64 + 64 = (j 2).val
    omega

theorem cs_lo (R : Fin 4352) (k : Fin 64) (h) : cs R ⟨k.val, h⟩ = Real.cos (ang R k) := by
  have e : pair ⟨k.val, h⟩ = k := Fin.ext (Nat.mod_eq_of_lt k.isLt)
  unfold cs; rw [e]

theorem cs_hi (R : Fin 4352) (k : Fin 64) (h) : cs R ⟨k.val + 64, h⟩ = Real.cos (ang R k) := by
  have e : pair ⟨k.val + 64, h⟩ = k := Fin.ext (by show (k.val + 64) % 64 = k.val; omega)
  unfold cs; rw [e]

theorem sn_lo (R : Fin 4352) (k : Fin 64) (h) : sn R ⟨k.val, h⟩ = -Real.sin (ang R k) := by
  have e : pair ⟨k.val, h⟩ = k := Fin.ext (Nat.mod_eq_of_lt k.isLt)
  unfold sn; rw [e, if_pos k.isLt]

theorem sn_hi (R : Fin 4352) (k : Fin 64) (h) : sn R ⟨k.val + 64, h⟩ = Real.sin (ang R k) := by
  have e : pair ⟨k.val + 64, h⟩ = k := Fin.ext (by show (k.val + 64) % 64 = k.val; omega)
  unfold sn; rw [e, if_neg (by show ¬ k.val + 64 < 64; omega)]

theorem half_lo (k : Fin 64) (h) (h') : half ⟨k.val, h⟩ = ⟨k.val + 64, h'⟩ := Fin.ext (Nat.mod_eq_of_lt h')

theorem half_hi (k : Fin 64) (h) (h') : half ⟨k.val + 64, h⟩ = ⟨k.val, h'⟩ := Fin.ext (by show (k.val + 64 + 64) % 128 = k.val; omega)

/-- The reference's rotation, half by half. -/
theorem turn (t c s : FVec Ideal S4x4352x64 .f32) (t' : FVec Ideal S4x4352x64 .f32) (x : Fin 4 → Fin 4352 → Fin 128 → ℝ)
    (ht : t = u3 fun h R k => x h R ⟨k.val, by omega⟩) (ht' : t' = u3 fun h R k => x h R ⟨k.val + 64, by omega⟩)
    (hc : c = u3 fun _ R k => Real.cos (ang R k)) (hs : s = u3 fun _ R k => Real.sin (ang R k))
    (hh : Shape.Concatenates [S4x4352x64, S4x4352x64] S4x4352x128 2) :
    concatenate S4x4352x128 2 [⟨S4x4352x64, subf (mulf t c) (mulf t' s)⟩, ⟨S4x4352x64, addf (mulf t s) (mulf t' c)⟩] hh =
      u3 fun h R k => rope cs sn (x h) R k := by
  subst ht ht' hc hs
  refine halves3 _ _ _ ?_ ?_ hh
  · rw [mulf_u3, mulf_u3, subf_u3]
    refine u3_congr _ _ fun h R k => ?_
    unfold rope
    rw [half_lo k _ (by omega), cs_lo, sn_lo]
    ring
  · rw [mulf_u3, mulf_u3, addf_u3]
    refine u3_congr _ _ fun h R k => ?_
    unfold rope
    rw [half_hi k _ (by omega), cs_hi, sn_hi]
    ring

theorem v105_real : val_main_v105 (X0 p) = u3 fun h R k => ropeQ cs sn (fun R k => p R (col 0 h k)) R k := by
  have e : val_main_v103 (X0 p) = u3 fun h R k => rope cs sn (fun R k => p R (col 0 h k)) R k :=
    turn (val_main_v85 (X0 p)) (val_main_v90 (F := Ideal)) (val_main_v93 (F := Ideal)) (val_main_v86 (X0 p)) (fun h R k => p R (col 0 h k))
      (by funext i; rw [val_main_v85_apply, v84_real]; rfl)
      (by funext i; rw [val_main_v86_apply, v84_real]; exact u3_at _ _ (i 0) (i 1) ⟨(i 2).val + 64, _⟩ rfl rfl (Nat.add_comm _ _))
      v90_real v93_real (by exact concatenates_S4x4352x64_S4x4352x64_S4x4352x128_d2)
  funext i
  rw [val_main_v105_apply, e]
  show _ * Ideal.ofBits .f32 0x3DB504F3#32 = _
  rw [qs_coe]
  rfl

theorem v126_real : val_main_v126 (X0 p) = u3 fun h R k => rope cs sn (fun R k => p R (col 1 h k)) R k :=
  turn (val_main_v108 (X0 p)) (val_main_v113 (F := Ideal)) (val_main_v116 (F := Ideal)) (val_main_v109 (X0 p)) (fun h R k => p R (col 1 h k))
    (by funext i; rw [val_main_v108_apply, v107_real]; rfl)
    (by funext i; rw [val_main_v109_apply, v107_real]; exact u3_at _ _ (i 0) (i 1) ⟨(i 2).val + 64, _⟩ rfl rfl (Nat.add_comm _ _))
    v90_real v93_real (by exact concatenates_S4x4352x64_S4x4352x64_S4x4352x128_d2)

end Cert.RefLeg

end
-- ==== Proof.RefWeights.lean ====
/- The reference's decay weights and exponents, on real decays. -/
module

public import proofs.«01_k».proof.Proof.RefRope

@[expose] public section

set_option maxRecDepth 16384

noncomputable section

namespace Cert.RefLeg

open Idealize.ShloMosaic
open Cert.ReferenceIdeal Cert.ReferenceIdeal.Gen Cert.ReferenceIdeal.Read
open Cert.KernelIdeal.Lift (up2 half)
open Cert.KernelIdeal.Spec Cert.KernelIdeal.Inputs Cert.KernelIdeal.Angles Cert.KernelIdeal.Global

variable (l : Fin 2 → Fin 4 → ℝ)

abbrev X1 : (⟨S2x4, .f32⟩ : BufTy).Contents (Elt Ideal) := (up2 (φ := .f32) l : FVec Ideal S2x4 .f32)

theorem word (n : ℕ) (h : n < 4352) : ((BitVec.ofNat 32 n).toInt : ℝ) = (n : ℝ) := by
  have e : (BitVec.ofNat 32 n).toInt = (n : ℤ) := by
    rw [BitVec.toInt_eq_toNat_of_lt (by rw [BitVec.toNat_ofNat]; omega), BitVec.toNat_ofNat]
    omega
  rw [e, Int.cast_natCast]

theorem b4351 : Ideal.ofBits .f32 0x4587F800#32 = ((4351 : ℝ) : EReal) := by
  have h : (4351 : ℝ) = (8910848 : ℝ) * (2 ^ 11)⁻¹ := by norm_num
  rw [h, EReal.coe_mul]; simp [Ideal.ofBits, Ideal.ieee]

theorem b255 : Ideal.ofBits .f32 0x437F0000#32 = ((255 : ℝ) : EReal) := by
  have h : (255 : ℝ) = (16711680 : ℝ) * (2 ^ 16)⁻¹ := by norm_num
  rw [h, EReal.coe_mul]; simp [Ideal.ofBits, Ideal.ieee]

/-- The forward order: the trailing 256 rows first. -/
theorem order_f (i : S4352.Idx) : val_main_v135 (F := Ideal) i = (((tf (i 0) : ℕ) : ℝ) : EReal) := by
  have h0 : (i 0).val < 4352 := (i 0).isLt
  unfold val_main_v135
  by_cases h : (i 0).val < 4096
  · refine (concatenate_pair_apply_left 0 (val_main_v134 (F := Ideal)) (val_main_v130 (F := Ideal)) _ i rfl (ValueIdx.ix1 ⟨(i 0).val, h⟩) fun b => match b with
      | ⟨0, _⟩ => rfl).trans ?_
    show Ideal.ofBits .f32 0x43800000#32 + (((BitVec.ofNat 32 (i 0).val).toInt : ℝ) : EReal) = _
    rw [b256, word _ h0, ← EReal.coe_add]
    have e : tf (i 0) = 256 + (i 0).val := by unfold tf; omega
    rw [e]; push_cast; rfl
  · refine (concatenate_pair_apply_right 0 (val_main_v134 (F := Ideal)) (val_main_v130 (F := Ideal)) _ i rfl rfl (ValueIdx.ix1 ⟨(i 0).val - 4096, by omega⟩) (fun b hb => match b, hb with
      | ⟨0, _⟩, hb => absurd rfl hb) (by show (i 0).val - 4096 + 4096 = (i 0).val; omega)).trans ?_
    show (((BitVec.ofNat 32 ((i 0).val - 4096)).toInt : ℝ) : EReal) = _
    rw [word _ (by omega)]
    have e : tf (i 0) = (i 0).val - 4096 := by unfold tf; omega
    rw [e]

/-- The backward order: the rows from the last to the first. -/
theorem order_b (i : S4352.Idx) : val_main_v161 (F := Ideal) i = (((tb (i 0) : ℕ) : ℝ) : EReal) := by
  have h0 : (i 0).val < 4352 := (i 0).isLt
  unfold val_main_v161
  by_cases h : (i 0).val < 4096
  · refine (concatenate_pair_apply_left 0 (val_main_v158 (F := Ideal)) (val_main_v160 (F := Ideal)) _ i rfl (ValueIdx.ix1 ⟨(i 0).val, h⟩) fun b => match b with
      | ⟨0, _⟩ => rfl).trans ?_
    show Ideal.ofBits .f32 0x4587F800#32 - (((BitVec.ofNat 32 (i 0).val).toInt : ℝ) : EReal) = _
    rw [b4351, word _ h0, ← EReal.coe_sub]
    have e : tb (i 0) + (i 0).val = 4351 := by unfold tb; omega
    have e' : (tb (i 0) : ℝ) + ((i 0).val : ℝ) = 4351 := by exact_mod_cast e
    refine congrArg _ ?_
    linarith
  · refine (concatenate_pair_apply_right 0 (val_main_v158 (F := Ideal)) (val_main_v160 (F := Ideal)) _ i rfl rfl (ValueIdx.ix1 ⟨(i 0).val - 4096, by omega⟩) (fun b hb => match b, hb with
      | ⟨0, _⟩, hb => absurd rfl hb) (by show (i 0).val - 4096 + 4096 = (i 0).val; omega)).trans ?_
    show Ideal.ofBits .f32 0x437F0000#32 - (((BitVec.ofNat 32 ((i 0).val - 4096)).toInt : ℝ) : EReal) = _
    rw [b255, word _ (by omega), ← EReal.coe_sub]
    have e : tb (i 0) + ((i 0).val - 4096) = 255 := by unfold tb; omega
    have e' : (tb (i 0) : ℝ) + (((i 0).val - 4096 : ℕ) : ℝ) = 255 := by exact_mod_cast e
    refine congrArg _ ?_
    linarith

theorem v140_real : val_main_v140 (F := Ideal) = (up2 (φ := .f32) fun R C => (tf R : ℝ) - (tf C : ℝ) : FVec Ideal S4352x4352 .f32) := by
  funext i
  rw [val_main_v140_apply, val_main_v138_apply, val_main_v139_apply, val_main_v136_apply, val_main_v137_apply, order_f, order_f]
  exact (EReal.coe_sub _ _).symm

theorem v166_real : val_main_v166 (F := Ideal) = (up2 (φ := .f32) fun R C => (tb R : ℝ) - (tb C : ℝ) : FVec Ideal S4352x4352 .f32) := by
  funext i
  rw [val_main_v166_apply, val_main_v164_apply, val_main_v165_apply, val_main_v162_apply, val_main_v163_apply, order_b, order_b]
  exact (EReal.coe_sub _ _).symm

/-- The rows each row sees, in the forward order. -/
theorem v142_real (i : S4352x4352.Idx) : val_main_v142 (F := Ideal) i = if tf (i 1) ≤ tf (i 0) then 1#1 else 0#1 := by
  rw [val_main_v142_apply, v140_real]
  show BitVec.ofBool (decide (Ideal.ofBits .f32 0x00000000#32 ≤ (((tf (i 0) : ℝ) - (tf (i 1) : ℝ) : ℝ) : EReal))) = _
  rw [Ideal.ofBits_zero_f32]
  by_cases h : tf (i 1) ≤ tf (i 0)
  · rw [if_pos h, decide_eq_true]
    · rfl
    · have : (tf (i 1) : ℝ) ≤ (tf (i 0) : ℝ) := by exact_mod_cast h
      exact_mod_cast sub_nonneg.2 this
  · rw [if_neg h, decide_eq_false]
    · rfl
    · intro h'
      have h2 : (0 : ℝ) ≤ (tf (i 0) : ℝ) - (tf (i 1) : ℝ) := by exact_mod_cast h'
      exact h (by exact_mod_cast sub_nonneg.1 h2)

/-- The rows each row sees, in the backward order. -/
theorem v168_real (i : S4352x4352.Idx) : val_main_v168 (F := Ideal) i = if tb (i 1) < tb (i 0) then 1#1 else 0#1 := by
  rw [val_main_v168_apply, v166_real]
  show BitVec.ofBool (decide (Ideal.ofBits .f32 0x00000000#32 < (((tb (i 0) : ℝ) - (tb (i 1) : ℝ) : ℝ) : EReal))) = _
  rw [Ideal.ofBits_zero_f32]
  by_cases h : tb (i 1) < tb (i 0)
  · rw [if_pos h, decide_eq_true]
    · rfl
    · have : (tb (i 1) : ℝ) < (tb (i 0) : ℝ) := by exact_mod_cast h
      exact_mod_cast sub_pos.2 this
  · rw [if_neg h, decide_eq_false]
    · rfl
    · intro h'
      have h2 : (0 : ℝ) < (tb (i 0) : ℝ) - (tb (i 1) : ℝ) := by exact_mod_cast h'
      exact h (by exact_mod_cast sub_pos.1 h2)

/-- A choice between two reals by a condition's bit. -/
theorem pick (c : Prop) [Decidable c] (a b : ℝ) (a' b' : EReal) (ha : c → a' = (a : EReal)) (hb : ¬ c → b' = (b : EReal)) :
    Scalar.select (if c then 1#1 else 0#1) a' b' = ((if c then a else b : ℝ) : EReal) := by
  unfold Scalar.select
  by_cases h : c
  · rw [if_pos h, if_pos (by decide), if_pos h, ha h]
  · rw [if_neg h, if_neg (by decide), if_neg h, hb h]

theorem v145_real : val_main_v145 (F := Ideal) = (up2 (φ := .f32) Xf : FVec Ideal S4352x4352 .f32) := by
  funext i
  rw [val_main_v145_apply, v142_real, v140_real]
  exact pick _ ((tf (i 0) : ℝ) - (tf (i 1) : ℝ)) 0 _ _ (fun _ => rfl) fun _ => Ideal.ofBits_zero_f32

theorem v173_real : val_main_v173 (F := Ideal) = (up2 (φ := .f32) Xb : FVec Ideal S4352x4352 .f32) := by
  funext i
  rw [val_main_v173_apply, v168_real, val_main_v170_apply, v166_real]
  refine pick _ ((tb (i 0) : ℝ) - (tb (i 1) : ℝ) - 1) 0 _ _ (fun _ => ?_) fun _ => Ideal.ofBits_zero_f32
  show (((tb (i 0) : ℝ) - (tb (i 1) : ℝ) : ℝ) : EReal) - Ideal.ofBits .f32 0x3F800000#32 = _
  rw [Ideal.ofBits_one_f32]
  exact (EReal.coe_sub _ _).symm

theorem v148_real : val_main_v148 (F := Ideal) = u3 fun (_ : Fin 4) R C => Xf R C := by
  funext i
  rw [val_main_v148_apply, val_main_v146_apply, v145_real]
  rfl

theorem v176_real : val_main_v176 (F := Ideal) = u3 fun (_ : Fin 4) R C => Xb R C := by
  funext i
  rw [val_main_v176_apply, val_main_v174_apply, v173_real]
  rfl

theorem v147_real : val_main_v147 (X1 l) = u3 fun h (_ _ : Fin 4352) => l 0 h := by
  funext i
  have h0 : (i 0).val < 4 := (i 0).isLt
  rw [val_main_v147_apply, val_main_v143_apply, val_main_v132_apply, val_main_v131_apply]
  exact up2_at l _ 0 (i 0) rfl (by show (i 0).val % 4 = (i 0).val; omega)

theorem v175_real : val_main_v175 (X1 l) = u3 fun h (_ _ : Fin 4352) => l 1 h := by
  funext i
  have h0 : (i 0).val < 4 := (i 0).isLt
  rw [val_main_v175_apply, val_main_v171_apply, val_main_v156_apply, val_main_v155_apply]
  exact up2_at l _ 1 (i 0) rfl (by show (i 0).val % 4 = (i 0).val; omega)

theorem v150_real : val_main_v150 (X1 l) = u3 fun h R C => Real.exp (l 0 h * Xf R C) := by
  unfold val_main_v150 val_main_v149
  rw [v147_real, v148_real, mulf_u3, exp_u3]

theorem v178_real : val_main_v178 (X1 l) = u3 fun h R C => Real.exp (l 1 h * Xb R C) := by
  unfold val_main_v178 val_main_v177
  rw [v175_real, v176_real, mulf_u3, exp_u3]

theorem mask_f (i : S4x4352x4352.Idx) : val_main_v151_1 (F := Ideal) i = if tf (i 2) ≤ tf (i 1) then 1#1 else 0#1 := by
  rw [val_main_v151_1_apply, val_main_v144_apply, v142_real]
  rfl

theorem mask_b (i : S4x4352x4352.Idx) : val_main_v179_1 (F := Ideal) i = if tb (i 2) < tb (i 1) then 1#1 else 0#1 := by
  rw [val_main_v179_1_apply, val_main_v172_apply, v168_real]
  rfl

/-- The forward weights. -/
theorem v151_real : val_main_v151_0 (X1 l) = u3 fun h R C => Wf (l 0 h) R C := by
  funext i
  rw [val_main_v151_0_apply, mask_f, v150_real]
  refine (pick _ (Real.exp (l 0 (i 0) * Xf (i 1) (i 2))) 0 _ _ (fun _ => rfl) fun _ => Ideal.ofBits_zero_f32).trans ?_
  show _ = ((Wf (l 0 (i 0)) (i 1) (i 2) : ℝ) : EReal)
  refine congrArg _ ?_
  unfold Wf Xf
  split_ifs <;> rfl

/-- The backward weights. -/
theorem v179_real : val_main_v179_0 (X1 l) = u3 fun h R C => Wb (l 1 h) R C := by
  funext i
  rw [val_main_v179_0_apply, mask_b, v178_real]
  refine (pick _ (Real.exp (l 1 (i 0) * Xb (i 1) (i 2))) 0 _ _ (fun _ => rfl) fun _ => Ideal.ofBits_zero_f32).trans ?_
  show _ = ((Wb (l 1 (i 0)) (i 1) (i 2) : ℝ) : EReal)
  refine congrArg _ ?_
  unfold Wb Xb
  split_ifs <;> rfl

end Cert.RefLeg

end
-- ==== Proof.RefDots.lean ====
/- The reference's contractions, on real arguments. -/
module

public import proofs.«01_k».proof.Proof.RefWeights

@[expose] public section

set_option maxRecDepth 16384

noncomputable section

namespace Cert.RefLeg

open Idealize.ShloMosaic
open Cert.ReferenceIdeal Cert.ReferenceIdeal.Gen Cert.ReferenceIdeal.Read
open Cert.KernelIdeal.Lift (up2 half coe_sum)
open Cert.KernelIdeal.Spec Cert.KernelIdeal.Inputs Cert.KernelIdeal.Angles Cert.KernelIdeal.Global

variable (p : Fin 4352 → Fin 3072 → ℝ) (l : Fin 2 → Fin 4 → ℝ) (y : Fin 4352 → Fin 512 → ℝ)

/-- The products of queries and keys, and of the result's gradient and the values. -/
def qk (h : Fin 4) (R C : Fin 4352) : ℝ := ∑ e, qr (inp p l y h) R e * kr (inp p l y h) C e
def ov (h : Fin 4) (R C : Fin 4352) : ℝ := ∑ f, (inp p l y h).o R f * (inp p l y h).v C f

/-- A sum of products of reals. -/
theorem sum_mul {n : ℕ} (f g : Fin n → ℝ) (f' g' : Fin n → EReal) (hf : ∀ k, f' k = f k) (hg : ∀ k, g' k = g k) :
    ∑ k, f' k * g' k = ((∑ k, f k * g k : ℝ) : EReal) := by
  rw [coe_sum]
  refine Finset.sum_congr rfl fun k _ => ?_
  rw [hf, hg, EReal.coe_mul]

theorem v152_real : val_main_v152 (X0 p) = u3 (qk p l y) := by
  funext i
  rw [val_main_v152_apply, v105_real, v126_real]
  exact sum_mul (fun e => qr (inp p l y (i 0)) (i 1) e) (fun e => kr (inp p l y (i 0)) (i 2) e) _ _ (fun _ => rfl) fun _ => rfl

theorem v180_real : val_main_v180 (X0 p) = u3 (qk p l y) := v152_real p l y

theorem v190_real : val_main_v190 (X0 p) (X2 y) = u3 (ov p l y) := by
  funext i
  rw [val_main_v190_apply, v187_real, v128_real]
  exact sum_mul (fun e => (inp p l y (i 0)).o (i 1) e) (fun e => (inp p l y (i 0)).v (i 2) e) _ _ (fun _ => rfl) fun _ => rfl

theorem v207_real : val_main_v207 (X0 p) (X2 y) = u3 (ov p l y) := v190_real p l y

theorem v153_real : val_main_v153 (X0 p) (X1 l) = u3 fun h R C => qk p l y h R C * Wf (l 0 h) R C := by
  unfold val_main_v153
  rw [v152_real p l y, v151_real, mulf_u3]

theorem v181_real : val_main_v181 (X0 p) (X1 l) = u3 fun h R C => qk p l y h R C * Wb (l 1 h) R C := by
  unfold val_main_v181
  rw [v180_real p l y, v179_real, mulf_u3]

theorem v209_real : val_main_v209 (X0 p) (X1 l) (X2 y) = u3 fun h R C => ov p l y h R C * Wf (l 0 h) R C := by
  unfold val_main_v209
  rw [v207_real p l y, v151_real, mulf_u3]

theorem v192_real : val_main_v192 (X0 p) (X1 l) (X2 y) = u3 fun h R C => ov p l y h R C * Wb (l 1 h) R C := by
  unfold val_main_v192
  rw [v190_real p l y, v179_real, mulf_u3]

theorem v205_real : val_main_v205 (X0 p) (X1 l) (X2 y) = u3 fun h R c => gv (inp p l y h) (Wf (l 0 h)) R c := by
  funext i
  rw [val_main_v205_apply, val_main_v204_apply, v187_real, v153_real p l y]
  refine (sum_mul (fun R => (inp p l y (i 0)).o R (i 2)) (fun R => qk p l y (i 0) R (i 1) * Wf (l 0 (i 0)) R (i 1)) _ _ (fun _ => rfl) fun _ => rfl).trans ?_
  exact congrArg _ (Finset.sum_congr rfl fun R _ => mul_comm _ _)

theorem v189_real : val_main_v189 (X0 p) (X1 l) (X2 y) = u3 fun h R c => gv (inp p l y h) (Wb (l 1 h)) R c := by
  funext i
  rw [val_main_v189_apply, val_main_v188_apply, v187_real, v181_real p l y]
  refine (sum_mul (fun R => (inp p l y (i 0)).o R (i 2)) (fun R => qk p l y (i 0) R (i 1) * Wb (l 1 (i 0)) R (i 1)) _ _ (fun _ => rfl) fun _ => rfl).trans ?_
  exact congrArg _ (Finset.sum_congr rfl fun R _ => mul_comm _ _)

theorem v210_real : val_main_v210 (X0 p) (X1 l) (X2 y) = u3 fun h R c => gk (inp p l y h) (Wf (l 0 h)) R c := by
  funext i
  rw [val_main_v210_apply, v209_real p l y, v105_real]
  exact sum_mul (fun R => ov p l y (i 0) R (i 1) * Wf (l 0 (i 0)) R (i 1)) (fun R => qr (inp p l y (i 0)) R (i 2)) _ _ (fun _ => rfl) fun _ => rfl

theorem v193_real : val_main_v193 (X0 p) (X1 l) (X2 y) = u3 fun h R c => gk (inp p l y h) (Wb (l 1 h)) R c := by
  funext i
  rw [val_main_v193_apply, v192_real p l y, v105_real]
  exact sum_mul (fun R => ov p l y (i 0) R (i 1) * Wb (l 1 (i 0)) R (i 1)) (fun R => qr (inp p l y (i 0)) R (i 2)) _ _ (fun _ => rfl) fun _ => rfl

theorem v212_real : val_main_v212 (X0 p) (X1 l) (X2 y) = u3 fun h R c => gq (inp p l y h) (Wf (l 0 h)) R c := by
  funext i
  rw [val_main_v212_apply, v209_real p l y, v126_real]
  exact sum_mul (fun C => ov p l y (i 0) (i 1) C * Wf (l 0 (i 0)) (i 1) C) (fun C => kr (inp p l y (i 0)) C (i 2)) _ _ (fun _ => rfl) fun _ => rfl

theorem v194_real : val_main_v194 (X0 p) (X1 l) (X2 y) = u3 fun h R c => gq (inp p l y h) (Wb (l 1 h)) R c := by
  funext i
  rw [val_main_v194_apply, v192_real p l y, v126_real]
  exact sum_mul (fun C => ov p l y (i 0) (i 1) C * Wb (l 1 (i 0)) (i 1) C) (fun C => kr (inp p l y (i 0)) C (i 2)) _ _ (fun _ => rfl) fun _ => rfl

theorem v206_real : val_main_v206 (X0 p) (X1 l) (X2 y) = u3 fun h R c => gv (inp p l y h) (Wf (l 0 h)) R c + gv (inp p l y h) (Wb (l 1 h)) R c := by
  unfold val_main_v206
  rw [v189_real, v205_real, addf_u3]
  exact u3_congr _ _ fun _ _ _ => add_comm _ _

theorem v211_real : val_main_v211 (X0 p) (X1 l) (X2 y) = u3 fun h R c => gk (inp p l y h) (Wf (l 0 h)) R c + gk (inp p l y h) (Wb (l 1 h)) R c := by
  unfold val_main_v211
  rw [v193_real, v210_real, addf_u3]
  exact u3_congr _ _ fun _ _ _ => add_comm _ _

theorem v213_real : val_main_v213 (X0 p) (X1 l) (X2 y) = u3 fun h R c => gq (inp p l y h) (Wf (l 0 h)) R c + gq (inp p l y h) (Wb (l 1 h)) R c := by
  unfold val_main_v213
  rw [v194_real, v212_real, addf_u3]
  exact u3_congr _ _ fun _ _ _ => add_comm _ _

end Cert.RefLeg

end
-- ==== Proof.RefGrads.lean ====
/- The reference's gradients of the queries, keys and values, on real arguments. -/
module

public import proofs.«01_k».proof.Proof.RefDots
public import Idealize.ShloMosaic.Lib.KernelVsHost

@[expose] public section

set_option maxRecDepth 16384

noncomputable section

namespace Cert.RefLeg

open Idealize.ShloMosaic
open Cert.ReferenceIdeal Cert.ReferenceIdeal.Gen Cert.ReferenceIdeal.Read
open Cert.KernelIdeal.Lift (up2 half coe_sum)
open Cert.KernelIdeal.Spec Cert.KernelIdeal.Inputs Cert.KernelIdeal.Angles Cert.KernelIdeal.Global

variable (p : Fin 4352 → Fin 3072 → ℝ) (l : Fin 2 → Fin 4 → ℝ) (y : Fin 4352 → Fin 512 → ℝ)

/-- The sum of two halves, each padded by zeros to where it belongs. -/
theorem pads3 (a b : FVec Ideal S4x4352x64 .f32) (u v : FVec Ideal S_ .f32) (f : Fin 4 → Fin 4352 → Fin 128 → ℝ)
    (ha : a = u3 fun h R k => f h R ⟨k.val, by omega⟩) (hb : b = u3 fun h R k => f h R ⟨k.val + 64, by omega⟩)
    (hu : ∀ i, u i = 0) (hv : ∀ i, v i = 0)
    (h1 : S4x4352x64.Pads ![0, 0, 64] ![0, 0, 0] ![0, 0, 0] S4x4352x128) (h2 : S4x4352x64.Pads ![0, 0, 0] ![0, 0, 64] ![0, 0, 0] S4x4352x128)
    (hn : 0 < S_.numel) :
    addf (pad S4x4352x128 ![0, 0, 64] ![0, 0, 0] ![0, 0, 0] b u h1 hn : FVec Ideal S4x4352x128 .f32) (pad S4x4352x128 ![0, 0, 0] ![0, 0, 64] ![0, 0, 0] a v h2 hn) = u3 f := by
  funext j
  have hj : (j 2).val < 128 := (j 2).isLt
  show (pad S4x4352x128 ![0, 0, 64] ![0, 0, 0] ![0, 0, 0] b u h1 hn j : EReal) + pad S4x4352x128 ![0, 0, 0] ![0, 0, 64] ![0, 0, 0] a v h2 hn j = _
  by_cases h : (j 2).val < 64
  · have e1 : pad S4x4352x128 ![0, 0, 64] ![0, 0, 0] ![0, 0, 0] b u h1 hn j = (0 : EReal) :=
      (pad_apply_of_not_inside ![0, 0, 64] ![0, 0, 0] ![0, 0, 0] b u h1 hn j 2 (by
        intro hh
        have h3 : 64 ≤ (j 2).val := hh.1
        omega)).trans (hu _)
    have e2 : pad S4x4352x128 ![0, 0, 0] ![0, 0, 64] ![0, 0, 0] a v h2 hn j = a (ValueIdx.ix3 (j 0) (j 1) ⟨(j 2).val, h⟩) :=
      pad_apply_of_inside ![0, 0, 0] ![0, 0, 64] ![0, 0, 0] a v h2 hn j _ fun b => match b with
        | ⟨0, _⟩ => by show (j 0).val = 0 + (j 0).val * (0 + 1); omega
        | ⟨1, _⟩ => by show (j 1).val = 0 + (j 1).val * (0 + 1); omega
        | ⟨2, _⟩ => by show (j 2).val = 0 + (j 2).val * (0 + 1); omega
    rw [e1, e2, ha, zero_add]
    rfl
  · have e1 : pad S4x4352x128 ![0, 0, 64] ![0, 0, 0] ![0, 0, 0] b u h1 hn j = b (ValueIdx.ix3 (j 0) (j 1) ⟨(j 2).val - 64, by omega⟩) :=
      pad_apply_of_inside ![0, 0, 64] ![0, 0, 0] ![0, 0, 0] b u h1 hn j _ fun b => match b with
        | ⟨0, _⟩ => by show (j 0).val = 0 + (j 0).val * (0 + 1); omega
        | ⟨1, _⟩ => by show (j 1).val = 0 + (j 1).val * (0 + 1); omega
        | ⟨2, _⟩ => by show (j 2).val = 64 + ((j 2).val - 64) * (0 + 1); omega
    have e2 : pad S4x4352x128 ![0, 0, 0] ![0, 0, 64] ![0, 0, 0] a v h2 hn j = (0 : EReal) :=
      (pad_apply_of_not_inside ![0, 0, 0] ![0, 0, 64] ![0, 0, 0] a v h2 hn j 2 (by
        intro hh
        have h3 : ((j 2).val - 0) / (0 + 1) < 64 := hh.2.2
        simp at h3
        omega)).trans (hv _)
    rw [e1, e2, hb, add_zero]
    refine congrArg (fun k => ((f (j 0) (j 1) k : ℝ) : EReal)) (Fin.ext ?_)
    show (j 2).val - 64 + 64 = (j 2).val
    omega

/-- The rotation's transpose, half by half. -/
theorem turn_back (t t' c s : FVec Ideal S4x4352x64 .f32) (u v : FVec Ideal S_ .f32) (x : Fin 4 → Fin 4352 → Fin 128 → ℝ)
    (ht : t = u3 fun h R k => x h R ⟨k.val, by omega⟩) (ht' : t' = u3 fun h R k => x h R ⟨k.val + 64, by omega⟩)
    (hc : c = u3 fun _ R k => Real.cos (ang R k)) (hs : s = u3 fun _ R k => Real.sin (ang R k))
    (hu : ∀ i, u i = 0) (hv : ∀ i, v i = 0)
    (h1 : S4x4352x64.Pads ![0, 0, 64] ![0, 0, 0] ![0, 0, 0] S4x4352x128) (h2 : S4x4352x64.Pads ![0, 0, 0] ![0, 0, 64] ![0, 0, 0] S4x4352x128)
    (hn : 0 < S_.numel) :
    addf (pad S4x4352x128 ![0, 0, 64] ![0, 0, 0] ![0, 0, 0] (addf (mulf t' c) (mulf (Host.negf t) s)) u h1 hn : FVec Ideal S4x4352x128 .f32)
      (pad S4x4352x128 ![0, 0, 0] ![0, 0, 64] ![0, 0, 0] (addf (mulf t' s) (mulf t c)) v h2 hn) = u3 fun h R k => ropeT cs sn (x h) R k := by
  subst ht ht' hc hs
  refine pads3 _ _ _ _ _ ?_ ?_ hu hv h1 h2 hn
  · rw [mulf_u3, mulf_u3, addf_u3]
    refine u3_congr _ _ fun h R k => ?_
    unfold ropeT
    rw [half_lo k _ (by omega), cs_lo, sn_hi]
    ring
  · rw [negf_u3, mulf_u3, mulf_u3, addf_u3]
    refine u3_congr _ _ fun h R k => ?_
    unfold ropeT
    rw [half_hi k _ (by omega), cs_hi, sn_lo]
    ring

theorem v228_real : val_main_v228 (F := Ideal) = u3 fun _ R k => Real.cos (ang R k) := v90_real
theorem v230_real : val_main_v230 (F := Ideal) = u3 fun _ R k => Real.sin (ang R k) := v93_real
theorem v233_real : val_main_v233 (F := Ideal) = u3 fun _ R k => Real.sin (ang R k) := v93_real

theorem v241_real : val_main_v241 (X0 p) (X1 l) (X2 y) =
    u3 fun h R k => ropeT cs sn (fun R c => gk (inp p l y h) (Wf (l 0 h)) R c + gk (inp p l y h) (Wb (l 1 h)) R c) R k :=
  turn_back (val_main_v226 (X0 p) (X1 l) (X2 y)) (val_main_v227 (X0 p) (X1 l) (X2 y)) (val_main_v228 (F := Ideal)) (val_main_v230 (F := Ideal))
    (val_main_cst_30 (F := Ideal)) (val_main_cst_31 (F := Ideal))
    (fun h R c => gk (inp p l y h) (Wf (l 0 h)) R c + gk (inp p l y h) (Wb (l 1 h)) R c)
    (by funext i; rw [val_main_v226_apply, v211_real]; rfl)
    (by funext i; rw [val_main_v227_apply, v211_real]; exact u3_at _ _ (i 0) (i 1) ⟨(i 2).val + 64, _⟩ rfl rfl (Nat.add_comm _ _))
    v228_real v230_real (fun _ => Ideal.ofBits_zero_f32) (fun _ => Ideal.ofBits_zero_f32)
    (by exact pads_S4x4352x64_S4x4352x128_000_000_6400) (by exact pads_S4x4352x64_S4x4352x128_000_000_0640) h_S_

theorem v245_real : val_main_v245 (X0 p) (X1 l) (X2 y) =
    u3 fun h R c => (gq (inp p l y h) (Wf (l 0 h)) R c + gq (inp p l y h) (Wb (l 1 h)) R c) * qs := by
  have e : val_main_v244 (F := Ideal) = u3 fun _ _ _ => qs := by
    funext i
    exact qs_coe
  unfold val_main_v245
  rw [v213_real, e, mulf_u3]

theorem v261_real : val_main_v261 (X0 p) (X1 l) (X2 y) =
    u3 fun h R k => ropeT cs sn (fun R c => (gq (inp p l y h) (Wf (l 0 h)) R c + gq (inp p l y h) (Wb (l 1 h)) R c) * qs) R k :=
  turn_back (val_main_v246 (X0 p) (X1 l) (X2 y)) (val_main_v247 (X0 p) (X1 l) (X2 y)) (val_main_v228 (F := Ideal)) (val_main_v230 (F := Ideal))
    (val_main_cst_33 (F := Ideal)) (val_main_cst_34 (F := Ideal))
    (fun h R c => (gq (inp p l y h) (Wf (l 0 h)) R c + gq (inp p l y h) (Wb (l 1 h)) R c) * qs)
    (by funext i; rw [val_main_v246_apply, v245_real]; rfl)
    (by funext i; rw [val_main_v247_apply, v245_real]; exact u3_at _ _ (i 0) (i 1) ⟨(i 2).val + 64, _⟩ rfl rfl (Nat.add_comm _ _))
    v228_real v230_real (fun _ => Ideal.ofBits_zero_f32) (fun _ => Ideal.ofBits_zero_f32)
    (by exact pads_S4x4352x64_S4x4352x128_000_000_6400) (by exact pads_S4x4352x64_S4x4352x128_000_000_0640) h_S_

/-- The heads' columns side by side. -/
def flat (f : Fin 4 → Fin 4352 → Fin 128 → ℝ) : FVec Ideal S4352x512 .bf16 := fun i =>
  ((f ⟨(i 1).val / 128, by have h : (i 1).val < 512 := (i 1).isLt; omega⟩ (i 0) ⟨(i 1).val % 128, Nat.mod_lt _ (by norm_num)⟩ : ℝ) : EReal)

theorem flat_at (f : Fin 4 → Fin 4352 → Fin 128 → ℝ) (i : S4352x512.Idx) (j : S4x4352x128.Idx)
    (h0 : (j 0).val = (i 1).val / 128) (h1 : (j 1).val = (i 0).val) (h2 : (j 2).val = (i 1).val % 128) : u3 f j = flat f i :=
  u3_at f j _ _ _ h0 h1 h2

theorem v271_real : val_main_v271 (X0 p) (X1 l) (X2 y) = flat fun h R c => gv (inp p l y h) (Wf (l 0 h)) R c + gv (inp p l y h) (Wb (l 1 h)) R c := by
  funext i
  have h0 : (i 0).val < 4352 := (i 0).isLt
  have h1 : (i 1).val < 512 := (i 1).isLt
  rw [val_main_v271_apply, val_main_v225_apply, val_main_v224_apply, v206_real]
  exact flat_at _ i _ (by simp; omega) (by simp; omega) (by simp; omega)

theorem v270_real : val_main_v270 (X0 p) (X1 l) (X2 y) =
    flat fun h R k => ropeT cs sn (fun R c => gk (inp p l y h) (Wf (l 0 h)) R c + gk (inp p l y h) (Wb (l 1 h)) R c) R k := by
  funext i
  have h0 : (i 0).val < 4352 := (i 0).isLt
  have h1 : (i 1).val < 512 := (i 1).isLt
  rw [val_main_v270_apply, val_main_v243_apply, val_main_v242_apply, v241_real]
  exact flat_at _ i _ (by simp; omega) (by simp; omega) (by simp; omega)

theorem v269_real : val_main_v269 (X0 p) (X1 l) (X2 y) =
    flat fun h R k => ropeT cs sn (fun R c => gq (inp p l y h) (Wf (l 0 h)) R c + gq (inp p l y h) (Wb (l 1 h)) R c) R k * qs := by
  funext i
  have h0 : (i 0).val < 4352 := (i 0).isLt
  have h1 : (i 1).val < 512 := (i 1).isLt
  rw [val_main_v269_apply, val_main_v263_apply, val_main_v262_apply, v261_real]
  refine (flat_at _ i _ (by simp; omega) (by simp; omega) (by simp; omega)).trans ?_
  refine congrArg (fun f => flat f i) ?_
  funext h R k
  unfold ropeT
  ring

end Cert.RefLeg

end
-- ==== Proof.RefDecay.lean ====
/- The reference's gradient of the decays, on real arguments. -/
module

public import proofs.«01_k».proof.Proof.RefGrads

@[expose] public section

set_option maxRecDepth 16384

noncomputable section

namespace Cert.RefLeg

open Idealize.ShloMosaic
open Cert.ReferenceIdeal Cert.ReferenceIdeal.Gen Cert.ReferenceIdeal.Read
open Cert.KernelIdeal.Lift (up2 half coe_sum)
open Cert.KernelIdeal.Spec Cert.KernelIdeal.Inputs Cert.KernelIdeal.Angles Cert.KernelIdeal.Global

variable (p : Fin 4352 → Fin 3072 → ℝ) (l : Fin 2 → Fin 4 → ℝ) (y : Fin 4352 → Fin 512 → ℝ)

/-- The sum over the last two axes of a real array. -/
theorem total3 {n1 n2 : ℕ} (h : (⟨3, ![4, n1, n2]⟩ : Shape).ReducesTo [1, 2] S4) (f : Fin 4 → Fin n1 → Fin n2 → ℝ) (j : S4.Idx) :
    Ideal.hostReduceAdd h (u3 f) 0 j = ((∑ R, ∑ C, f (j 0) R C : ℝ) : EReal) := by
  have hd : ∀ i : (⟨3, ![4, n1, n2]⟩ : Shape).Idx, h.drop i = j ↔ (i 0).val = (j 0).val := by
    intro i
    have e : (h.drop i 0).val = (i 0).val := rfl
    constructor
    · intro hh
      rw [← hh, e]
    · intro hh
      funext b
      match b with
      | ⟨0, _⟩ => exact Fin.ext (e.trans hh)
  have hs : (∑ R, ∑ C, f (j 0) R C) = ∑ x : Fin n1 × Fin n2, f (j 0) x.1 x.2 := (Fintype.sum_prod_type (fun x : Fin n1 × Fin n2 => f (j 0) x.1 x.2)).symm
  unfold Ideal.hostReduceAdd
  rw [zero_add, hs, coe_sum]
  symm
  refine Finset.sum_bij (fun (x : Fin n1 × Fin n2) _ => (ValueIdx.ix3 (j 0) x.1 x.2 : (⟨3, ![4, n1, n2]⟩ : Shape).Idx)) ?_ ?_ ?_ ?_
  · intro x _
    exact Finset.mem_filter.2 ⟨Finset.mem_univ _, (hd _).2 rfl⟩
  · intro x _ x' _ hx
    exact Prod.ext (congrFun hx 1) (congrFun hx 2)
  · intro i hi
    have h0 : i 0 = j 0 := Fin.ext ((hd i).1 (Finset.mem_filter.1 hi).2)
    refine ⟨(i 1, i 2), Finset.mem_univ _, ?_⟩
    funext b
    match b with
    | ⟨0, _⟩ => exact h0.symm
    | ⟨1, _⟩ => rfl
    | ⟨2, _⟩ => rfl
  · intro x _
    rfl

theorem v217_real : val_main_v217 (X0 p) (X1 l) (X2 y) = u3 fun h R C => Xf R C * (Wf (l 0 h) R C * (qk p l y h R C * ov p l y h R C)) := by
  have e : val_main_v208 (X0 p) (X2 y) = u3 fun h R C => qk p l y h R C * ov p l y h R C := by
    unfold val_main_v208
    rw [v152_real p l y, v207_real p l y, mulf_u3]
  have e1 : val_main_v214 (X0 p) (X2 y) = u3 fun h R C => if tf C ≤ tf R then qk p l y h R C * ov p l y h R C else 0 := by
    funext i
    rw [val_main_v214_apply, mask_f, e]
    exact pick _ (qk p l y (i 0) (i 1) (i 2) * ov p l y (i 0) (i 1) (i 2)) 0 _ _ (fun _ => rfl) fun _ => Ideal.ofBits_zero_f32
  have e2 : val_main_v216 (F := Ideal) = u3 fun (_ : Fin 4) R C => Xf R C := v148_real
  unfold val_main_v217 val_main_v215
  rw [e1, e2, v150_real, mulf_u3, mulf_u3]
  refine u3_congr _ _ fun h R C => ?_
  unfold Wf Xf
  split_ifs <;> ring

theorem v198_real : val_main_v198 (X0 p) (X1 l) (X2 y) = u3 fun h R C => Xb R C * (Wb (l 1 h) R C * (qk p l y h R C * ov p l y h R C)) := by
  have e : val_main_v191 (X0 p) (X2 y) = u3 fun h R C => qk p l y h R C * ov p l y h R C := by
    unfold val_main_v191
    rw [v180_real p l y, v190_real p l y, mulf_u3]
  have e1 : val_main_v195 (X0 p) (X2 y) = u3 fun h R C => if tb C < tb R then qk p l y h R C * ov p l y h R C else 0 := by
    funext i
    rw [val_main_v195_apply, mask_b, e]
    exact pick _ (qk p l y (i 0) (i 1) (i 2) * ov p l y (i 0) (i 1) (i 2)) 0 _ _ (fun _ => rfl) fun _ => Ideal.ofBits_zero_f32
  have e2 : val_main_v197 (F := Ideal) = u3 fun (_ : Fin 4) R C => Xb R C := v176_real
  unfold val_main_v198 val_main_v196
  rw [e1, e2, v178_real, mulf_u3, mulf_u3]
  refine u3_congr _ _ fun h R C => ?_
  unfold Wb Xb
  split_ifs <;> ring

/-- The two sums one after another. -/
theorem totals (x : FVec Ideal S4x4352x4352 .f32) (f : Fin 4 → Fin 4352 → Fin 4352 → ℝ) (hx : x = u3 f) (a : FVec Ideal S4x1x1 .f32) (u v : FVec Ideal S_ .f32)
    (hu : ∀ i, u i = 0) (hv : ∀ i, v i = 0) (h1 : S4x4352x4352.ReducesTo [1, 2] S4) (h2 : S4x1x1.ReducesTo [1, 2] S4) (hn : 0 < S_.numel)
    (ha : ∀ i, ∃ j : S4.Idx, (j 0).val = (i 0).val ∧ a i = Host.reduceAdd (F := Ideal) x u h1 hn j) (j : S4.Idx) :
    Host.reduceAdd (F := Ideal) a v h2 hn j = ((∑ R, ∑ C, f (j 0) R C : ℝ) : EReal) := by
  have e : a = u3 fun h (_ _ : Fin 1) => ∑ R, ∑ C, f h R C := by
    funext i
    obtain ⟨j, hj, e⟩ := ha i
    rw [e]
    show Ideal.hostReduceAdd h1 x (u (Shape.Idx.first hn)) j = _
    rw [hu, hx, total3]
    have e0 : j 0 = i 0 := Fin.ext hj
    rw [e0]
    rfl
  show Ideal.hostReduceAdd h2 a (v (Shape.Idx.first hn)) j = _
  rw [hv, e]
  refine (total3 h2 _ j).trans ?_
  simp

theorem v220_real (j : S4.Idx) : val_main_v220 (X0 p) (X1 l) (X2 y) j = ((gl (inp p l y (j 0)) (Wf (l 0 (j 0))) Xf : ℝ) : EReal) :=
  totals _ _ (v217_real p l y) (val_main_v219 (X0 p) (X1 l) (X2 y)) (val_main_cst_27 (F := Ideal)) (val_main_cst_28 (F := Ideal))
    (fun _ => Ideal.ofBits_zero_f32) (fun _ => Ideal.ofBits_zero_f32) (by exact reducesTo_S4x4352x4352_S4_d1_2) (by exact reducesTo_S4x1x1_S4_d1_2) h_S_
    (fun i => ⟨idx_main_v219 i, by have h1 : (i 1).val < 1 := (i 1).isLt; have h2 : (i 2).val < 1 := (i 2).isLt; show ((i 0).val * 1 + (i 1).val) * 1 + (i 2).val = (i 0).val; omega, val_main_v219_apply _ _ _ i⟩) j

theorem v201_real (j : S4.Idx) : val_main_v201 (X0 p) (X1 l) (X2 y) j = ((gl (inp p l y (j 0)) (Wb (l 1 (j 0))) Xb : ℝ) : EReal) :=
  totals _ _ (v198_real p l y) (val_main_v200 (X0 p) (X1 l) (X2 y)) (val_main_cst_24 (F := Ideal)) (val_main_cst_25 (F := Ideal))
    (fun _ => Ideal.ofBits_zero_f32) (fun _ => Ideal.ofBits_zero_f32) (by exact reducesTo_S4x4352x4352_S4_d1_2) (by exact reducesTo_S4x1x1_S4_d1_2) h_S_
    (fun i => ⟨idx_main_v200 i, by have h1 : (i 1).val < 1 := (i 1).isLt; have h2 : (i 2).val < 1 := (i 2).isLt; show ((i 0).val * 1 + (i 1).val) * 1 + (i 2).val = (i 0).val; omega, val_main_v200_apply _ _ _ i⟩) j

/-- The two directions' sums, one a row. -/
theorem v223_real (i : S2x4.Idx) : val_main_v223 (X0 p) (X1 l) (X2 y) i =
    ((if (i 0).val = 0 then gl (inp p l y (i 1)) (Wf (l 0 (i 1))) Xf else gl (inp p l y (i 1)) (Wb (l 1 (i 1))) Xb : ℝ) : EReal) := by
  have h0 : (i 0).val < 2 := (i 0).isLt
  rw [val_main_v223_apply]
  show (val_main_v203 (X0 p) (X1 l) (X2 y) i : EReal) + val_main_v222 (X0 p) (X1 l) (X2 y) i = _
  unfold val_main_v203 val_main_v222
  by_cases h : (i 0).val = 0
  · have e1 := (pad_apply_of_not_inside ![1, 0] ![0, 0] ![0, 0] (val_main_v202 (X0 p) (X1 l) (X2 y)) (val_main_cst_26 (F := Ideal)) pads_S1x4_S2x4_100_000 h_S_ i 0 (by
      intro hh
      have h3 : 1 ≤ (i 0).val := hh.1
      omega)).trans (show val_main_cst_26 (F := Ideal) _ = (0 : EReal) from Ideal.ofBits_zero_f32)
    have e2 := pad_apply_of_inside ![0, 0] ![1, 0] ![0, 0] (val_main_v221 (X0 p) (X1 l) (X2 y)) (val_main_cst_29 (F := Ideal)) pads_S1x4_S2x4_010_000 h_S_ i
      (ValueIdx.ix2 0 (i 1)) (fun b => match b with
        | ⟨0, _⟩ => by show (i 0).val = 0 + 0 * (0 + 1); omega
        | ⟨1, _⟩ => by show (i 1).val = 0 + (i 1).val * (0 + 1); omega)
    rw [e1, e2, zero_add, if_pos h, val_main_v221_apply, v220_real]
    rfl
  · have e1 := pad_apply_of_inside ![1, 0] ![0, 0] ![0, 0] (val_main_v202 (X0 p) (X1 l) (X2 y)) (val_main_cst_26 (F := Ideal)) pads_S1x4_S2x4_100_000 h_S_ i
      (ValueIdx.ix2 0 (i 1)) (fun b => match b with
        | ⟨0, _⟩ => by show (i 0).val = 1 + 0 * (0 + 1); omega
        | ⟨1, _⟩ => by show (i 1).val = 0 + (i 1).val * (0 + 1); omega)
    have e2 := (pad_apply_of_not_inside ![0, 0] ![1, 0] ![0, 0] (val_main_v221 (X0 p) (X1 l) (X2 y)) (val_main_cst_29 (F := Ideal)) pads_S1x4_S2x4_010_000 h_S_ i 0 (by
      intro hh
      have h3 : ((i 0).val - 0) / (0 + 1) < 1 := hh.2.2
      simp at h3
      omega)).trans (show val_main_cst_29 (F := Ideal) _ = (0 : EReal) from Ideal.ofBits_zero_f32)
    rw [e1, e2, add_zero, if_neg h, val_main_v202_apply, v201_real]
    rfl

/-- The decays' gradient as the kernel lays it out. -/
theorem v268_real (i : S4x8x128.Idx) : val_main_v268 (X0 p) (X1 l) (X2 y) i =
    ((if (i 1).val = 0 then gl (inp p l y (i 0)) (Wf (l 0 (i 0))) Xf else if (i 1).val = 1 then gl (inp p l y (i 0)) (Wb (l 1 (i 0))) Xb else 0 : ℝ) : EReal) := by
  have h1 : (i 1).val < 8 := (i 1).isLt
  rw [val_main_v268_apply, val_main_v267_apply]
  unfold val_main_v266
  by_cases h : (i 1).val < 2
  · refine (concatenate_pair_apply_left (t := S4x8) (s₁ := S4x2) (s₂ := S4x6) 1 (val_main_v264 (X0 p) (X1 l) (X2 y)) (val_main_v265 (F := Ideal)) concatenates_S4x2_S4x6_S4x8_d1 (idx_main_v267 (idx_main_v268 i)) rfl (ValueIdx.ix2 (i 0) ⟨(i 1).val, h⟩) fun b => match b with
      | ⟨0, _⟩ => rfl
      | ⟨1, _⟩ => rfl).trans ?_
    rw [val_main_v264_apply, v223_real]
    show ((if (i 1).val = 0 then _ else _ : ℝ) : EReal) = _
    by_cases h2 : (i 1).val = 0
    · rw [if_pos h2, if_pos h2]
      rfl
    · rw [if_neg h2, if_neg h2, if_pos (by omega)]
      rfl
  · refine (concatenate_pair_apply_right (t := S4x8) (s₁ := S4x2) (s₂ := S4x6) 1 (val_main_v264 (X0 p) (X1 l) (X2 y)) (val_main_v265 (F := Ideal)) concatenates_S4x2_S4x6_S4x8_d1 (idx_main_v267 (idx_main_v268 i)) rfl rfl (ValueIdx.ix2 (i 0) ⟨(i 1).val - 2, by omega⟩) (fun b hb => match b, hb with
      | ⟨0, _⟩, _ => rfl
      | ⟨1, _⟩, hb => absurd rfl hb) (by show (i 1).val - 2 + 2 = (i 1).val; omega)).trans ?_
    rw [if_neg (by omega), if_neg (by omega)]
    exact Ideal.ofBits_zero_f32

end Cert.RefLeg

end
-- ==== Proof.Algebraic.lean ====
/- The kernel's results are the reference's, on finite arguments. -/
module

public import proofs.«01_k».proof.Proof.Finite
public import proofs.«01_k».proof.Proof.Args
public import proofs.«01_k».proof.Proof.RefDecay
public import proofs.«01_k».proof.Proof.Gen.ReferenceIdeal.Run

@[expose] public section

set_option maxRecDepth 16384

noncomputable section

namespace Cert.Algebraic

open Idealize.ShloMosaic
open Cert.KernelIdeal.Lift (up2)
open Cert.KernelIdeal (Out.dq Out.dk Out.dv Out.dl)
open Cert.KernelIdeal.Spec Cert.KernelIdeal.Inputs Cert.KernelIdeal.Angles Cert.KernelIdeal.Global
open Cert.KernelIdeal.Args (hd)
open Cert.KernelIdeal.Vals (cols rows Ends pt)
open Cert.RefLeg (X0 X1 X2 flat)

section Results

variable (p : Fin 4352 → Fin 3072 → ℝ) (l : Fin 2 → Fin 4 → ℝ) (y : Fin 4352 → Fin 512 → ℝ)

/-- The inputs of the head of each grid point. -/
def J (t : Fin Cert.KernelIdeal.cfg0.N) : In := inp p l y (hd t)

/-- Heads side by side: the kernel's layout is the reference's. -/
theorem flat_cols (f : Fin 4 → Fin 4352 → Fin 128 → ℝ) : flat f = cols fun t => f (hd t) := rfl

theorem dq_eq : Cert.ReferenceIdeal.Read.val_main_v269 (X0 p) (X1 l) (X2 y) = cols fun t => Out.dq (J p l y t) := by
  rw [Cert.RefLeg.v269_real, flat_cols]
  exact congrArg _ (funext fun t => (out_dq (J p l y t) (l 0 (hd t)) (l 1 (hd t)) rfl rfl).symm)

theorem dk_eq : Cert.ReferenceIdeal.Read.val_main_v270 (X0 p) (X1 l) (X2 y) = cols fun t => Out.dk (J p l y t) := by
  rw [Cert.RefLeg.v270_real, flat_cols]
  exact congrArg _ (funext fun t => (out_dk (J p l y t) (l 0 (hd t)) (l 1 (hd t)) rfl rfl).symm)

theorem dv_eq : Cert.ReferenceIdeal.Read.val_main_v271 (X0 p) (X1 l) (X2 y) = cols fun t => Out.dv (J p l y t) := by
  rw [Cert.RefLeg.v271_real, flat_cols]
  exact congrArg _ (funext fun t => (out_dv (J p l y t) (l 0 (hd t)) (l 1 (hd t)) rfl rfl).symm)

theorem dl_eq : Cert.ReferenceIdeal.Read.val_main_v268 (X0 p) (X1 l) (X2 y) = rows fun t => Out.dl (J p l y t) := by
  funext i
  rw [Cert.RefLeg.v268_real]
  exact congrArg _ (out_dl (J p l y (pt (i 0))) (l 0 (i 0)) (l 1 (i 0)) rfl rfl (i 1).val).symm

end Results

/-- The two programs end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hargs
  have hp := fun c => Cert.Finite.real2 _ _ (hpre c).1
  have hl := fun c => Cert.Finite.real2 _ _ (hpre c).2.1
  have hy := fun c => Cert.Finite.real2 _ _ (hpre c).2.2
  choose p hp using hp
  choose l hl using hl
  choose y hy using hy
  refine ⟨fun c => cols fun t => Out.dq (J (p c) (l c) (y c) t), fun c => cols fun t => Out.dk (J (p c) (l c) (y c) t),
    fun c => cols fun t => Out.dv (J (p c) (l c) (y c) t), fun c => rows fun t => Out.dl (J (p c) (l c) (y c) t), ?_, ?_⟩
  · exact (θ_run Cert.KernelIdeal.defs _ _).mono
      (fun r h c => ⟨(h c).dq, (h c).dk, (h c).dv, (h c).dl, (h c).a0, (h c).a1, (h c).a2⟩)
      (Cert.KernelIdeal.Vals.run m g (fun c => J (p c) (l c) (y c)) fun c =>
        Cert.KernelIdeal.Args.real_in m c (p c) (l c) (y c) (hp c) (hl c) (hy c) _ fun _ => rfl)
  · have a0 := fun c => (hargs c).1.trans (hp c)
    have a1 := fun c => (hargs c).2.1.trans (hl c)
    have a2 := fun c => (hargs c).2.2.trans (hy c)
    refine (θ_run Cert.ReferenceIdeal.defs _ _).mono (fun r h c => ?_) (Cert.ReferenceIdeal.Value.run (F := Ideal) m' g')
    obtain ⟨h0, h1, h2, h3, e0, e1, e2⟩ := h c
    exact ⟨h0.trans ((Cert.ReferenceIdeal.Read.val_main_v269_eq _).trans
      ((congr (congr (congrArg (Cert.ReferenceIdeal.Read.val_main_v269 (F := Ideal)) (a0 c)) (a1 c)) (a2 c)).trans (dq_eq (p c) (l c) (y c)))),
      h1.trans ((Cert.ReferenceIdeal.Read.val_main_v270_eq _).trans
      ((congr (congr (congrArg (Cert.ReferenceIdeal.Read.val_main_v270 (F := Ideal)) (a0 c)) (a1 c)) (a2 c)).trans (dk_eq (p c) (l c) (y c)))),
      h2.trans ((Cert.ReferenceIdeal.Read.val_main_v271_eq _).trans
      ((congr (congr (congrArg (Cert.ReferenceIdeal.Read.val_main_v271 (F := Ideal)) (a0 c)) (a1 c)) (a2 c)).trans (dv_eq (p c) (l c) (y c)))),
      h3.trans ((Cert.ReferenceIdeal.Read.val_main_v268_eq _).trans
      ((congr (congr (congrArg (Cert.ReferenceIdeal.Read.val_main_v268 (F := Ideal)) (a0 c)) (a1 c)) (a2 c)).trans (dl_eq (p c) (l c) (y c)))), e0, e1, e2⟩

end Cert.Algebraic

end
-- ==== Proof.Prod.lean ====
/- Products of matrices on the extended reals, entry by entry, in the three orientations a layer and its gradients use. -/
module

public import Idealize.ShloMosaic.Lib.MatmulPlain
public import Idealize.ShloMosaic.Lib.ValueIdx

@[expose] public section

noncomputable section

namespace Cert.Prod

open Idealize.ShloMosaic

/-- A matrix of extended reals. -/
abbrev Mat (a b : ℕ) := (⟨2, ![a, b]⟩ : Shape).Idx → EReal

variable {M K N : ℕ}

/-- Rows against columns. -/
def nn (x : Mat M K) (y : Mat K N) : Mat M N := fun i => ∑ k : Fin K, x (ValueIdx.ix2 (i 0) k) * y (ValueIdx.ix2 k (i 1))
/-- Rows against rows. -/
def nt (x : Mat M K) (y : Mat N K) : Mat M N := fun i => ∑ k : Fin K, x (ValueIdx.ix2 (i 0) k) * y (ValueIdx.ix2 (i 1) k)
/-- Columns against columns. -/
def tn (x : Mat K M) (y : Mat K N) : Mat M N := fun i => ∑ k : Fin K, x (ValueIdx.ix2 k (i 0)) * y (ValueIdx.ix2 k (i 1))

/-- An index of a matrix is its row and its column. -/
theorem eq_ix2 (i : (⟨2, ![M, N]⟩ : Shape).Idx) : i = ValueIdx.ix2 (i 0) (i 1) := by
  funext a
  match a with
  | ⟨0, _⟩ => rfl
  | ⟨1, _⟩ => rfl

/-- Two indices with the same coordinates are one. -/
theorem same (i j : (⟨2, ![M, N]⟩ : Shape).Idx) (h0 : (i 0).val = (j 0).val) (h1 : (i 1).val = (j 1).val) : i = j := by
  funext a
  match a with
  | ⟨0, _⟩ => exact Fin.ext h0
  | ⟨1, _⟩ => exact Fin.ext h1

/-- The corner a whole block is read from. -/
theorem origin : (![0, 0] : Fin 2 → Nat) = fun _ => 0 := funext fun a => by fin_cases a <;> rfl

theorem matmul_nn {φ₁ φ₂ : FTy} (x : FVec Ideal ⟨2, ![M, K]⟩ φ₁) (y : FVec Ideal ⟨2, ![K, N]⟩ φ₂) :
    (FloatOps.matmul (DotDims.plain M K N) none x y (constant (F := Ideal) ⟨2, ![M, N]⟩ .f32 0x00000000#32) : Mat M N) = nn x y := by
  funext i
  rw [eq_ix2 i]
  refine (Ideal.matmul_plain_apply none x y _ (i 0) (i 1)).trans ?_
  exact (congrArg (· + _) Ideal.ofBits_zero_f32).trans (zero_add _)

theorem matmul_nt {φ₁ φ₂ : FTy} (x : FVec Ideal ⟨2, ![M, K]⟩ φ₁) (y : FVec Ideal ⟨2, ![N, K]⟩ φ₂) :
    (FloatOps.matmul (DotDims.transposedRhs M K N) none x y (constant (F := Ideal) ⟨2, ![M, N]⟩ .f32 0x00000000#32) : Mat M N) = nt x y := by
  funext i
  rw [eq_ix2 i]
  refine (Ideal.matmul_transposedRhs_apply none x y _ (i 0) (i 1)).trans ?_
  exact (congrArg (· + _) Ideal.ofBits_zero_f32).trans (zero_add _)

/-- The dimension numbers of columns against columns. -/
def cols (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

theorem matmul_tn {φ₁ φ₂ : FTy} (wf : DotDims.WF ⟨2, ![K, M]⟩ ⟨2, ![K, N]⟩ ⟨2, ![M, N]⟩ [0] [0] [1] [1] [] [])
    (x : FVec Ideal ⟨2, ![K, M]⟩ φ₁) (y : FVec Ideal ⟨2, ![K, N]⟩ φ₂) :
    (FloatOps.matmul (cols wf) none x y (constant (F := Ideal) ⟨2, ![M, N]⟩ .f32 0x00000000#32) : Mat M N) = tn x y := by
  funext i
  have e := ValueIdx.contrEquiv1_symm_val (cols wf) K rfl rfl
  rw [Ideal.matmul_apply, ← Equiv.sum_comp (ValueIdx.contrEquiv1 (cols wf) K rfl rfl).symm]
  refine (congrArg (· + _) Ideal.ofBits_zero_f32).trans ((zero_add _).trans (Finset.sum_congr rfl fun k _ => ?_))
  exact congrArg₂ (fun a b : EReal => a * b) (congrArg x (same _ _ (e k) rfl)) (congrArg y (same _ _ (e k) rfl))

/-- A block of a product: the rows and columns it reads are those of the whole arrays. -/
theorem nn_at {M' N' : ℕ} (x : Mat M K) (y : Mat K N) (x' : Mat M' K) (y' : Mat K N') (i : (⟨2, ![M', N']⟩ : Shape).Idx)
    (j : (⟨2, ![M, N]⟩ : Shape).Idx) (hx : ∀ k, x' (ValueIdx.ix2 (i 0) k) = x (ValueIdx.ix2 (j 0) k)) (hy : ∀ k, y' (ValueIdx.ix2 k (i 1)) = y (ValueIdx.ix2 k (j 1))) :
    nn x' y' i = nn x y j :=
  Finset.sum_congr rfl fun k _ => by rw [hx, hy]

theorem nt_at {M' N' : ℕ} (x : Mat M K) (y : Mat N K) (x' : Mat M' K) (y' : Mat N' K) (i : (⟨2, ![M', N']⟩ : Shape).Idx)
    (j : (⟨2, ![M, N]⟩ : Shape).Idx) (hx : ∀ k, x' (ValueIdx.ix2 (i 0) k) = x (ValueIdx.ix2 (j 0) k)) (hy : ∀ k, y' (ValueIdx.ix2 (i 1) k) = y (ValueIdx.ix2 (j 1) k)) :
    nt x' y' i = nt x y j :=
  Finset.sum_congr rfl fun k _ => by rw [hx, hy]

theorem tn_at {M' N' : ℕ} (x : Mat K M) (y : Mat K N) (x' : Mat K M') (y' : Mat K N') (i : (⟨2, ![M', N']⟩ : Shape).Idx)
    (j : (⟨2, ![M, N]⟩ : Shape).Idx) (hx : ∀ k, x' (ValueIdx.ix2 k (i 0)) = x (ValueIdx.ix2 k (j 0))) (hy : ∀ k, y' (ValueIdx.ix2 k (i 1)) = y (ValueIdx.ix2 k (j 1))) :
    tn x' y' i = tn x y j :=
  Finset.sum_congr rfl fun k _ => by rw [hx, hy]

end Cert.Prod

end
-- ==== Proof.Second.lean ====
/- A weight's gradient, the rows' gradients against the rows: the launch leaves the whole product, and so does its reference. -/
module

public import proofs.«01_k».proof.Defs
public import proofs.«01_k».proof.Proof.Prod
public import proofs.«01_k».proof.Proof.Gen.Kernel2
public import proofs.«01_k».proof.Proof.Gen.Kernel2Ideal.Value
public import proofs.«01_k».proof.Proof.Gen.Reference2Ideal.Read
public import Idealize.ShloMosaic.Lib.Claim
public import Idealize.ShloMosaic.Lib.Pipeline.Value
public import Idealize.ShloMosaic.Lib.Pipeline.ValueKit.Geometry

@[expose] public section

set_option maxRecDepth 16384

noncomputable section

namespace Cert.Second

open Idealize.ShloMosaic Idealize.ShloMosaic.TcCoe Idealize.ShloMosaic.Tactic
open Idealize.SL.Sem
open Cert.Kernel2Ideal Cert.Kernel2Ideal.Gen Cert.Prod

variable (m : (ℓ : Loc nD τ sig) → Buf (Elt Ideal) ℓ) (ρ : Dev nD → PrngReg) (c : Dev nD)

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- What the body leaves of its two blocks: their product. -/
theorem out_eq (x : Vec Ideal S4352x768 .bf16) (y : Vec Ideal S4352x1024 .bf16) :
    (out0_2 x y : Mat 768 1024) = tn (x : Mat 4352 768) (y : Mat 4352 1024) := by
  have hz : (![0, 0] : Fin 2 → Nat) = fun _ => 0 := funext fun a => by fin_cases a <;> rfl
  unfold out0_2 r0_0 r0_1 r0_2
  rw [View.canon_unit_zero hz, View.ld_unit_zero hz, View.ld_unit_zero hz]
  exact matmul_tn (φ₁ := .bf16) (φ₂ := .bf16) _ x y

/-- A block of the first argument holds its columns. -/
theorem at0 (t : Fin cfg0.N) (j : S4352x768.Idx) (i : S4352x3072.Idx) (h0 : (i 0).val = (j 0).val)
    (h1 : (i 1).val = t.val * 768 + (j 1).val) : (iblk m c 0 t : Vec Ideal S4352x768 .bf16) j = m ((c.tc : Thread nD τ).loc main_arg0) i := by
  show V m c main_arg0 (((cfg0.win 0).blk t).view.emb j) = _
  rw [V_main_arg0]
  refine congrArg _ (same _ _ (Eq.trans ?_ h0.symm) (Eq.trans ?_ h1.symm)) <;> blk_simp [idx0]

/-- A block of the second argument is that argument. -/
theorem at1 (t : Fin cfg0.N) (j i : S4352x1024.Idx) (h0 : (i 0).val = (j 0).val) (h1 : (i 1).val = (j 1).val) :
    (iblk m c 1 t : Vec Ideal S4352x1024 .bf16) j = m ((c.tc : Thread nD τ).loc main_arg1) i := by
  show V m c main_arg1 (((cfg0.win 1).blk t).view.emb j) = _
  rw [V_main_arg1]
  refine congrArg _ (same _ _ (Eq.trans ?_ h0.symm) (Eq.trans ?_ h1.symm)) <;> blk_simp [idx1]

/-- A place of the result's block is a place of the result. -/
theorem row2 (t : Fin cfg0.N) (y : S768x1024.Idx) : (((cfg0.win 2).blk t).view.emb y 0).val = t.val * 768 + (y 0).val := by
  blk_simp [idx2]
theorem col2 (t : Fin cfg0.N) (y : S768x1024.Idx) : (((cfg0.win 2).blk t).view.emb y 1).val = (y 1).val := by
  blk_simp [idx2]
  done

/-- The result array is the product of the two arguments. -/
theorem arr2 : (dats m 0 c).arrAt 2 cfg0.N
    = tn (m ((c.tc : Thread nD τ).loc main_arg0) : Mat 4352 3072) (m ((c.tc : Thread nD τ).loc main_arg1) : Mat 4352 1024) := by
  refine (dats m 0 c).arrAt_eq_of_covers 2 _ (by decide +kernel) fun t hf y => ?_
  blk_simp
  rw [after0_2, out_eq]
  exact tn_at _ _ _ _ _ _ (fun k => at0 m c t _ _ rfl (row2 t y)) (fun k => at1 m c t _ _ rfl (col2 t y))

/-- The reference's stage is the product too. -/
theorem ref_eq (x : FVec Ideal S4352x3072 .bf16) (y : FVec Ideal S4352x1024 .bf16) :
    (Cert.Reference2Ideal.Read.val_main_v7 (F := Ideal) x y : Mat 3072 1024) = tn (x : Mat 4352 3072) (y : Mat 4352 1024) := by
  funext i
  rw [Cert.Reference2Ideal.Read.val_main_v7_apply, Cert.Reference2Ideal.Read.val_main_v6_apply,
    Cert.Reference2Ideal.Read.val_main_v5_apply]
  refine (Cert.Reference2Ideal.Read.val_main_v4_apply x y _).trans (Finset.sum_congr rfl fun k _ => ?_)
  exact congrArg₂ (fun a b : EReal => a * b) (congrArg x (same _ _ rfl rfl)) (congrArg y (same _ _ rfl rfl))

theorem algebraic : Cert.algebraic_Kernel2Ideal_Reference2Ideal := by
  intro m g m' g' _ hargs
  refine ⟨fun c => tn (m ((c.tc : Thread nD τ).loc main_arg0) : Mat 4352 3072) (m ((c.tc : Thread nD τ).loc main_arg1) : Mat 4352 1024), ?_, ?_⟩
  · exact (θ_run defs _ _).mono (fun r h c => ⟨(h c).1.trans (arr2 m c), (h c).2⟩) (Value.run_blocks m g)
  · refine (θ_run Cert.Reference2Ideal.defs _ _).mono (fun r h c => ⟨?_, (h c).2⟩) (Cert.Reference2Ideal.Value.run (F := Ideal) m' g')
    rw [(h c).1, (hargs c).1, (hargs c).2]
    exact ref_eq _ _

/-- The two programs have one table of bodies. -/
theorem bodies : Cert.Kernel2.defs₀ (F := Bits) = defs₀ (F := Bits) := by
  unfold Cert.Kernel2.defs₀ defs₀
  congr 1
  funext l x
  match l, x with
  | ⟨0, _⟩, (t, s) => rfl

theorem table : Cert.Kernel2.defs (F := Bits) = defs (F := Bits) := by
  unfold Cert.Kernel2.defs defs
  rw [bodies]
  rfl

/-- So one run gives both frames. -/
theorem frame_ideal : Cert.quiescent_Kernel2Ideal := fun m g _ => Gen.frame (F := Ideal) m g
theorem frame_kernel : Cert.quiescent_Kernel2 := fun m g _ => by
  rw [table]
  exact Gen.frame (F := Bits) m g

/-- The reference leaves its arguments as they were. -/
theorem frame_ref : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

end Cert.Second

end
-- ==== Proof.Third.lean ====
/- The input's gradient through the gate's weights: the launch leaves the whole product, and so does its reference. -/
module

public import proofs.«01_k».proof.Defs
public import proofs.«01_k».proof.Proof.Prod
public import proofs.«01_k».proof.Proof.Gen.Kernel3
public import proofs.«01_k».proof.Proof.Gen.Kernel3Ideal.Value
public import proofs.«01_k».proof.Proof.Gen.Reference3Ideal.Read
public import Idealize.ShloMosaic.Lib.Claim
public import Idealize.ShloMosaic.Lib.Pipeline.Value
public import Idealize.ShloMosaic.Lib.Pipeline.ValueKit.Geometry

@[expose] public section

set_option maxRecDepth 16384

noncomputable section

namespace Cert.Third

open Idealize.ShloMosaic Idealize.ShloMosaic.TcCoe Idealize.ShloMosaic.Tactic
open Idealize.SL.Sem
open Cert.Kernel3Ideal Cert.Kernel3Ideal.Gen Cert.Prod

variable (m : (ℓ : Loc nD τ sig) → Buf (Elt Ideal) ℓ) (ρ : Dev nD → PrngReg) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- What the body leaves of its two blocks: their product. -/
theorem out_eq (x : Vec Ideal S544x3072 .bf16) (y : Vec Ideal S3072x1024 .bf16) :
    (out0_2 x y : Mat 544 1024) = nn (x : Mat 544 3072) (y : Mat 3072 1024) := by
  have hz : (![0, 0] : Fin 2 → Nat) = fun _ => 0 := funext fun a => by fin_cases a <;> rfl
  unfold out0_2 r0_0 r0_1 r0_2
  rw [View.canon_unit_zero hz, View.ld_unit_zero hz, View.ld_unit_zero hz]
  exact matmul_nn x y

/-- A block of the first argument holds its rows. -/
theorem at0 (t : Fin cfg0.N) (j : S544x3072.Idx) (i : S4352x3072.Idx) (h0 : (i 0).val = t.val * 544 + (j 0).val)
    (h1 : (i 1).val = (j 1).val) : (iblk m c 0 t : Vec Ideal S544x3072 .bf16) j = m ((c.tc : Thread nD τ).loc main_arg0) i := by
  show V m c main_arg0 (((cfg0.win 0).blk t).view.emb j) = _
  rw [V_main_arg0]
  refine congrArg _ (same _ _ (Eq.trans ?_ h0.symm) (Eq.trans ?_ h1.symm)) <;> blk_simp [idx0]

/-- A block of the second argument is that argument. -/
theorem at1 (t : Fin cfg0.N) (j i : S3072x1024.Idx) (h0 : (i 0).val = (j 0).val) (h1 : (i 1).val = (j 1).val) :
    (iblk m c 1 t : Vec Ideal S3072x1024 .bf16) j = m ((c.tc : Thread nD τ).loc main_arg1) i := by
  show V m c main_arg1 (((cfg0.win 1).blk t).view.emb j) = _
  rw [V_main_arg1]
  refine congrArg _ (same _ _ (Eq.trans ?_ h0.symm) (Eq.trans ?_ h1.symm)) <;> blk_simp [idx1]

/-- A place of the result's block is a place of the result. -/
theorem row2 (t : Fin cfg0.N) (y : S544x1024.Idx) : (((cfg0.win 2).blk t).view.emb y 0).val = t.val * 544 + (y 0).val := by
  blk_simp [idx2]
theorem col2 (t : Fin cfg0.N) (y : S544x1024.Idx) : (((cfg0.win 2).blk t).view.emb y 1).val = (y 1).val := by
  blk_simp [idx2]
  done

/-- The result array is the product of the two arguments. -/
theorem arr2 : (dats m 0 c).arrAt 2 cfg0.N
    = nn (m ((c.tc : Thread nD τ).loc main_arg0) : Mat 4352 3072) (m ((c.tc : Thread nD τ).loc main_arg1) : Mat 3072 1024) := by
  refine (dats m 0 c).arrAt_eq_of_covers 2 _ (by decide +kernel) fun t hf y => ?_
  blk_simp
  rw [after0_2, out_eq]
  exact nn_at _ _ _ _ _ _ (fun k => at0 m c t _ _ (row2 t y) rfl) (fun k => at1 m c t _ _ rfl (col2 t y))

/-- The reference's stage is the product too. -/
theorem ref_eq (x : FVec Ideal S4352x3072 .bf16) (y : FVec Ideal S3072x1024 .bf16) :
    (Cert.Reference3Ideal.Read.val_main_v5 (F := Ideal) x y : Mat 4352 1024) = nn (x : Mat 4352 3072) (y : Mat 3072 1024) := by
  funext i
  rw [Cert.Reference3Ideal.Read.val_main_v5_apply]
  refine Finset.sum_congr rfl fun k _ => ?_
  rw [Cert.Reference3Ideal.Read.val_main_v2_apply]
  exact congrArg₂ (fun a b : EReal => a * b) (congrArg x (same _ _ rfl rfl)) (congrArg y (same _ _ rfl rfl))

theorem algebraic : Cert.algebraic_Kernel3Ideal_Reference3Ideal := by
  intro m g m' g' _ hargs
  refine ⟨fun c => nn (m ((c.tc : Thread nD τ).loc main_arg0) : Mat 4352 3072) (m ((c.tc : Thread nD τ).loc main_arg1) : Mat 3072 1024), ?_, ?_⟩
  · exact (θ_run defs _ _).mono (fun r h c => ⟨(h c).1.trans (arr2 m c), (h c).2⟩) (Value.run_blocks m g)
  · refine (θ_run Cert.Reference3Ideal.defs _ _).mono (fun r h c => ⟨?_, (h c).2⟩) (Cert.Reference3Ideal.Value.run (F := Ideal) m' g')
    rw [(h c).1, (hargs c).1, (hargs c).2]
    exact ref_eq _ _

/-- The two programs have one table of bodies. -/
theorem bodies : Cert.Kernel3.defs₀ (F := Bits) = defs₀ (F := Bits) := by
  unfold Cert.Kernel3.defs₀ defs₀
  congr 1
  funext l x
  match l, x with
  | ⟨0, _⟩, (t, s) => rfl

theorem table : Cert.Kernel3.defs (F := Bits) = defs (F := Bits) := by
  unfold Cert.Kernel3.defs defs
  rw [bodies]
  rfl

/-- So one run gives both frames. -/
theorem frame_ideal : Cert.quiescent_Kernel3Ideal := fun m g _ => Gen.frame (F := Ideal) m g
theorem frame_kernel : Cert.quiescent_Kernel3 := fun m g _ => by
  rw [table]
  exact Gen.frame (F := Bits) m g

/-- The reference leaves its arguments as they were. -/
theorem frame_ref : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)

end Cert.Third

end
-- ==== Proof.Fourth.lean ====
/- The input's gradient through the up weights, added to the one through the gate's: the launch leaves the whole sum, and so does its reference. -/
module

public import proofs.«01_k».proof.Defs
public import proofs.«01_k».proof.Proof.Prod
public import proofs.«01_k».proof.Proof.Third
public import proofs.«01_k».proof.Proof.Gen.Kernel4
public import proofs.«01_k».proof.Proof.Gen.Kernel4Ideal.Value
public import proofs.«01_k».proof.Proof.Gen.Reference4Ideal.Read
public import Idealize.ShloMosaic.Lib.Claim
public import Idealize.ShloMosaic.Lib.Pipeline.Value
public import Idealize.ShloMosaic.Lib.Pipeline.ValueKit.Geometry

@[expose] public section

set_option maxRecDepth 16384

noncomputable section

namespace Cert.Fourth

open Idealize.ShloMosaic Idealize.ShloMosaic.TcCoe Idealize.ShloMosaic.Tactic
open Idealize.SL.Sem
open Cert.Kernel4Ideal Cert.Kernel4Ideal.Gen Cert.Prod

variable (m : (ℓ : Loc nD τ sig) → Buf (Elt Ideal) ℓ) (ρ : Dev nD → PrngReg) (c : Dev nD)

/-- The rows at hand, of the gradient and of the sum so far; the weights whole. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx3 : ∀ t : Fin cfg0.N, win0_3.index t = ![t.val, 0] := (by decide +kernel : ∀ t : Fin grid0.N, win0_3.index t = ![t.val, 0])

theorem rows0 (t : Fin cfg0.N) (j : S544x3072.Idx) :
    (((cfg0.win 0).blk t).view.emb j 0).val = t.val * 544 + (j 0).val ∧ (((cfg0.win 0).blk t).view.emb j 1).val = (j 1).val := by
  constructor <;> blk_simp [idx0]
theorem whole1 (t : Fin cfg0.N) (j : S3072x1024.Idx) : ((cfg0.win 1).blk t).view.emb j = j := by
  refine same (M := 3072) (N := 1024) _ _ ?_ ?_ <;> blk_simp [idx1]
theorem rows3 (t : Fin cfg0.N) (j : S544x1024.Idx) :
    (((cfg0.win 3).blk t).view.emb j 0).val = t.val * 544 + (j 0).val ∧ (((cfg0.win 3).blk t).view.emb j 1).val = (j 1).val := by
  constructor <;> blk_simp [idx3]

/-- A matrix and a product added to it. -/
def plus (x : Mat 4352 3072) (w : Mat 3072 1024) (z : Mat 4352 1024) : Mat 4352 1024 := fun i => z i + nn x w i

/-- What the body leaves of its three blocks: the third and the product of the other two. -/
theorem out_eq (x : Vec Ideal S544x3072 .bf16) (y : Vec Ideal S3072x1024 .bf16) (z : Vec Ideal S544x1024 .f32) (i : S544x1024.Idx) :
    out0_3 x y z i = ((z i : EReal) + nn (x : Mat 544 3072) (y : Mat 3072 1024) i : EReal) := by
  unfold out0_3 r0_0 r0_1 r0_2
  rw [View.canon_unit_zero origin, View.ld_unit_zero origin, View.ld_unit_zero origin, View.ld_unit_zero origin]
  exact congrArg (fun a : EReal => (z i : EReal) + a) (congrFun (matmul_nn (φ₁ := .bf16) (φ₂ := .bf16) x y) i)

/-- A block of rows against all the weights is a block of the whole product. -/
theorem prod1 (t : Fin cfg0.N) (j : S544x1024.Idx) :
    nn (iblk m c 0 t : Mat 544 3072) (iblk m c 1 t : Mat 3072 1024) j
      = nn (m ((c.tc : Thread nD τ).loc main_arg0) : Mat 4352 3072) (m ((c.tc : Thread nD τ).loc main_arg1) : Mat 3072 1024) (((cfg0.win 3).blk t).view.emb j) := by
  refine nn_at _ _ _ _ _ _ (fun k => ?_) fun k => ?_
  · show V m c main_arg0 (((cfg0.win 0).blk t).view.emb _) = _
    rw [V_main_arg0]
    exact congrArg _ (same _ _ ((rows0 t _).1.trans (rows3 t j).1.symm) (rows0 t _).2)
  · show V m c main_arg1 (((cfg0.win 1).blk t).view.emb _) = _
    rw [V_main_arg1, whole1]
    exact congrArg _ (same _ _ rfl (rows3 t j).2.symm)

/-- The block of the sum so far lies where the result's does. -/
theorem sum_at (t : Fin cfg0.N) (j : S544x1024.Idx) : (iblk m c 2 t : Mat 544 1024) j = m ((c.tc : Thread nD τ).loc main_arg2) (((cfg0.win 3).blk t).view.emb j) := by
  show V m c main_arg2 (((cfg0.win 2).blk t).view.emb j) = _
  rw [V_main_arg2]
  rfl

/-- The result array is the third argument and the product of the other two. -/
theorem arr3 : (dats m 0 c).arrAt 3 cfg0.N
    = plus (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, out_eq]
  exact congrArg₂ (fun a b : EReal => a + b) (sum_at m c t y) (prod1 m c t y)

/-- The reference's stage is that sum too: its product is the one that the gate's gradient takes. -/
theorem ref_eq (x : FVec Ideal S4352x3072 .bf16) (y : FVec Ideal S3072x1024 .bf16) (z : FVec Ideal S4352x1024 .f32) :
    (Cert.Reference4Ideal.Read.val_main_v6 (F := Ideal) x y z : Mat 4352 1024) = plus x y z := by
  funext i
  rw [Cert.Reference4Ideal.Read.val_main_v6_apply]
  exact congrArg (fun a : EReal => (z i : EReal) + a) (congrFun (Cert.Third.ref_eq x y) i)

theorem algebraic : Cert.algebraic_Kernel4Ideal_Reference4Ideal := by
  intro m g m' g' _ hargs
  refine ⟨fun c => plus (m ((c.tc : Thread nD τ).loc main_arg0)) (m ((c.tc : Thread nD τ).loc main_arg1)) (m ((c.tc : Thread nD τ).loc main_arg2)), ?_, ?_⟩
  · exact (θ_run defs _ _).mono (fun r h c => ⟨(h c).1.trans (arr3 m c), (h c).2⟩) (Value.run_blocks m g)
  · refine (θ_run Cert.Reference4Ideal.defs _ _).mono (fun r h c => ⟨?_, (h c).2⟩) (Cert.Reference4Ideal.Value.run (F := Ideal) m' g')
    rw [(h c).1, (hargs c).1, (hargs c).2.1, (hargs c).2.2]
    exact ref_eq _ _ _

/-- The two programs have one table of bodies. -/
theorem bodies : Cert.Kernel4.defs₀ (F := Bits) = defs₀ (F := Bits) := by
  unfold Cert.Kernel4.defs₀ defs₀
  congr 1
  funext l x
  match l, x with
  | ⟨0, _⟩, (t, s) => rfl

theorem table : Cert.Kernel4.defs (F := Bits) = defs (F := Bits) := by
  unfold Cert.Kernel4.defs defs
  rw [bodies]
  rfl

/-- So one run gives both frames. -/
theorem frame_ideal : Cert.quiescent_Kernel4Ideal := fun m g _ => Gen.frame (F := Ideal) m g
theorem frame_kernel : Cert.quiescent_Kernel4 := fun m g _ => by
  rw [table]
  exact Gen.frame (F := Bits) m g

/-- The reference leaves its arguments as they were. -/
theorem frame_ref : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.Value.run (F := Ideal) m g)

end Cert.Fourth

end
-- ==== Proof.Sig.lean ====
/- The logistic factor of a gated unit on the extended reals: its two spellings, and the gate's gradient in its two arrangements. -/
module

public import Idealize.ShloMosaic.Lib.IdealHost
public import Idealize.ShloMosaic.Lib.KernelVsHost

@[expose] public section

noncomputable section

namespace Cert.Sig

open Idealize.ShloMosaic

/-- One, as the programs write it. -/
abbrev one : Ideal .f32 := FloatOps.ofBits .f32 0x3F800000#32

/-- The logistic factor, with the sign changed by a negation. -/
def sg (x : Ideal .f32) : Ideal .f32 :=
  FloatOps.hostDivf one (FloatOps.addf one (FloatOps.hostUnary .exp (FloatOps.hostNegf x)))

/-- The same with the sign changed by a difference from zero. -/
def sg' (x : Ideal .f32) : Ideal .f32 :=
  Scalar.divf one (Scalar.addf one (Scalar.exp (Scalar.subf (FloatOps.ofBits .f32 0x00000000#32) x)))

theorem sg'_eq (x : Ideal .f32) : sg' x = sg x :=
  congrArg (fun y : Ideal .f32 => FloatOps.hostDivf one (FloatOps.addf one (FloatOps.hostUnary .exp y))) (Ideal.subf_zero_eq_hostNegf x)

theorem sg_def (x : EReal) : (sg x : EReal) = Ideal.div 1 (1 + Ideal.exp (-x)) := by
  show Ideal.div (Ideal.ofBits .f32 0x3F800000#32) (Ideal.ofBits .f32 0x3F800000#32 + Ideal.exp (-x)) = _
  rw [Ideal.ofBits_one_f32]

theorem sg_top : (sg (⊤ : EReal) : EReal) = 1 := by
  rw [sg_def, EReal.neg_top]
  show Ideal.div 1 (1 + 0) = 1
  simp [Ideal.div]

theorem sg_bot : (sg (⊥ : EReal) : EReal) = 0 := by
  rw [sg_def, EReal.neg_bot]
  show Ideal.div 1 (1 + ⊤) = 0
  rw [EReal.add_top_of_ne_bot (by decide), Ideal.div, if_neg (by decide), EReal.inv_top, mul_zero]

theorem sg_coe (x : ℝ) : ∃ s : ℝ, (sg (x : EReal) : EReal) = s := by
  have h : (1 : EReal) + Ideal.exp (-(x : EReal)) = ((1 + Real.exp (-x) : ℝ) : EReal) := by
    rw [← EReal.coe_neg]
    show (1 : EReal) + ((Real.exp (-x) : ℝ) : EReal) = _
    norm_cast
  refine ⟨(1 + Real.exp (-x))⁻¹, ?_⟩
  rw [sg_def, h, Ideal.div, if_neg (by exact_mod_cast (by positivity : (1 + Real.exp (-x) : ℝ) ≠ 0)), one_mul, EReal.coe_inv]

/-- The gate's gradient: the factored form is the sum of the two terms of the product rule, for a real cotangent. -/
theorem grad (d : ℝ) (g : EReal) :
    ((d : EReal) * sg g) * (1 + g * (1 - sg g)) = (d : EReal) * sg g + (g * d) * (sg g * (1 - sg g)) := by
  induction g using EReal.rec with
  | bot => rw [sg_bot]; simp
  | top =>
    rw [sg_top]
    have h : (1 : EReal) - 1 = 0 := EReal.sub_self (by decide) (by decide)
    rw [h]; simp
  | coe x =>
    obtain ⟨s, hs⟩ := sg_coe x
    rw [hs]
    have : (d * s) * (1 + x * (1 - s)) = d * s + (x * d) * (s * (1 - s)) := by ring
    exact_mod_cast this

end Cert.Sig

end
-- ==== Proof.Fifth.lean ====
/- The gated unit's gradient at its activation: the launch leaves the gradients of the gate and of the up product, and so does its reference, for finite arguments. -/
module

public import proofs.«01_k».proof.Defs
public import proofs.«01_k».proof.Proof.Prod
public import proofs.«01_k».proof.Proof.Sig
public import proofs.«01_k».proof.Proof.Finite
public import proofs.«01_k».proof.Proof.Gen.Pre_finite5
public import proofs.«01_k».proof.Proof.Gen.Kernel5
public import proofs.«01_k».proof.Proof.Gen.Kernel5Ideal.Value
public import proofs.«01_k».proof.Proof.Gen.Reference5Ideal.Read
public import Idealize.ShloMosaic.Lib.Claim
public import Idealize.ShloMosaic.Lib.Pipeline.Value
public import Idealize.ShloMosaic.Lib.Pipeline.ValueKit.Geometry

@[expose] public section

set_option maxRecDepth 16384

noncomputable section

namespace Cert.Fifth

open Idealize.ShloMosaic Idealize.ShloMosaic.TcCoe Idealize.ShloMosaic.Tactic
open Idealize.SL.Sem
open Cert.Kernel5Ideal Cert.Kernel5Ideal.Gen Cert.Prod Cert.Sig

/-- The gate's gradient from the activation's, the gate and the up product, by the product rule; and its factored form. -/
def dgate (d g u : EReal) : EReal := d * u * sg g + g * (d * u) * (sg g * (1 - sg g))
def dgate' (d g u : EReal) : EReal := d * u * sg g * (1 + g * (1 - sg g))

/-- The up product's gradient, and its other arrangement. -/
def dup (d g : EReal) : EReal := g * sg g * d
def dup' (d g : EReal) : EReal := d * g * sg g

theorem dup_eq (d g : EReal) : dup' d g = dup d g := by
  unfold dup' dup
  rw [mul_assoc, mul_comm]

theorem dgate_eq (d g u : EReal) (h : ∃ r : ℝ, d * u = r) : dgate' d g u = dgate d g u := by
  obtain ⟨r, e⟩ := h
  unfold dgate' dgate
  rw [e]
  exact grad r g

/-- A product of finite matrices is finite. -/
theorem nt_real {M K N : ℕ} (x : Mat M K) (y : Mat N K) (hx : ∀ i, ∃ r : ℝ, x i = r) (hy : ∀ i, ∃ r : ℝ, y i = r) (i) :
    ∃ r : ℝ, nt x y i = r := by
  choose f hf using hx
  choose g hg using hy
  refine ⟨∑ k, f (ValueIdx.ix2 (i 0) k) * g (ValueIdx.ix2 (i 1) k), ?_⟩
  rw [Cert.KernelIdeal.Lift.coe_sum]
  exact Finset.sum_congr rfl fun k _ => by rw [hf, hg, EReal.coe_mul]

/-- An array whose magnitudes all compare below an array is real everywhere. -/
theorem real_all {s : Shape} (v t : FVec Ideal s .bf16) (h : cmpf .olt (Host.absf v) t = fun _ => 1#1) (i : s.Idx) :
    ∃ r : ℝ, (v i : EReal) = r :=
  ⟨_, (Cert.Finite.real_of_lt (v i) (t i) (congrFun h i)).symm⟩

/-! ## The reference's stages -/

theorem ref_act (x : FVec Ideal S4352x1024 .bf16) (w : FVec Ideal S3072x1024 .bf16) :
    (Cert.Reference5Ideal.Read.val_main_v7 (F := Ideal) x w : Mat 4352 3072) = nt x w := by
  funext i
  rw [Cert.Reference5Ideal.Read.val_main_v7_apply]
  exact Finset.sum_congr rfl fun k _ =>
    congrArg₂ (fun a b : EReal => a * b) (congrArg x (same _ _ rfl rfl)) (congrArg w (same _ _ rfl rfl))

theorem ref_gate (x : FVec Ideal S4352x1024 .bf16) (w : FVec Ideal S3072x1024 .bf16) (g u : FVec Ideal S4352x3072 .bf16) :
    (Cert.Reference5Ideal.Read.val_main_v11 (F := Ideal) x w g u : Mat 4352 3072) = fun i => dgate (nt x w i) (g i) (u i) := by
  rw [← ref_act x w]
  funext i
  show _ = (_ + _ * (_ * (1 - _)) : EReal)
  rw [← Ideal.ofBits_one_f32]
  rfl

theorem ref_up (x : FVec Ideal S4352x1024 .bf16) (w : FVec Ideal S3072x1024 .bf16) (g : FVec Ideal S4352x3072 .bf16) :
    (Cert.Reference5Ideal.Read.val_main_v12 (F := Ideal) x w g : Mat 4352 3072) = fun i => dup (nt x w i) (g i) := by
  rw [← ref_act x w]
  rfl

/-! ## The launch -/

theorem out_gate (x : Vec Ideal S256x1024 .bf16) (w : Vec Ideal S3072x1024 .bf16) (g u : Vec Ideal S256x3072 .bf16) :
    (out0_4 x w g u : Mat 256 3072) = fun i => dgate' (nt (x : Mat 256 1024) (w : Mat 3072 1024) i) (g i) (u i) := by
  unfold out0_4 r0_0 r0_1 r0_2
  rw [View.canon_unit_zero origin, View.ld_unit_zero origin, View.ld_unit_zero origin, View.ld_unit_zero origin, View.ld_unit_zero origin]
  funext i
  show (k0_pay1 x w i : EReal) * u i * sg' (g i) * (Ideal.ofBits .f32 0x3F800000#32 + g i * (Ideal.ofBits .f32 0x3F800000#32 - sg' (g i))) = _
  rw [sg'_eq, Ideal.ofBits_one_f32]
  exact congrArg (fun d : EReal => dgate' d (g i) (u i)) (congrFun (matmul_nt (φ₁ := .bf16) (φ₂ := .bf16) x w) i)

theorem out_up (x : Vec Ideal S256x1024 .bf16) (w : Vec Ideal S3072x1024 .bf16) (g u : Vec Ideal S256x3072 .bf16) :
    (out0_5 x w g u : Mat 256 3072) = fun i => dup' (nt (x : Mat 256 1024) (w : Mat 3072 1024) i) (g i) := by
  unfold out0_5 r0_0 r0_1 r0_2
  rw [View.canon_unit_zero origin, View.ld_unit_zero origin, View.ld_unit_zero origin, View.ld_unit_zero origin]
  funext i
  show (k0_pay1 x w i : EReal) * g i * sg' (g i) = _
  rw [sg'_eq]
  exact congrArg (fun d : EReal => dup' d (g i)) (congrFun (matmul_nt (φ₁ := .bf16) (φ₂ := .bf16) x w) i)

variable (m : (ℓ : Loc nD τ sig) → Buf (Elt Ideal) ℓ) (ρ : Dev nD → PrngReg) (c : Dev nD)

/-- The rows at hand, of the cotangent and of the gated arrays; the weights whole. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx4 : ∀ t : Fin cfg0.N, win0_4.index t = ![t.val, 0] := (by decide +kernel : ∀ t : Fin grid0.N, win0_4.index t = ![t.val, 0])

theorem rows0 (t : Fin cfg0.N) (j : S256x1024.Idx) :
    (((cfg0.win 0).blk t).view.emb j 0).val = t.val * 256 + (j 0).val ∧ (((cfg0.win 0).blk t).view.emb j 1).val = (j 1).val := by
  constructor <;> blk_simp [idx0]
theorem whole1 (t : Fin cfg0.N) (j : S3072x1024.Idx) : ((cfg0.win 1).blk t).view.emb j = j := by
  refine same (M := 3072) (N := 1024) _ _ ?_ ?_ <;> blk_simp [idx1]
theorem rows4 (t : Fin cfg0.N) (j : S256x3072.Idx) :
    (((cfg0.win 4).blk t).view.emb j 0).val = t.val * 256 + (j 0).val ∧ (((cfg0.win 4).blk t).view.emb j 1).val = (j 1).val := by
  constructor <;> blk_simp [idx4]

/-- A block of the cotangent against all the weights is a block of the whole product. -/
theorem prod1 (t : Fin cfg0.N) (j : S256x3072.Idx) :
    nt (iblk m c 0 t : Mat 256 1024) (iblk m c 1 t : Mat 3072 1024) j
      = nt (m ((c.tc : Thread nD τ).loc main_arg0) : Mat 4352 1024) (m ((c.tc : Thread nD τ).loc main_arg1) : Mat 3072 1024) (((cfg0.win 4).blk t).view.emb j) := by
  refine nt_at _ _ _ _ _ _ (fun k => ?_) fun k => ?_
  · show V m c main_arg0 (((cfg0.win 0).blk t).view.emb _) = _
    rw [V_main_arg0]
    exact congrArg _ (same _ _ ((rows0 t _).1.trans (rows4 t j).1.symm) (rows0 t _).2)
  · show V m c main_arg1 (((cfg0.win 1).blk t).view.emb _) = _
    rw [V_main_arg1, whole1]
    exact congrArg _ (same _ _ (rows4 t j).2.symm rfl)

/-- The blocks of the gate and of the up product lie where the results' do. -/
theorem gate_at (t : Fin cfg0.N) (j : S256x3072.Idx) : (iblk m c 2 t : Mat 256 3072) j = m ((c.tc : Thread nD τ).loc main_arg2) (((cfg0.win 4).blk t).view.emb j) := by
  show V m c main_arg2 (((cfg0.win 2).blk t).view.emb j) = _
  rw [V_main_arg2]
  rfl
theorem up_at (t : Fin cfg0.N) (j : S256x3072.Idx) : (iblk m c 3 t : Mat 256 3072) j = m ((c.tc : Thread nD τ).loc main_arg3) (((cfg0.win 4).blk t).view.emb j) := by
  show V m c main_arg3 (((cfg0.win 3).blk t).view.emb j) = _
  rw [V_main_arg3]
  rfl

/-- The two result arrays. -/
theorem arr4 : (dats m 0 c).arrAt 4 cfg0.N
    = fun i => dgate' (nt (m ((c.tc : Thread nD τ).loc main_arg0) : Mat 4352 1024) (m ((c.tc : Thread nD τ).loc main_arg1) : Mat 3072 1024) i)
        (m ((c.tc : Thread nD τ).loc main_arg2) i) (m ((c.tc : Thread nD τ).loc main_arg3) i) := by
  refine (dats m 0 c).arrAt_eq_of_covers 4 _ (by decide +kernel) fun t hf y => ?_
  blk_simp
  rw [after0_4, out_gate]
  exact (congrArg (fun d : EReal => dgate' d _ _) (prod1 m c t y)).trans (congrArg₂ (dgate' _) (gate_at m c t y) (up_at m c t y))
theorem arr5 : (dats m 0 c).arrAt 5 cfg0.N
    = fun i => dup' (nt (m ((c.tc : Thread nD τ).loc main_arg0) : Mat 4352 1024) (m ((c.tc : Thread nD τ).loc main_arg1) : Mat 3072 1024) i)
        (m ((c.tc : Thread nD τ).loc main_arg2) i) := by
  refine (dats m 0 c).arrAt_eq_of_covers 5 _ (by decide +kernel) fun t hf y => ?_
  blk_simp
  rw [after0_5, out_up]
  exact congrArg₂ dup' (prod1 m c t y) (gate_at m c t y)

theorem algebraic : Cert.algebraic_Kernel5Ideal_Reference5Ideal_pre_finite5 := by
  intro m g m' g' hpre hargs
  refine ⟨fun c i => dgate (nt (m ((c.tc : Thread nD τ).loc main_arg0) : Mat 4352 1024) (m ((c.tc : Thread nD τ).loc main_arg1) : Mat 3072 1024) i)
        (m ((c.tc : Thread nD τ).loc main_arg2) i) (m ((c.tc : Thread nD τ).loc main_arg3) i),
    fun c i => dup (nt (m ((c.tc : Thread nD τ).loc main_arg0) : Mat 4352 1024) (m ((c.tc : Thread nD τ).loc main_arg1) : Mat 3072 1024) i)
        (m ((c.tc : Thread nD τ).loc main_arg2) i), ?_, ?_⟩
  · refine (θ_run defs _ _).mono (fun r h c => ⟨(h c).1.trans ((arr4 m c).trans (funext fun i => dgate_eq _ _ _ ?_)),
      (h c).2.1.trans ((arr5 m c).trans (funext fun i => dup_eq _ _)), (h c).2.2⟩) (Value.run_blocks m g)
    obtain ⟨p, hp⟩ := nt_real _ _ (real_all _ _ (hpre c).1) (real_all _ _ (hpre c).2.1) i
    obtain ⟨q, hq⟩ := real_all _ _ (hpre c).2.2 i
    exact ⟨p * q, (congrArg₂ (fun a b : EReal => a * b) hp hq).trans (EReal.coe_mul p q).symm⟩
  · refine (θ_run Cert.Reference5Ideal.defs _ _).mono (fun r h c => ⟨?_, ?_, (h c).2.2⟩) (Cert.Reference5Ideal.Value.run (F := Ideal) m' g')
    · rw [(h c).1, (hargs c).1, (hargs c).2.1, (hargs c).2.2.1, (hargs c).2.2.2]
      exact ref_gate _ _ _ _
    · rw [(h c).2.1, (hargs c).1, (hargs c).2.1, (hargs c).2.2.1]
      exact ref_up _ _ _

/-! ## The frames -/

/-- The two printings of the launch have one body. -/
theorem bodies : Cert.Kernel5.defs₀ (F := Bits) = defs₀ (F := Bits) := by
  unfold Cert.Kernel5.defs₀ defs₀
  congr 1
  funext l x
  match l, x with
  | ⟨0, _⟩, (t, s) => rfl
theorem table : Cert.Kernel5.defs (F := Bits) = defs (F := Bits) := by
  unfold Cert.Kernel5.defs defs
  rw [bodies]
  rfl

/-- So one run gives both frames. -/
theorem frame_ideal : Cert.quiescent_Kernel5Ideal := fun m g _ => Gen.frame (F := Ideal) m g
theorem frame_kernel : Cert.quiescent_Kernel5 := fun m g _ => by
  rw [table]
  exact Gen.frame (F := Bits) m g

/-- The reference leaves its arguments as they were. -/
theorem frame_ref : Cert.quiescent_Reference5Ideal := fun m g _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m g)

end Cert.Fifth

end
-- ==== Proof.Sixth.lean ====
/- The gated unit's upward half: the launch leaves the gate, the up product and their gated product, and so does its reference. -/
module

public import proofs.«01_k».proof.Defs
public import proofs.«01_k».proof.Proof.Prod
public import proofs.«01_k».proof.Proof.Sig
public import proofs.«01_k».proof.Proof.Gen.Kernel6
public import proofs.«01_k».proof.Proof.Gen.Kernel6Ideal.Value
public import proofs.«01_k».proof.Proof.Gen.Reference6Ideal.Read
public import Idealize.ShloMosaic.Lib.Claim
public import Idealize.ShloMosaic.Lib.Pipeline.Value
public import Idealize.ShloMosaic.Lib.Pipeline.ValueKit.Geometry

@[expose] public section

set_option maxRecDepth 16384

noncomputable section

namespace Cert.Sixth

open Idealize.ShloMosaic Idealize.ShloMosaic.TcCoe Idealize.ShloMosaic.Tactic
open Idealize.SL.Sem
open Cert.Kernel6Ideal Cert.Kernel6Ideal.Gen Cert.Prod Cert.Sig

/-- A gated product: the gate, its logistic factor, and the other factor. -/
def gated (a b : EReal) : EReal := a * sg a * b

/-! ## The reference's stages -/

theorem ref_gate (x : FVec Ideal S4352x1024 .bf16) (w : FVec Ideal S3072x1024 .bf16) :
    (Cert.Reference6Ideal.Read.val_main_v3 (F := Ideal) x w : Mat 4352 3072) = nt x w := by
  funext i
  rw [Cert.Reference6Ideal.Read.val_main_v3_apply]
  refine Finset.sum_congr rfl fun k _ => ?_
  rw [Cert.Reference6Ideal.Read.val_main_v2_apply]
  exact congrArg₂ (fun a b : EReal => a * b) (congrArg x (same _ _ rfl rfl)) (congrArg w (same _ _ rfl rfl))

/-- The up product is the same function of its own weights. -/
theorem ref_up (x : FVec Ideal S4352x1024 .bf16) (w : FVec Ideal S3072x1024 .bf16) :
    (Cert.Reference6Ideal.Read.val_main_v7 (F := Ideal) x w : Mat 4352 3072) = nt x w := ref_gate x w

theorem ref_act (x : FVec Ideal S4352x1024 .bf16) (w u : FVec Ideal S3072x1024 .bf16) :
    (Cert.Reference6Ideal.Read.val_main_v12 (F := Ideal) x w u : Mat 4352 3072) = fun i => gated (nt x w i) (nt x u i) := by
  rw [← ref_gate x w, ← ref_up x u]
  rfl

/-! ## The launch -/

theorem out_gate (x : Vec Ideal S256x1024 .bf16) (w u : Vec Ideal S3072x1024 .bf16) :
    (out0_3 x w u : Mat 256 3072) = nt (x : Mat 256 1024) (w : Mat 3072 1024) := by
  unfold out0_3 r0_0 r0_1 r0_2
  rw [View.canon_unit_zero origin, View.ld_unit_zero origin, View.ld_unit_zero origin]
  exact matmul_nt (φ₁ := .bf16) (φ₂ := .bf16) x w

theorem out_up (x : Vec Ideal S256x1024 .bf16) (w u : Vec Ideal S3072x1024 .bf16) :
    (out0_4 x w u : Mat 256 3072) = nt (x : Mat 256 1024) (u : Mat 3072 1024) := out_gate x u w

theorem out_act (x : Vec Ideal S256x1024 .bf16) (w u : Vec Ideal S3072x1024 .bf16) :
    (out0_5 x w u : Mat 256 3072) = fun i => gated (nt (x : Mat 256 1024) (w : Mat 3072 1024) i) (nt (x : Mat 256 1024) (u : Mat 3072 1024) i) := by
  unfold out0_5 r0_0 r0_1 r0_2
  rw [View.canon_unit_zero origin, View.ld_unit_zero origin, View.ld_unit_zero origin, View.ld_unit_zero origin]
  funext i
  show (k0_pay1 x w i : EReal) * sg' (k0_pay1 x w i) * k0_pay2 x u i = _
  rw [sg'_eq]
  exact congrArg₂ gated (congrFun (matmul_nt (φ₁ := .bf16) (φ₂ := .bf16) x w) i) (congrFun (matmul_nt (φ₁ := .bf16) (φ₂ := .bf16) x u) i)

variable (m : (ℓ : Loc nD τ sig) → Buf (Elt Ideal) ℓ) (ρ : Dev nD → PrngReg) (c : Dev nD)

/-- The rows at hand, of the input and of the results; the weights whole. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx3 : ∀ t : Fin cfg0.N, win0_3.index t = ![t.val, 0] := (by decide +kernel : ∀ t : Fin grid0.N, win0_3.index t = ![t.val, 0])

theorem rows0 (t : Fin cfg0.N) (j : S256x1024.Idx) :
    (((cfg0.win 0).blk t).view.emb j 0).val = t.val * 256 + (j 0).val ∧ (((cfg0.win 0).blk t).view.emb j 1).val = (j 1).val := by
  constructor <;> blk_simp [idx0]
theorem whole1 (t : Fin cfg0.N) (j : S3072x1024.Idx) : ((cfg0.win 1).blk t).view.emb j = j := by
  refine same (M := 3072) (N := 1024) _ _ ?_ ?_ <;> blk_simp [idx1]
theorem whole2 (t : Fin cfg0.N) (j : S3072x1024.Idx) : ((cfg0.win 2).blk t).view.emb j = j := whole1 t j
theorem rows3 (t : Fin cfg0.N) (j : S256x3072.Idx) :
    (((cfg0.win 3).blk t).view.emb j 0).val = t.val * 256 + (j 0).val ∧ (((cfg0.win 3).blk t).view.emb j 1).val = (j 1).val := by
  constructor <;> blk_simp [idx3]

/-- A block of the input against all the weights is a block of the whole product. -/
theorem prod1 (t : Fin cfg0.N) (j : S256x3072.Idx) :
    nt (iblk m c 0 t : Mat 256 1024) (iblk m c 1 t : Mat 3072 1024) j
      = nt (m ((c.tc : Thread nD τ).loc main_arg0) : Mat 4352 1024) (m ((c.tc : Thread nD τ).loc main_arg1) : Mat 3072 1024) (((cfg0.win 3).blk t).view.emb j) := by
  refine nt_at _ _ _ _ _ _ (fun k => ?_) fun k => ?_
  · show V m c main_arg0 (((cfg0.win 0).blk t).view.emb _) = _
    rw [V_main_arg0]
    exact congrArg _ (same _ _ ((rows0 t _).1.trans (rows3 t j).1.symm) (rows0 t _).2)
  · show V m c main_arg1 (((cfg0.win 1).blk t).view.emb _) = _
    rw [V_main_arg1, whole1]
    exact congrArg _ (same _ _ (rows3 t j).2.symm rfl)
theorem prod2 (t : Fin cfg0.N) (j : S256x3072.Idx) :
    nt (iblk m c 0 t : Mat 256 1024) (iblk m c 2 t : Mat 3072 1024) j
      = nt (m ((c.tc : Thread nD τ).loc main_arg0) : Mat 4352 1024) (m ((c.tc : Thread nD τ).loc main_arg2) : Mat 3072 1024) (((cfg0.win 3).blk t).view.emb j) := by
  refine nt_at _ _ _ _ _ _ (fun k => ?_) fun k => ?_
  · show V m c main_arg0 (((cfg0.win 0).blk t).view.emb _) = _
    rw [V_main_arg0]
    exact congrArg _ (same _ _ ((rows0 t _).1.trans (rows3 t j).1.symm) (rows0 t _).2)
  · show V m c main_arg2 (((cfg0.win 2).blk t).view.emb _) = _
    rw [V_main_arg2, whole2]
    exact congrArg _ (same _ _ (rows3 t j).2.symm rfl)

/-- The three result arrays. -/
theorem arr3 : (dats m 0 c).arrAt 3 cfg0.N
    = nt (m ((c.tc : Thread nD τ).loc main_arg0) : Mat 4352 1024) (m ((c.tc : Thread nD τ).loc main_arg1) : Mat 3072 1024) := by
  refine (dats m 0 c).arrAt_eq_of_covers 3 _ (by decide +kernel) fun t hf y => ?_
  blk_simp
  rw [after0_3, out_gate]
  exact prod1 m c t y
theorem arr4 : (dats m 0 c).arrAt 4 cfg0.N
    = nt (m ((c.tc : Thread nD τ).loc main_arg0) : Mat 4352 1024) (m ((c.tc : Thread nD τ).loc main_arg2) : Mat 3072 1024) := by
  refine (dats m 0 c).arrAt_eq_of_covers 4 _ (by decide +kernel) fun t hf y => ?_
  blk_simp
  rw [after0_4, out_up]
  exact prod2 m c t y
theorem arr5 : (dats m 0 c).arrAt 5 cfg0.N
    = fun i => gated (nt (m ((c.tc : Thread nD τ).loc main_arg0) : Mat 4352 1024) (m ((c.tc : Thread nD τ).loc main_arg1) : Mat 3072 1024) i)
        (nt (m ((c.tc : Thread nD τ).loc main_arg0) : Mat 4352 1024) (m ((c.tc : Thread nD τ).loc main_arg2) : Mat 3072 1024) i) := by
  refine (dats m 0 c).arrAt_eq_of_covers 5 _ (by decide +kernel) fun t hf y => ?_
  blk_simp
  rw [after0_5, out_act]
  exact congrArg₂ gated (prod1 m c t y) (prod2 m c t y)

theorem algebraic : Cert.algebraic_Kernel6Ideal_Reference6Ideal := by
  intro m g m' g' _ hargs
  refine ⟨fun c => nt (m ((c.tc : Thread nD τ).loc main_arg0) : Mat 4352 1024) (m ((c.tc : Thread nD τ).loc main_arg1) : Mat 3072 1024),
    fun c => nt (m ((c.tc : Thread nD τ).loc main_arg0) : Mat 4352 1024) (m ((c.tc : Thread nD τ).loc main_arg2) : Mat 3072 1024),
    fun c i => gated (nt (m ((c.tc : Thread nD τ).loc main_arg0) : Mat 4352 1024) (m ((c.tc : Thread nD τ).loc main_arg1) : Mat 3072 1024) i)
        (nt (m ((c.tc : Thread nD τ).loc main_arg0) : Mat 4352 1024) (m ((c.tc : Thread nD τ).loc main_arg2) : Mat 3072 1024) i), ?_, ?_⟩
  · exact (θ_run defs _ _).mono (fun r h c => ⟨(h c).1.trans (arr3 m c), (h c).2.1.trans (arr4 m c), (h c).2.2.1.trans (arr5 m c), (h c).2.2.2⟩)
      (Value.run_blocks m g)
  · refine (θ_run Cert.Reference6Ideal.defs _ _).mono (fun r h c => ⟨?_, ?_, ?_, (h c).2.2.2⟩) (Cert.Reference6Ideal.Value.run (F := Ideal) m' g')
    · rw [(h c).1, (hargs c).1, (hargs c).2.1]
      exact ref_gate _ _
    · rw [(h c).2.1, (hargs c).1, (hargs c).2.2]
      exact ref_up _ _
    · rw [(h c).2.2.1, (hargs c).1, (hargs c).2.1, (hargs c).2.2]
      exact ref_act _ _ _

/-! ## The frames -/

/-- The two printings of the launch have one body. -/
theorem bodies : Cert.Kernel6.defs₀ (F := Bits) = defs₀ (F := Bits) := by
  unfold Cert.Kernel6.defs₀ defs₀
  congr 1
  funext l x
  match l, x with
  | ⟨0, _⟩, (t, s) => rfl
theorem table : Cert.Kernel6.defs (F := Bits) = defs (F := Bits) := by
  unfold Cert.Kernel6.defs defs
  rw [bodies]
  rfl

/-- So one run gives both frames. -/
theorem frame_ideal : Cert.quiescent_Kernel6Ideal := fun m g _ => Gen.frame (F := Ideal) m g
theorem frame_kernel : Cert.quiescent_Kernel6 := fun m g _ => by
  rw [table]
  exact Gen.frame (F := Bits) m g

/-- The reference leaves its arguments as they were. -/
theorem frame_ref : Cert.quiescent_Reference6Ideal := fun m g _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m g)

end Cert.Sixth

end
-- ==== Proof.Seventh.lean ====
/- The gated unit's downward half into the residual stream: the launch leaves the product and the stream with the product added under its gate, and so does its reference. -/
module

public import proofs.«01_k».proof.Defs
public import proofs.«01_k».proof.Proof.Prod
public import proofs.«01_k».proof.Proof.Gen.Kernel7
public import proofs.«01_k».proof.Proof.Gen.Kernel7Ideal.Value
public import proofs.«01_k».proof.Proof.Gen.Reference7Ideal.Read
public import Idealize.ShloMosaic.Lib.Claim
public import Idealize.ShloMosaic.Lib.Pipeline.Value
public import Idealize.ShloMosaic.Lib.Pipeline.ValueKit.Geometry

@[expose] public section

set_option maxRecDepth 16384

noncomputable section

namespace Cert.Seventh

open Idealize.ShloMosaic Idealize.ShloMosaic.TcCoe Idealize.ShloMosaic.Tactic
open Idealize.SL.Sem
open Cert.Kernel7Ideal Cert.Kernel7Ideal.Gen Cert.Prod

/-- The place of a group's last modulation row. -/
def place (g : Fin 2) (q : Fin 1024) : S2x6x1024.Idx := fun a => match a with
  | ⟨0, _⟩ => ⟨g.val, g.isLt⟩
  | ⟨1, _⟩ => ⟨5, (by decide : (5 : ℕ) < 6)⟩
  | ⟨2, _⟩ => ⟨q.val, q.isLt⟩

/-- The residual gate of a row: the first group's for the sequence, the second's for the context after it. -/
def gate (z : S2x6x1024.Idx → EReal) (R : ℕ) (q : Fin 1024) : EReal := if R < 4096 then z (place 0 q) else z (place 1 q)

/-- The stream with the gated product added. -/
def stream (x : Mat 4352 3072) (w : Mat 3072 1024) (r : Mat 4352 1024) (z : S2x6x1024.Idx → EReal) : Mat 4352 1024 :=
  fun i => r i + gate z (i 0).val (i 1) * nn x w i

/-! ## The reference's stages -/

theorem ref_y (x : FVec Ideal S4352x3072 .bf16) (w : FVec Ideal S3072x1024 .bf16) :
    (Cert.Reference7Ideal.Read.val_main_v14 (F := Ideal) x w : Mat 4352 1024) = nn x w := by
  funext i
  rw [Cert.Reference7Ideal.Read.val_main_v14_apply]
  refine (Cert.Reference7Ideal.Read.val_main_v2_apply x w i).trans (Finset.sum_congr rfl fun k _ => ?_)
  exact congrArg₂ (fun a b : EReal => a * b) (congrArg x (same _ _ rfl rfl)) (congrArg w (same _ _ rfl rfl))

theorem early : ∀ R : Fin 4352, IntOp.cmpi .slt (BitVec.ofNat 32 R.val) 4096#32 = if R.val < 4096 then 1#1 else 0#1 := by
  decide +kernel

theorem ref_gate (z : FVec Ideal S2x6x1024 .f32) (i : S4352x1024.Idx) :
    (Cert.Reference7Ideal.Read.val_main_v11 (F := Ideal) z i : EReal) = gate z (i 0).val (i 1) := by
  have hi : (i 1).val < 1024 := (i 1).isLt
  rw [Cert.Reference7Ideal.Read.val_main_v11_apply, Cert.Reference7Ideal.Read.val_main_call0_v0_apply, Cert.Reference7Ideal.Read.val_main_call0_v1_apply,
    Cert.Reference7Ideal.Read.val_main_call0_v2_apply, Cert.Reference7Ideal.Read.val_main_v6_apply, Cert.Reference7Ideal.Read.val_main_v8_apply,
    Cert.Reference7Ideal.Read.val_main_v10_apply, Cert.Reference7Ideal.Read.val_main_v7_apply, Cert.Reference7Ideal.Read.val_main_v9_apply,
    Cert.Reference7Ideal.Read.val_main_v4_apply, Cert.Reference7Ideal.Read.val_main_v5_apply]
  show Scalar.select (IntOp.cmpi .slt (BitVec.ofNat 32 (i 0).val) 4096#32) _ _ = _
  rw [early (i 0)]
  have e0 : Cert.Reference7Ideal.Read.idx_main_v7 (Cert.Reference7Ideal.Read.idx_main_v8 (Cert.Reference7Ideal.Read.idx_main_call0_v1 i)) = place 0 (i 1) := by
    funext a
    match a with
    | ⟨0, _⟩ => rfl
    | ⟨1, _⟩ => rfl
    | ⟨2, _⟩ => exact Fin.ext (Nat.mod_eq_of_lt hi)
  have e1 : Cert.Reference7Ideal.Read.idx_main_v9 (Cert.Reference7Ideal.Read.idx_main_v10 (Cert.Reference7Ideal.Read.idx_main_call0_v2 i)) = place 1 (i 1) := by
    funext a
    match a with
    | ⟨0, _⟩ => rfl
    | ⟨1, _⟩ => rfl
    | ⟨2, _⟩ => exact Fin.ext (Nat.mod_eq_of_lt hi)
  rw [e0, e1]
  unfold gate
  split <;> rfl

theorem ref_stream (x : FVec Ideal S4352x3072 .bf16) (w : FVec Ideal S3072x1024 .bf16) (r : FVec Ideal S4352x1024 .f32) (z : FVec Ideal S2x6x1024 .f32) :
    (Cert.Reference7Ideal.Read.val_main_v13 (F := Ideal) x w r z : Mat 4352 1024) = stream x w r z := by
  funext i
  rw [Cert.Reference7Ideal.Read.val_main_v13_apply, Cert.Reference7Ideal.Read.val_main_v12_apply]
  exact congrArg (fun a : EReal => (r i : EReal) + a) (congrArg₂ (fun a b : EReal => a * b) (ref_gate z i) (congrFun (ref_y x w) i))

/-! ## The launch -/

theorem late : ∀ (t : Fin 8) (r : Fin 544), IntOp.cmpi .sge (IntOp.addi (Scalar.muli (BitVec.ofNat 32 t.val) 544#32) (BitVec.ofNat 32 r.val)) 4096#32
    = if t.val * 544 + r.val < 4096 then 0#1 else 1#1 := by
  decide +kernel

/-- The last row of a group's slab, spread over the rows. -/
theorem spread (v : FVec Ideal S1x6x1024 .f32) (y : S544x1024.Idx) :
    broadcastTo S544x1024 (shapeCast S1x1024 (extractStridedSlice S1x1024 ![5, 0] (shapeCast S6x1024 v shapeCasts_S1x6x1024_S6x1024)
      slices_S6x1024_o5_0_S1x1024) shapeCasts_S1x1024_S1x1024) broadcasts_S1x1024_S544x1024 y = v (ValueIdx.ix3 0 5 (y 1)) := by
  rw [shapeCast_self]
  refine (broadcastTo_apply _ _ y (ValueIdx.ix2 (0 : Fin 1) (y 1)) fun a => match a with | ⟨0, _⟩ => rfl | ⟨1, _⟩ => rfl).trans ?_
  refine (extractStridedSlice_apply _ _ _ _ (ValueIdx.ix2 5 (y 1)) fun a => match a with | ⟨0, _⟩ => rfl | ⟨1, _⟩ => (Nat.zero_add _).symm).trans ?_
  refine shapeCast_apply v shapeCasts_S1x6x1024_S6x1024 _ (ValueIdx.ix3 0 5 (y 1)) ?_
  exact (Shape.rowMajor_val_three _).trans (Shape.rowMajor_val_two (ValueIdx.ix2 (5 : Fin 6) (y 1 : Fin 1024))).symm

theorem out_y (i : grid0.Coords) (x : Vec Ideal S544x3072 .bf16) (w : Vec Ideal S3072x1024 .bf16) (r : Vec Ideal S544x1024 .f32) (z : Vec Ideal S2x6x1024 .f32) :
    (out0_5 i x w r z : Mat 544 1024) = nn (x : Mat 544 3072) (w : Mat 3072 1024) := by
  unfold out0_5 r0_0 r0_1 r0_2
  rw [View.canon_unit_zero origin, View.ld_unit_zero origin, View.ld_unit_zero origin]
  exact matmul_nn (φ₁ := .bf16) (φ₂ := .bf16) x w

theorem slab (z : Vec Ideal S2x6x1024 .f32) (q : Fin 1024) :
    View.ld z r0_4 (ValueIdx.ix3 0 5 q) = z (place 0 q) ∧ View.ld z r0_3 (ValueIdx.ix3 0 5 q) = z (place 1 q) := by
  constructor
  · exact (congrFun (View.ld_unit z _ _ _) _).trans (extractStridedSlice_apply _ z _ _ _ fun a => match a with
      | ⟨0, _⟩ => rfl
      | ⟨1, _⟩ => rfl
      | ⟨2, _⟩ => (Nat.zero_add _).symm)
  · exact (congrFun (View.ld_unit z _ _ _) _).trans (extractStridedSlice_apply _ z _ _ _ fun a => match a with
      | ⟨0, _⟩ => rfl
      | ⟨1, _⟩ => rfl
      | ⟨2, _⟩ => (Nat.zero_add _).symm)

theorem out_stream (i : grid0.Coords) (x : Vec Ideal S544x3072 .bf16) (w : Vec Ideal S3072x1024 .bf16) (r : Vec Ideal S544x1024 .f32) (z : Vec Ideal S2x6x1024 .f32)
    (y : S544x1024.Idx) :
    out0_4 i x w r z y = ((r y : EReal) + gate z ((i 0).val * 544 + (y 0).val) (y 1) * nn (x : Mat 544 3072) (w : Mat 3072 1024) y : EReal) := by
  unfold out0_4 r0_0 r0_1 r0_2
  rw [View.canon_unit_zero origin, View.ld_unit_zero origin, View.ld_unit_zero origin, View.ld_unit_zero origin]
  unfold k0_pay3
  refine congrArg (fun a : EReal => (r y : EReal) + a) (congrArg₂ (fun a b : EReal => a * b) ?_ (congrFun (matmul_nn (φ₁ := .bf16) (φ₂ := .bf16) x w) y))
  rw [ValueIdx.select_apply, spread, spread, (slab z (y 1)).1, (slab z (y 1)).2, shapeCast_self]
  refine (congrArg (fun b => Scalar.select b (z (place 1 (y 1))) (z (place 0 (y 1))))
    ((broadcastTo_apply _ _ y (ValueIdx.ix2 (y 0) (0 : Fin 1)) fun a => match a with | ⟨0, _⟩ => rfl | ⟨1, _⟩ => rfl).trans ?_)).trans (?_ :
      Scalar.select (if (i 0).val * 544 + (y 0).val < 4096 then 0#1 else 1#1) _ _ = _)
  · refine Eq.trans ?_ (late (i 0) (y 0))
    show IntOp.cmpi .sge (IntOp.addi (Scalar.muli (BitVec.ofNat 32 (i 0).val) 544#32) (iota .tc S544x1 32 [0] iota_S544x1_d0_w32 (ValueIdx.ix2 (y 0) 0))) 4096#32 = _
    rw [iota_single_apply]
  · unfold gate
    split <;> rfl

variable (m : (ℓ : Loc nD τ sig) → Buf (Elt Ideal) ℓ) (ρ : Dev nD → PrngReg) (c : Dev nD)

/-- The rows at hand, of the activation and of the stream; the weights and the modulations whole. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![t.val, 0] := (by decide +kernel : ∀ t : Fin grid0.N, win0_4.index t = ![t.val, 0])
theorem coord : ∀ t : Fin cfg0.N, (grid0.coords t 0).val = t.val := (by decide +kernel : ∀ t : Fin grid0.N, (grid0.coords t 0).val = t.val)

theorem rows0 (t : Fin cfg0.N) (j : S544x3072.Idx) :
    (((cfg0.win 0).blk t).view.emb j 0).val = t.val * 544 + (j 0).val ∧ (((cfg0.win 0).blk t).view.emb j 1).val = (j 1).val := by
  constructor <;> blk_simp [idx0]
theorem whole1 (t : Fin cfg0.N) (j : S3072x1024.Idx) : ((cfg0.win 1).blk t).view.emb j = j := by
  refine same (M := 3072) (N := 1024) _ _ ?_ ?_ <;> blk_simp [idx1]
theorem rows4 (t : Fin cfg0.N) (j : S544x1024.Idx) :
    (((cfg0.win 4).blk t).view.emb j 0).val = t.val * 544 + (j 0).val ∧ (((cfg0.win 4).blk t).view.emb j 1).val = (j 1).val := by
  constructor <;> blk_simp [idx4]
theorem whole3 (t : Fin cfg0.N) (j : S2x6x1024.Idx) : ((cfg0.win 3).blk t).view.emb j = j := by
  funext a
  refine Fin.ext ?_
  match a with
  | ⟨0, _⟩ => blk_simp [idx3]
  | ⟨1, _⟩ => blk_simp [idx3]
  | ⟨2, _⟩ => blk_simp [idx3]

/-- A block of the activation against all the weights is a block of the whole product. -/
theorem prod1 (t : Fin cfg0.N) (j : S544x1024.Idx) :
    nn (iblk m c 0 t : Mat 544 3072) (iblk m c 1 t : Mat 3072 1024) j
      = nn (m ((c.tc : Thread nD τ).loc main_arg0) : Mat 4352 3072) (m ((c.tc : Thread nD τ).loc main_arg1) : Mat 3072 1024) (((cfg0.win 4).blk t).view.emb j) := by
  refine nn_at _ _ _ _ _ _ (fun k => ?_) fun k => ?_
  · show V m c main_arg0 (((cfg0.win 0).blk t).view.emb _) = _
    rw [V_main_arg0]
    exact congrArg _ (same _ _ ((rows0 t _).1.trans (rows4 t j).1.symm) (rows0 t _).2)
  · show V m c main_arg1 (((cfg0.win 1).blk t).view.emb _) = _
    rw [V_main_arg1, whole1]
    exact congrArg _ (same _ _ rfl (rows4 t j).2.symm)

/-- The stream's block lies where the results' do, and the modulations are the whole argument. -/
theorem stream_at (t : Fin cfg0.N) (j : S544x1024.Idx) : (iblk m c 2 t : Mat 544 1024) j = m ((c.tc : Thread nD τ).loc main_arg2) (((cfg0.win 4).blk t).view.emb j) := by
  show V m c main_arg2 (((cfg0.win 2).blk t).view.emb j) = _
  rw [V_main_arg2]
  rfl
theorem mods_at (t : Fin cfg0.N) : (iblk m c 3 t : S2x6x1024.Idx → EReal) = m ((c.tc : Thread nD τ).loc main_arg3) := by
  funext j
  show V m c main_arg3 (((cfg0.win 3).blk t).view.emb j) = _
  rw [V_main_arg3, whole3]

/-- The two result arrays. -/
theorem arr4 : (dats m 0 c).arrAt 4 cfg0.N
    = stream (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 4 _ (by decide +kernel) fun t hf y => ?_
  blk_simp
  rw [after0_4, out_stream]
  have hq : y 1 = ((cfg0.win 4).blk t).view.emb y 1 := Fin.ext (rows4 t y).2.symm
  have hr : (grid0.coords t 0).val * 544 + (y 0).val = (((cfg0.win 4).blk t).view.emb y 0).val := by rw [coord, (rows4 t y).1]
  refine congrArg₂ (fun a b : EReal => a + b) (stream_at m c t y) (congrArg₂ (fun a b : EReal => a * b) ?_ (prod1 m c t y))
  exact (congrFun (congrFun (congrArg gate (mods_at m c t)) _) _).trans (congrArg₂ (gate _) hr hq)
theorem arr5 : (dats m 0 c).arrAt 5 cfg0.N
    = nn (m ((c.tc : Thread nD τ).loc main_arg0) : Mat 4352 3072) (m ((c.tc : Thread nD τ).loc main_arg1) : Mat 3072 1024) := by
  refine (dats m 0 c).arrAt_eq_of_covers 5 _ (by decide +kernel) fun t hf y => ?_
  blk_simp
  rw [after0_5, out_y]
  exact prod1 m c t y

theorem algebraic : Cert.algebraic_Kernel7Ideal_Reference7Ideal := by
  intro m g m' g' _ hargs
  refine ⟨fun c => stream (m ((c.tc : Thread nD τ).loc main_arg0)) (m ((c.tc : Thread nD τ).loc main_arg1)) (m ((c.tc : Thread nD τ).loc main_arg2))
        (m ((c.tc : Thread nD τ).loc main_arg3)),
    fun c => nn (m ((c.tc : Thread nD τ).loc main_arg0) : Mat 4352 3072) (m ((c.tc : Thread nD τ).loc main_arg1) : Mat 3072 1024), ?_, ?_⟩
  · exact (θ_run defs _ _).mono (fun r h c => ⟨(h c).1.trans (arr4 m c), (h c).2.1.trans (arr5 m c), (h c).2.2⟩) (Value.run_blocks m g)
  · refine (θ_run Cert.Reference7Ideal.defs _ _).mono (fun r h c => ⟨?_, ?_, (h c).2.2⟩) (Cert.Reference7Ideal.Value.run (F := Ideal) m' g')
    · rw [(h c).1, (hargs c).1, (hargs c).2.1, (hargs c).2.2.1, (hargs c).2.2.2]
      exact ref_stream _ _ _ _
    · rw [(h c).2.1, (hargs c).1, (hargs c).2.1]
      exact ref_y _ _

/-! ## The frames -/

/-- The two printings of the launch have one body. -/
theorem bodies : Cert.Kernel7.defs₀ (F := Bits) = defs₀ (F := Bits) := by
  unfold Cert.Kernel7.defs₀ defs₀
  congr 1
  funext l x
  match l, x with
  | ⟨0, _⟩, (t, s) => rfl
theorem table : Cert.Kernel7.defs (F := Bits) = defs (F := Bits) := by
  unfold Cert.Kernel7.defs defs
  rw [bodies]
  rfl

/-- So one run gives both frames. -/
theorem frame_ideal : Cert.quiescent_Kernel7Ideal := fun m g _ => Gen.frame (F := Ideal) m g
theorem frame_kernel : Cert.quiescent_Kernel7 := fun m g _ => by
  rw [table]
  exact Gen.frame (F := Bits) m g

/-- The reference leaves its arguments as they were. -/
theorem frame_ref : Cert.quiescent_Reference7Ideal := fun m g _ =>
  (θ_run Cert.Reference7Ideal.defs _ _).mono
    (fun r h => ⟨fun c => (h c).2.2, Idealize.ShloMosaic.sem_eq_zero_of_no_sems (by decide) r.2⟩)
    (Cert.Reference7Ideal.Value.run (F := Ideal) m g)

end Cert.Seventh

end
-- ==== Proof.lean ====
/- The certificate's proof: the frames of the kernel, of its ideal reading and of the reference, and the equality of
   the kernel's results with the reference's. -/
module

public import proofs.«01_k».proof.Defs
public import proofs.«01_k».proof.Proof.Same
public import proofs.«01_k».proof.Proof.KernelIdealFrame
public import proofs.«01_k».proof.Proof.Gen.ReferenceIdeal.Run
public import proofs.«01_k».proof.Proof.Algebraic
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite5
public import proofs.«01_k».proof.Proof.Second
public import proofs.«01_k».proof.Proof.Third
public import proofs.«01_k».proof.Proof.Fourth
public import proofs.«01_k».proof.Proof.Fifth
public import proofs.«01_k».proof.Proof.Sixth
public import proofs.«01_k».proof.Proof.Seventh
public import Idealize.ShloMosaic.Adequacy
public import Idealize.ShloMosaic.Init

@[expose] public section

noncomputable section

namespace Cert.Proof

open Idealize.ShloMosaic Idealize.SL.Sem Cert.Kernel

/-- The reference's frame: its run, read at the three arguments; it declares no semaphore. -/
theorem frame_reference : Cert.quiescent_ReferenceIdeal := by
  intro m ρ _
  exact (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- All the claims: the retention's gradient, and the six calls of the gated layers. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Finite.facts, Cert.Pre_finite5.Gen.facts,
    Cert.Same.frame_kernel, fun m ρ _ => Cert.KernelIdeal.Bare.frame m ρ, fun m ρ _ => Cert.KernelIdeal.Bare.frame m ρ,
    frame_reference, fun m ρ _ => frame_reference m ρ trivial,
    Cert.Second.frame_kernel, Cert.Second.frame_ideal, Cert.Second.frame_ref,
    Cert.Third.frame_kernel, Cert.Third.frame_ideal, Cert.Third.frame_ref,
    Cert.Fourth.frame_kernel, Cert.Fourth.frame_ideal, Cert.Fourth.frame_ref,
    Cert.Fifth.frame_kernel, Cert.Fifth.frame_ideal, fun m ρ _ => Cert.Fifth.frame_ideal m ρ trivial,
    Cert.Fifth.frame_ref, fun m ρ _ => Cert.Fifth.frame_ref m ρ trivial,
    Cert.Sixth.frame_kernel, Cert.Sixth.frame_ideal, Cert.Sixth.frame_ref,
    Cert.Seventh.frame_kernel, Cert.Seventh.frame_ideal, Cert.Seventh.frame_ref,
    trivial, Cert.Algebraic.algebraic,
    trivial, Cert.Second.algebraic, trivial, Cert.Third.algebraic, trivial, Cert.Fourth.algebraic,
    trivial, Cert.Fifth.algebraic, trivial, Cert.Sixth.algebraic, trivial, Cert.Seventh.algebraic⟩

end Cert.Proof

end
